-- ==== Defs.lean ====
def Pre_Kernel [hPre_dest_in_rows : Cert.Pre_dest_in_rows.Facts] (m : (ℓ : Loc Cert.Kernel.nD Cert.Kernel.τ Cert.Kernel.sig) → Buf (Elt Bits) ℓ) : Prop :=
  ∀ c : Dev Cert.Kernel.nD,
    (Cert.Pre_dest_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_dest_in_rows : Cert.Pre_dest_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_dest_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_dest_in_rows : Cert.Pre_dest_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_dest_in_rows : Cert.Pre_dest_in_rows.Facts] (m : (ℓ : Loc Cert.Reference.nD Cert.Reference.τ Cert.Reference.sig) → Buf (Elt Bits) ℓ) : Prop :=
  ∀ c : Dev Cert.Reference.nD,
    (Cert.Pre_dest_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Experts [hPre_blocks_in_range : Cert.Pre_blocks_in_range.Facts] (m : (ℓ : Loc Cert.Experts.nD Cert.Experts.τ Cert.Experts.sig) → Buf (Elt Bits) ℓ) : Prop :=
  ∀ c : Dev Cert.Experts.nD,
    (Cert.Pre_blocks_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_blocks_in_range : Cert.Pre_blocks_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_blocks_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal [hPre_blocks_in_range : Cert.Pre_blocks_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_blocks_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationIdeal_finite [hPre_finite : Cert.Pre_finite.Facts] (m : (ℓ : Loc Cert.ModulationIdeal.nD Cert.ModulationIdeal.τ Cert.ModulationIdeal.sig) → Buf (Elt Ideal) ℓ) : Prop :=
  ∀ c : Dev Cert.ModulationIdeal.nD,
    (Cert.Pre_finite.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2))) = (fun _ => 1#1)

def Pre_ModulationReferenceIdeal (m : (ℓ : Loc Cert.ModulationReferenceIdeal.nD Cert.ModulationReferenceIdeal.τ Cert.ModulationReferenceIdeal.sig) → Buf (Elt Ideal) ℓ) : Prop :=
  True

def Pre_ModulationReferenceIdeal_finite [hPre_finite : Cert.Pre_finite.Facts] (m : (ℓ : Loc Cert.ModulationReferenceIdeal.nD Cert.ModulationReferenceIdeal.τ Cert.ModulationReferenceIdeal.sig) → Buf (Elt Ideal) ℓ) : Prop :=
  ∀ c : Dev Cert.ModulationReferenceIdeal.nD,
    (Cert.Pre_finite.fn (F := Ideal) (m ((c.tc : Thread Cert.ModulationReferenceIdeal.nD Cert.ModulationReferenceIdeal.τ).loc Cert.ModulationReferenceIdeal.main_arg0)) (m ((c.tc : Thread Cert.ModulationReferenceIdeal.nD Cert.ModulationReferenceIdeal.τ).loc Cert.ModulationReferenceIdeal.main_arg1)) (m ((c.tc : Thread Cert.ModulationReferenceIdeal.nD Cert.ModulationReferenceIdeal.τ).loc Cert.ModulationReferenceIdeal.main_arg2))) = (fun _ => 1#1)

def quiescent_Kernel [hKernel : Cert.Kernel.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_dest_in_rows : Cert.Pre_dest_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_dest_in_rows : Cert.Pre_dest_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Experts [hExperts : Cert.Experts.Facts] [hPre_blocks_in_range : Cert.Pre_blocks_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_blocks_in_range : Cert.Pre_blocks_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] [hPre_blocks_in_range : Cert.Pre_blocks_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationIdeal_pre_finite [hModulationIdeal : Cert.ModulationIdeal.Facts] [hPre_finite : Cert.Pre_finite.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal_finite m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_ModulationReferenceIdeal_pre_finite [hModulationReferenceIdeal : Cert.ModulationReferenceIdeal.Facts] [hPre_finite : Cert.Pre_finite.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal_finite m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v12)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v12) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v15) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Experts_ExpertsIdeal : Prop :=
  True

def algebraic_ExpertsIdeal_ExpertsReferenceIdeal_on_rows_of_blocks [hExpertsIdeal : Cert.ExpertsIdeal.Facts] [hExpertsReferenceIdeal : Cert.ExpertsReferenceIdeal.Facts] [hPre_blocks_in_range : Cert.Pre_blocks_in_range.Facts] [hOn_rows_of_blocks : Cert.On_rows_of_blocks.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v11)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨4, ![4, 2, 73728, 128]⟩ : Shape).Idx, (Cert.On_rows_of_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsIdeal.nD Cert.ExpertsIdeal.τ).loc Cert.ExpertsIdeal.main_v11) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨4, ![4, 2, 73728, 128]⟩ : Shape).Idx, (Cert.On_rows_of_blocks.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsReferenceIdeal.nD Cert.ExpertsReferenceIdeal.τ).loc Cert.ExpertsReferenceIdeal.main_v58) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v24) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)
      ∧ m' ((c.tc : Thread Cert.MixOutReferenceIdeal.nD Cert.MixOutReferenceIdeal.τ).loc Cert.MixOutReferenceIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v12) = v0 c
          ∧ r.2.mem ((c.tc : Thread Cert.MixOutReferenceIdeal.nD Cert.MixOutReferenceIdeal.τ).loc Cert.MixOutReferenceIdeal.main_v32) = v1 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v21)) (v1 : (c : Dev Cert.RopeIdeal.nD) → Buf (Elt Ideal) ((c.tc : Thread Cert.RopeIdeal.nD Cert.RopeIdeal.τ).loc Cert.RopeIdeal.main_v25)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v21) = v0 c
          ∧ r.2.mem ((c.tc : Thread Cert.RopeIdeal.nD Cert.RopeIdeal.τ).loc Cert.RopeIdeal.main_v25) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v20) = v0 c
          ∧ r.2.mem ((c.tc : Thread Cert.RopeReferenceIdeal.nD Cert.RopeReferenceIdeal.τ).loc Cert.RopeReferenceIdeal.main_v23) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0))

def preserves_Modulation_ModulationIdeal : Prop :=
  True

def algebraic_ModulationIdeal_ModulationReferenceIdeal_pre_finite [hModulationIdeal : Cert.ModulationIdeal.Facts] [hModulationReferenceIdeal : Cert.ModulationReferenceIdeal.Facts] [hPre_finite : Cert.Pre_finite.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal_finite m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v19) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hFfn : Cert.Ffn.Facts) (hFfnIdeal : Cert.FfnIdeal.Facts) (hFfnReferenceIdeal : Cert.FfnReferenceIdeal.Facts) (hExperts : Cert.Experts.Facts) (hExpertsIdeal : Cert.ExpertsIdeal.Facts) (hExpertsReferenceIdeal : Cert.ExpertsReferenceIdeal.Facts) (hCombine : Cert.Combine.Facts) (hCombineIdeal : Cert.CombineIdeal.Facts) (hCombineReferenceIdeal : Cert.CombineReferenceIdeal.Facts) (hMixOut : Cert.MixOut.Facts) (hMixOutIdeal : Cert.MixOutIdeal.Facts) (hMixOutReferenceIdeal : Cert.MixOutReferenceIdeal.Facts) (hRope : Cert.Rope.Facts) (hRopeIdeal : Cert.RopeIdeal.Facts) (hRopeReferenceIdeal : Cert.RopeReferenceIdeal.Facts) (hModulation : Cert.Modulation.Facts) (hModulationIdeal : Cert.ModulationIdeal.Facts) (hModulationReferenceIdeal : Cert.ModulationReferenceIdeal.Facts) (hPre_dest_in_rows : Cert.Pre_dest_in_rows.Facts) (hPre_blocks_in_range : Cert.Pre_blocks_in_range.Facts) (hPre_finite : Cert.Pre_finite.Facts) (hOn_rows_of_blocks : Cert.On_rows_of_blocks.Facts),
    quiescent_Kernel (hKernel := hKernel) (hPre_dest_in_rows := hPre_dest_in_rows)
    ∧ quiescent_KernelIdeal (hKernelIdeal := hKernelIdeal) (hPre_dest_in_rows := hPre_dest_in_rows)
    ∧ quiescent_ReferenceIdeal (hReferenceIdeal := hReferenceIdeal) (hPre_dest_in_rows := hPre_dest_in_rows)
    ∧ quiescent_Reference (hReference := hReference) (hPre_dest_in_rows := hPre_dest_in_rows)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Experts (hExperts := hExperts) (hPre_blocks_in_range := hPre_blocks_in_range)
    ∧ quiescent_ExpertsIdeal (hExpertsIdeal := hExpertsIdeal) (hPre_blocks_in_range := hPre_blocks_in_range)
    ∧ quiescent_ExpertsReferenceIdeal (hExpertsReferenceIdeal := hExpertsReferenceIdeal) (hPre_blocks_in_range := hPre_blocks_in_range)
    ∧ quiescent_Combine (hCombine := hCombine)
    ∧ quiescent_CombineIdeal (hCombineIdeal := hCombineIdeal)
    ∧ quiescent_CombineReferenceIdeal (hCombineReferenceIdeal := hCombineReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_Rope (hRope := hRope)
    ∧ quiescent_RopeIdeal (hRopeIdeal := hRopeIdeal)
    ∧ quiescent_RopeReferenceIdeal (hRopeReferenceIdeal := hRopeReferenceIdeal)
    ∧ quiescent_Modulation (hModulation := hModulation)
    ∧ quiescent_ModulationIdeal (hModulationIdeal := hModulationIdeal)
    ∧ quiescent_ModulationIdeal_pre_finite (hModulationIdeal := hModulationIdeal) (hPre_finite := hPre_finite)
    ∧ quiescent_ModulationReferenceIdeal (hModulationReferenceIdeal := hModulationReferenceIdeal)
    ∧ quiescent_ModulationReferenceIdeal_pre_finite (hModulationReferenceIdeal := hModulationReferenceIdeal) (hPre_finite := hPre_finite)
    ∧ preserves_Kernel_KernelIdeal
    ∧ algebraic_KernelIdeal_ReferenceIdeal (hKernelIdeal := hKernelIdeal) (hReferenceIdeal := hReferenceIdeal) (hPre_dest_in_rows := hPre_dest_in_rows)
    ∧ bitexact_Kernel_Reference (hKernel := hKernel) (hReference := hReference) (hPre_dest_in_rows := hPre_dest_in_rows)
    ∧ preserves_Ffn_FfnIdeal
    ∧ algebraic_FfnIdeal_FfnReferenceIdeal (hFfnIdeal := hFfnIdeal) (hFfnReferenceIdeal := hFfnReferenceIdeal)
    ∧ preserves_Experts_ExpertsIdeal
    ∧ algebraic_ExpertsIdeal_ExpertsReferenceIdeal_on_rows_of_blocks (hExpertsIdeal := hExpertsIdeal) (hExpertsReferenceIdeal := hExpertsReferenceIdeal) (hPre_blocks_in_range := hPre_blocks_in_range) (hOn_rows_of_blocks := hOn_rows_of_blocks)
    ∧ preserves_Combine_CombineIdeal
    ∧ algebraic_CombineIdeal_CombineReferenceIdeal (hCombineIdeal := hCombineIdeal) (hCombineReferenceIdeal := hCombineReferenceIdeal)
    ∧ preserves_MixOut_MixOutIdeal
    ∧ algebraic_MixOutIdeal_MixOutReferenceIdeal (hMixOutIdeal := hMixOutIdeal) (hMixOutReferenceIdeal := hMixOutReferenceIdeal)
    ∧ preserves_Rope_RopeIdeal
    ∧ algebraic_RopeIdeal_RopeReferenceIdeal (hRopeIdeal := hRopeIdeal) (hRopeReferenceIdeal := hRopeReferenceIdeal)
    ∧ preserves_Modulation_ModulationIdeal
    ∧ algebraic_ModulationIdeal_ModulationReferenceIdeal_pre_finite (hModulationIdeal := hModulationIdeal) (hModulationReferenceIdeal := hModulationReferenceIdeal) (hPre_finite := hPre_finite)
-- ==== On_rows_of_blocks.lean ====
abbrev S4x73728x128 : Shape := ⟨3, ![4, 73728, 128]⟩
abbrev S8x1024x7168 : Shape := ⟨3, ![8, 1024, 7168]⟩
abbrev S8x3584x1024 : Shape := ⟨3, ![8, 3584, 1024]⟩
abbrev S72 : Shape := ⟨1, ![72]⟩
abbrev S1 : Shape := ⟨1, ![1]⟩
abbrev S4x2x73728x128 : Shape := ⟨4, ![4, 2, 73728, 128]⟩
abbrev S_ : Shape := ⟨0, ![]⟩
abbrev S1x1x1x1 : Shape := ⟨4, ![1, 1, 1, 1]⟩

class Facts : Prop where
  bcast_S_S4x2x73728x128 : S_.BroadcastsInDim S4x2x73728x128 (![] : Fin 0 → Fin S4x2x73728x128.rank)
  bcast_S1_S1x1x1x1_3 : S1.BroadcastsInDim S1x1x1x1 (![3] : Fin 1 → Fin S1x1x1x1.rank)
  bcast_S1x1x1x1_S4x2x73728x128_0_1_2_3 : S1x1x1x1.BroadcastsInDim S4x2x73728x128 (![0, 1, 2, 3] : Fin 4 → Fin S4x2x73728x128.rank)

variable [Facts]

def fn {F : FTy → Type} [FloatOps F] (main_arg0 : IVec S4x73728x128 32) (main_arg1 : FVec F S8x1024x7168 .f32) (main_arg2 : FVec F S8x3584x1024 .f32) (main_arg3 : IVec S72 32) (main_arg4 : IVec S72 32) (main_arg5 : IVec S1 32) : IVec S4x2x73728x128 1 :=
  let main_v0 : IVec S4x2x73728x128 32 := iotaInDim S4x2x73728x128 32 2
  let main_c : IVec S_ 32 := constantI S_ 32 10#32
  let main_v1 : IVec S4x2x73728x128 32 := broadcastInDim S4x2x73728x128 ![] bcast_S_S4x2x73728x128 main_c
  let main_v2 : IVec S4x2x73728x128 32 := Host.shrsi main_v0 main_v1
  let main_v3 : IVec S1x1x1x1 32 := broadcastInDim S1x1x1x1 ![3] bcast_S1_S1x1x1x1_3 main_arg5
  let main_v4 : IVec S4x2x73728x128 32 := broadcastInDim S4x2x73728x128 ![0, 1, 2, 3] bcast_S1x1x1x1_S4x2x73728x128_0_1_2_3 main_v3
  let main_v5 : IVec S4x2x73728x128 1 := cmpi .sle main_v2 main_v4
  main_v5
-- ==== Pre_blocks_in_range.lean ====
abbrev S4x73728x128 : Shape := ⟨3, ![4, 73728, 128]⟩
abbrev S8x1024x7168 : Shape := ⟨3, ![8, 1024, 7168]⟩
abbrev S8x3584x1024 : Shape := ⟨3, ![8, 3584, 1024]⟩
abbrev S72 : Shape := ⟨1, ![72]⟩
abbrev S1 : Shape := ⟨1, ![1]⟩
abbrev S_ : Shape := ⟨0, ![]⟩

class Facts : Prop where
  bcast_S_S1 : S_.BroadcastsInDim S1 (![] : Fin 0 → Fin S1.rank)
  bcast_S1_S72_0 : S1.BroadcastsInDim S72 (![0] : Fin 1 → Fin S72.rank)
  bcast_S_S72 : S_.BroadcastsInDim S72 (![] : Fin 0 → Fin S72.rank)

variable [Facts]

def fn {F : FTy → Type} [FloatOps F] (main_arg0 : IVec S4x73728x128 32) (main_arg1 : FVec F S8x1024x7168 .f32) (main_arg2 : FVec F S8x3584x1024 .f32) (main_arg3 : IVec S72 32) (main_arg4 : IVec S72 32) (main_arg5 : IVec S1 32) : IVec S72 1 :=
  let main_v0 : IVec S72 32 := iotaInDim S72 32 0
  let main_c : IVec S_ 32 := constantI S_ 32 0#32
  let main_v1 : IVec S1 32 := broadcastInDim S1 ![] bcast_S_S1 main_c
  let main_v2 : IVec S1 1 := cmpi .sge main_arg5 main_v1
  let main_v3 : IVec S72 32 := broadcastInDim S72 ![0] bcast_S1_S72_0 main_arg5
  let main_v4 : IVec S72 1 := cmpi .sgt main_v0 main_v3
  let main_c_0 : IVec S_ 32 := constantI S_ 32 0#32
  let main_v5 : IVec S72 32 := broadcastInDim S72 ![] bcast_S_S72 main_c_0
  let main_v6 : IVec S72 1 := cmpi .sge main_arg3 main_v5
  let main_c_1 : IVec S_ 32 := constantI S_ 32 8#32
  let main_v7 : IVec S72 32 := broadcastInDim S72 ![] bcast_S_S72 main_c_1
  let main_v8 : IVec S72 1 := cmpi .slt main_arg3 main_v7
  let main_v9 : IVec S72 1 := andi main_v6 main_v8
  let main_v10 : IVec S72 1 := ori main_v4 main_v9
  let main_v11 : IVec S72 1 := broadcastInDim S72 ![0] bcast_S1_S72_0 main_v2
  let main_v12 : IVec S72 1 := andi main_v11 main_v10
  main_v12
-- ==== Pre_dest_in_rows.lean ====
abbrev S4x73728x128 : Shape := ⟨3, ![4, 73728, 128]⟩
abbrev S2x32768 : Shape := ⟨2, ![2, 32768]⟩
abbrev S_ : Shape := ⟨0, ![]⟩

class Facts : Prop where
  bcast_S_S2x32768 : S_.BroadcastsInDim S2x32768 (![] : Fin 0 → Fin S2x32768.rank)

variable [Facts]

def fn {F : FTy → Type} [FloatOps F] (main_arg0 : IVec S4x73728x128 32) (main_arg1 : IVec S2x32768 32) : IVec S2x32768 1 :=
  let main_c : IVec S_ 32 := constantI S_ 32 0#32
  let main_v0 : IVec S2x32768 32 := broadcastInDim S2x32768 ![] bcast_S_S2x32768 main_c
  let main_v1 : IVec S2x32768 1 := cmpi .sge main_arg1 main_v0
  let main_c_0 : IVec S_ 32 := constantI S_ 32 73728#32
  let main_v2 : IVec S2x32768 32 := broadcastInDim S2x32768 ![] bcast_S_S2x32768 main_c_0
  let main_v3 : IVec S2x32768 1 := cmpi .slt main_arg1 main_v2
  let main_v4 : IVec S2x32768 1 := andi main_v1 main_v3
  main_v4
-- ==== Pre_finite.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S2x1024x6144 : S_.BroadcastsInDim S2x1024x6144 (![] : Fin 0 → Fin S2x1024x6144.rank)
  reducesTo_S2x1024x6144_S_d0_1_2 : S2x1024x6144.ReducesTo [0, 1, 2] S_

variable [Facts]

def fn {F : FTy → Type} [FloatOps F] (main_arg0 : FVec F S8x1024 .f32) (main_arg1 : FVec F S2x1024x6144 .f32) (main_arg2 : FVec F S2x6144 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S2x1024x6144 .f32 := Host.absf main_arg1
  let main_cst_0 : FVec F S_ .f32 := constant S_ .f32 0x7F800000#32
  let main_v5 : FVec F S2x1024x6144 .f32 := broadcastInDim S2x1024x6144 ![] bcast_S_S2x1024x6144 main_cst_0
  let main_v6 : IVec S2x1024x6144 1 := cmpf .olt main_v4 main_v5
  let main_c_1 : IVec S_ 1 := constantI S_ 1 1#1
  let main_v7 : IVec S_ 1 := (fun x v => Host.reduce IntOp.andi x v reducesTo_S2x1024x6144_S_d0_1_2 h_S_) main_v6 main_c_1
  let main_v8 : IVec S_ 1 := andi main_v3 main_v7
  main_v8
-- ==== Kernel.lean ====
abbrev S4x73728x128 : Shape := ⟨3, ![4, 73728, 128]⟩
abbrev S2x32768 : Shape := ⟨2, ![2, 32768]⟩
abbrev S2x1x32768 : Shape := ⟨3, ![2, 1, 32768]⟩
abbrev S4 : Shape := ⟨1, ![4]⟩
abbrev S_ : Shape := ⟨0, ![]⟩
abbrev S1x4x1 : Shape := ⟨3, ![1, 4, 1]⟩
abbrev S2x4x32768 : Shape := ⟨3, ![2, 4, 32768]⟩
abbrev S294912x128 : Shape := ⟨2, ![294912, 128]⟩
abbrev S262144 : Shape := ⟨1, ![262144]⟩
abbrev S1x262144 : Shape := ⟨2, ![1, 262144]⟩
abbrev S262144x128 : Shape := ⟨2, ![262144, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S2x4x32768x128 : Shape := ⟨4, ![2, 4, 32768, 128]⟩

abbrev nBuf : Table → Nat
  | .hbm => 16
  | .local .scVector .vmem => 2
  | _ => 0

abbrev bufTy : (tb : Table) → Fin (nBuf tb) → BufTy
  | .hbm, ⟨0, _⟩ => ⟨S4x73728x128, .i32⟩
  | .hbm, ⟨1, _⟩ => ⟨S2x32768, .i32⟩
  | .hbm, ⟨2, _⟩ => ⟨S2x1x32768, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S1x4x1, .i32⟩
  | .hbm, ⟨8, _⟩ => ⟨S2x4x32768, .i32⟩
  | .hbm, ⟨9, _⟩ => ⟨S2x4x32768, .i32⟩
  | .hbm, ⟨10, _⟩ => ⟨S2x4x32768, .i32⟩
  | .hbm, ⟨11, _⟩ => ⟨S294912x128, .i32⟩
  | .hbm, ⟨12, _⟩ => ⟨S262144, .i32⟩
  | .hbm, ⟨13, _⟩ => ⟨S1x262144, .i32⟩
  | .hbm, ⟨14, _⟩ => ⟨S262144x128, .i32⟩
  | .hbm, ⟨15, _⟩ => ⟨S2x4x32768x128, .i32⟩
  | .local .scVector .vmem, ⟨0, _⟩ => ⟨S2x1x128, .i32⟩
  | .local .scVector .vmem, ⟨1, _⟩ => ⟨S2x128x128, .i32⟩
  | _, _ => ⟨S4x73728x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v8_scv : Ref sig .scVector := ⟨.hbm, 11, rfl⟩
abbrev main_v10_scv : Ref sig .scVector := ⟨.hbm, 13, rfl⟩
abbrev main_v11_scv : Ref sig .scVector := ⟨.hbm, 14, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c64_i32_27_r0 : BitVec 32 := 64#32
  let v32_r0 : BitVec 32 := Scalar.addi c0_i32_26_r0 c64_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_68_r0 : BitVec 32 := 63#32
  let v83_r0 : BitVec 1 := Scalar.cmpi .sge arg5_r0 c63_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_55_r0 : BitVec 32 := 63#32
  let v65_r0 : BitVec 1 := Scalar.cmpi .eq arg5_r0 c63_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x262144.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x262144.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S262144x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S262144x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x262144.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x262144.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S262144x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S262144x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c63_i32_33_r0 : BitVec 32 := 63#32
  let v37_r0 : BitVec 32 := Scalar.select v36_r0 c63_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S262144x128.size a)
theorem k0_off19_inb : ∀ (i : grid0.Coords) (v33_4_r0 : BitVec 32) (k0_hw5 : k0_chk5 i v33_4_r0), ∀ a, (k0_off19 i v33_4_r0) a + S128x128.size a ≤ S262144x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x73728x128 : Shape := ⟨3, ![4, 73728, 128]⟩
abbrev S2x32768 : Shape := ⟨2, ![2, 32768]⟩
abbrev S_ : Shape := ⟨0, ![]⟩
abbrev S2x32768x1 : Shape := ⟨3, ![2, 32768, 1]⟩
abbrev S4x2x32768x128 : Shape := ⟨4, ![4, 2, 32768, 128]⟩
abbrev S2x4x32768x128 : Shape := ⟨4, ![2, 4, 32768, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x73728x128, .i32⟩
  | .hbm, ⟨1, _⟩ => ⟨S2x32768, .i32⟩
  | .hbm, ⟨2, _⟩ => ⟨S_, .i32⟩
  | .hbm, ⟨3, _⟩ => ⟨S2x32768, .i32⟩
  | .hbm, ⟨4, _⟩ => ⟨S2x32768, .i1⟩
  | .hbm, ⟨5, _⟩ => ⟨S_, .i32⟩
  | .hbm, ⟨6, _⟩ => ⟨S2x32768, .i32⟩
  | .hbm, ⟨7, _⟩ => ⟨S2x32768, .i32⟩
  | .hbm, ⟨8, _⟩ => ⟨S2x32768, .i32⟩
  | .hbm, ⟨9, _⟩ => ⟨S2x32768x1, .i32⟩
  | .hbm, ⟨10, _⟩ => ⟨S4x2x32768x128, .i32⟩
  | .hbm, ⟨11, _⟩ => ⟨S2x4x32768x128, .i32⟩
  | _, _ => ⟨S4x73728x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Ffn.lean ====
abbrev S8x4096x1024 : Shape := ⟨3, ![8, 4096, 1024]⟩
abbrev S1x1024x5632 : Shape := ⟨3, ![1, 1024, 5632]⟩
abbrev S1x2816x1024 : Shape := ⟨3, ![1, 2816, 1024]⟩
abbrev S8x6x1024 : Shape := ⟨3, ![8, 6, 1024]⟩
abbrev S32768x1024 : Shape := ⟨2, ![32768, 1024]⟩
abbrev S1024x5632 : Shape := ⟨2, ![1024, 5632]⟩
abbrev S2816x1024 : Shape := ⟨2, ![2816, 1024]⟩
abbrev S1024x1024 : Shape := ⟨2, ![1024, 1024]⟩
abbrev S1024x1408 : Shape := ⟨2, ![1024, 1408]⟩
abbrev S1408x1024 : Shape := ⟨2, ![1408, 1024]⟩
abbrev S1x6x1024 : Shape := ⟨3, ![1, 6, 1024]⟩
abbrev S6x1024 : Shape := ⟨2, ![6, 1024]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S8x4096x1024, .bf16⟩
  | .hbm, ⟨1, _⟩ => ⟨S1x1024x5632, .f32⟩
  | .hbm, ⟨2, _⟩ => ⟨S1x2816x1024, .f32⟩
  | .hbm, ⟨3, _⟩ => ⟨S8x4096x1024, .f32⟩
  | .hbm, ⟨4, _⟩ => ⟨S8x6x1024, .f32⟩
  | .hbm, ⟨5, _⟩ => ⟨S32768x1024, .f32⟩
  | .hbm, ⟨6, _⟩ => ⟨S32768x1024, .bf16⟩
  | .hbm, ⟨7, _⟩ => ⟨S1024x5632, .f32⟩
  | .hbm, ⟨8, _⟩ => ⟨S1024x5632, .bf16⟩
  | .hbm, ⟨9, _⟩ => ⟨S2816x1024, .f32⟩
  | .hbm, ⟨10, _⟩ => ⟨S2816x1024, .bf16⟩
  | .hbm, ⟨11, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1024x1024, .f32⟩
  | .local _ .vmem, ⟨9, _⟩ => ⟨S1024x1024, .f32⟩
  | .local _ .vmem, ⟨10, _⟩ => ⟨S1x6x1024, .f32⟩
  | .local _ .vmem, ⟨11, _⟩ => ⟨S1x6x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S8x4096x1024 : Shape := ⟨3, ![8, 4096, 1024]⟩
abbrev S1x1024x5632 : Shape := ⟨3, ![1, 1024, 5632]⟩
abbrev S1x2816x1024 : Shape := ⟨3, ![1, 2816, 1024]⟩
abbrev S8x6x1024 : Shape := ⟨3, ![8, 6, 1024]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩
abbrev S1024x5632 : Shape := ⟨2, ![1024, 5632]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S_ : Shape := ⟨0, ![]⟩
abbrev S32768x1024 : Shape := ⟨2, ![32768, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S1x1024x5632, .f32⟩
  | .hbm, ⟨2, _⟩ => ⟨S1x2816x1024, .f32⟩
  | .hbm, ⟨3, _⟩ => ⟨S8x4096x1024, .f32⟩
  | .hbm, ⟨4, _⟩ => ⟨S8x6x1024, .f32⟩
  | .hbm, ⟨5, _⟩ => ⟨S8x6x1x1024, .f32⟩
  | .hbm, ⟨6, _⟩ => ⟨S8x1x1x1024, .f32⟩
  | .hbm, ⟨7, _⟩ => ⟨S8x1x1024, .f32⟩
  | .hbm, ⟨8, _⟩ => ⟨S8x4096x1024, .f32⟩
  | .hbm, ⟨9, _⟩ => ⟨S1024x5632, .f32⟩
  | .hbm, ⟨10, _⟩ => ⟨S2816x1024, .f32⟩
  | .hbm, ⟨11, _⟩ => ⟨S8x4096x5632, .f32⟩
  | .hbm, ⟨12, _⟩ => ⟨S8x4096x2816, .f32⟩
  | .hbm, ⟨13, _⟩ => ⟨S8x4096x2816, .f32⟩
  | .hbm, ⟨14, _⟩ => ⟨S8x4096x2816, .f32⟩
  | .hbm, ⟨15, _⟩ => ⟨S8x4096x2816, .f32⟩
  | .hbm, ⟨16, _⟩ => ⟨S_, .f32⟩
  | .hbm, ⟨17, _⟩ => ⟨S8x4096x2816, .f32⟩
  | .hbm, ⟨18, _⟩ => ⟨S8x4096x2816, .f32⟩
  | .hbm, ⟨19, _⟩ => ⟨S_, .f32⟩
  | .hbm, ⟨20, _⟩ => ⟨S8x4096x2816, .f32⟩
  | .hbm, ⟨21, _⟩ => ⟨S8x4096x2816, .f32⟩
  | .hbm, ⟨22, _⟩ => ⟨S8x4096x2816, .f32⟩
  | .hbm, ⟨23, _⟩ => ⟨S8x4096x2816, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S32768x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Experts.lean ====
abbrev S4x73728x128 : Shape := ⟨3, ![4, 73728, 128]⟩
abbrev S8x1024x7168 : Shape := ⟨3, ![8, 1024, 7168]⟩
abbrev S8x3584x1024 : Shape := ⟨3, ![8, 3584, 1024]⟩
abbrev S72 : Shape := ⟨1, ![72]⟩
abbrev S1 : Shape := ⟨1, ![1]⟩
abbrev S_ : Shape := ⟨0, ![]⟩
abbrev S72x1 : Shape := ⟨2, ![72, 1]⟩
abbrev S4x2x73728x128 : Shape := ⟨4, ![4, 2, 73728, 128]⟩
abbrev S4x1024x128 : Shape := ⟨3, ![4, 1024, 128]⟩
abbrev S1x1024x512 : Shape := ⟨3, ![1, 1024, 512]⟩
abbrev S1x512x1024 : Shape := ⟨3, ![1, 512, 1024]⟩
abbrev S4x2x1024x128 : Shape := ⟨4, ![4, 2, 1024, 128]⟩
abbrev S1024x1024 : Shape := ⟨2, ![1024, 1024]⟩
abbrev S1024x1 : Shape := ⟨2, ![1024, 1]⟩
abbrev S1x1024x128 : Shape := ⟨3, ![1, 1024, 128]⟩
abbrev S1024x128 : Shape := ⟨2, ![1024, 128]⟩
abbrev S1024x512 : Shape := ⟨2, ![1024, 512]⟩
abbrev S512x1024 : Shape := ⟨2, ![512, 1024]⟩
abbrev S512x512 : Shape := ⟨2, ![512, 512]⟩
abbrev S1x1x1024x128 : Shape := ⟨4, ![1, 1, 1024, 128]⟩

abbrev nBuf : Space → Nat
  | .hbm => 17
  | .vmem => 12
  | .smem => 3
  | _ => 0

abbrev bufTy : (tb : Table) → Fin (tcTables nBuf tb) → BufTy
  | .hbm, ⟨0, _⟩ => ⟨S4x73728x128, .i32⟩
  | .hbm, ⟨1, _⟩ => ⟨S8x1024x7168, .f32⟩
  | .hbm, ⟨2, _⟩ => ⟨S8x3584x1024, .f32⟩
  | .hbm, ⟨3, _⟩ => ⟨S72, .i32⟩
  | .hbm, ⟨4, _⟩ => ⟨S72, .i32⟩
  | .hbm, ⟨5, _⟩ => ⟨S_, .i32⟩
  | .hbm, ⟨6, _⟩ => ⟨S72, .i32⟩
  | .hbm, ⟨7, _⟩ => ⟨S72, .i32⟩
  | .hbm, ⟨8, _⟩ => ⟨S_, .i32⟩
  | .hbm, ⟨9, _⟩ => ⟨S72, .i32⟩
  | .hbm, ⟨10, _⟩ => ⟨S72, .i1⟩
  | .hbm, ⟨11, _⟩ => ⟨S_, .i32⟩
  | .hbm, ⟨12, _⟩ => ⟨S72, .i32⟩
  | .hbm, ⟨13, _⟩ => ⟨S72, .i32⟩
  | .hbm, ⟨14, _⟩ => ⟨S72, .i32⟩
  | .hbm, ⟨15, _⟩ => ⟨S72x1, .i32⟩
  | .hbm, ⟨16, _⟩ => ⟨S4x2x73728x128, .bf16⟩
  | .local _ .vmem, ⟨0, _⟩ => ⟨S4x1024x128, .i32⟩
  | .local _ .vmem, ⟨1, _⟩ => ⟨S4x1024x128, .i32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S4x2x1024x128, .bf16⟩
  | .local _ .vmem, ⟨9, _⟩ => ⟨S4x2x1024x128, .bf16⟩
  | .local _ .vmem, ⟨10, _⟩ => ⟨S1024x1024, .f32⟩
  | .local _ .vmem, ⟨11, _⟩ => ⟨S1024x1024, .bf16⟩
  | .local _ .smem, ⟨0, _⟩ => ⟨S72, .i32⟩
  | .local _ .smem, ⟨1, _⟩ => ⟨S72, .i32⟩
  | .local _ .smem, ⟨2, _⟩ => ⟨S1, .i32⟩
  | _, _ => ⟨S4x73728x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v11 : Ref sig .tc := ⟨.hbm, 16, rfl⟩
abbrev main_v10 : Ref sig .tc := ⟨.smem, 0, rfl⟩
abbrev main_arg4 : Ref sig .tc := ⟨.smem, 1, rfl⟩
abbrev main_arg5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨3, ![main_v10.idx, main_arg4.idx, main_arg5.idx], fun | 0 => main_v10.names | 1 => main_arg4.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c0_i32_0 : BitVec 32 := 0#32
  let v4 : BitVec 1 := Scalar.cmpi .eq arg1 c0_i32_0
  let v5 : BitVec 32 := Scalar.extui v4
  let c0_i32_1 : BitVec 32 := 0#32
  let v6 : BitVec 1 := Scalar.cmpi .ne v5 c0_i32_1
  v6

def k0_off2 (i : grid0.Coords) : Fin 1 → Nat :=
  let arg0 : BitVec 32 := BitVec.ofNat 32 (i 0).val
  let v34 : Index := Scalar.indexCast arg0
  ![v34.toNat]
def k0_off3 (i : grid0.Coords) : Fin 1 → Nat :=
  let arg0 : BitVec 32 := BitVec.ofNat 32 (i 0).val
  let v7 : Index := Scalar.indexCast arg0
  ![v7.toNat]
def k0_off4 (i : grid0.Coords) : Fin 1 → Nat :=
  let arg0 : BitVec 32 := BitVec.ofNat 32 (i 0).val
  let v12 : Index := Scalar.indexCast arg0
  ![v12.toNat]
def k0_cond1 (i : grid0.Coords) (v0 : BitVec 32) : BitVec 1 :=
  let arg0 : BitVec 32 := BitVec.ofNat 32 (i 0).val
  let v1 : BitVec 1 := Scalar.cmpi .sle arg0 v0
  let v2 : BitVec 32 := Scalar.extui v1
  let c0_i32 : BitVec 32 := 0#32
  let v3 : BitVec 1 := Scalar.cmpi .ne v2 c0_i32
  v3

def k0_cond5 (i : grid0.Coords) : BitVec 1 :=
  let arg1 : BitVec 32 := BitVec.ofNat 32 (i 1).val
  let c6_i32 : BitVec 32 := 6#32
  let v17 : BitVec 1 := Scalar.cmpi .eq arg1 c6_i32
  let v18 : BitVec 32 := Scalar.extui v17
  let c0_i32_5 : BitVec 32 := 0#32
  let v19 : BitVec 1 := Scalar.cmpi .ne v18 c0_i32_5
  v19

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let v1 : BitVec 32 := Scalar.minsi arg0 v0
  let c0_i32 : BitVec 32 := 0#32
  let c0_i32_0 : BitVec 32 := 0#32
  let c0_i32_1 : BitVec 32 := 0#32
  ![c0_i32.toNat, v1.toNat, c0_i32_0.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .sle arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .sle arg0 v2
  let c6_i32 : BitVec 32 := 6#32
  let v4 : BitVec 32 := Scalar.select v3 arg1 c6_i32
  let c7_i32 : BitVec 32 := 7#32
  let v5 : BitVec 32 := Scalar.addi v4 c7_i32
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .sle arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let v1 : BitVec 32 := Scalar.minsi arg0 v0
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

abbrev stage0_0 : Fin 2 → Memref sig .tc .vmem S4x1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x2x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S4x73728x128 : Shape := ⟨3, ![4, 73728, 128]⟩
abbrev S8x1024x7168 : Shape := ⟨3, ![8, 1024, 7168]⟩
abbrev S8x3584x1024 : Shape := ⟨3, ![8, 3584, 1024]⟩
abbrev S72 : Shape := ⟨1, ![72]⟩
abbrev S1 : Shape := ⟨1, ![1]⟩
abbrev S_ : Shape := ⟨0, ![]⟩
abbrev S1x4x73728x128 : Shape := ⟨4, ![1, 4, 73728, 128]⟩
abbrev S2x4x73728x128 : Shape := ⟨4, ![2, 4, 73728, 128]⟩
abbrev S73728x2x4x128 : Shape := ⟨4, ![73728, 2, 4, 128]⟩
abbrev S72x1024x1024 : Shape := ⟨3, ![72, 1024, 1024]⟩
abbrev S72x1024x1 : Shape := ⟨3, ![72, 1024, 1]⟩
abbrev S72x1x1 : Shape := ⟨3, ![72, 1, 1]⟩
abbrev S72x1 : Shape := ⟨2, ![72, 1]⟩
abbrev S72x3 : Shape := ⟨2, ![72, 3]⟩
abbrev S72x1x1024x7168 : Shape := ⟨4, ![72, 1, 1024, 7168]⟩
abbrev S72x1024x7168 : Shape := ⟨3, ![72, 1024, 7168]⟩
abbrev S72x1x3584x1024 : Shape := ⟨4, ![72, 1, 3584, 1024]⟩
abbrev S72x3584x1024 : Shape := ⟨3, ![72, 3584, 1024]⟩
abbrev S72x1024x3584 : Shape := ⟨3, ![72, 1024, 3584]⟩
abbrev S4x2x73728x128 : Shape := ⟨4, ![4, 2, 73728, 128]⟩

abbrev nBuf : Space → Nat
  | .hbm => 103
  | .vmem => 0
  | .smem => 0
  | _ => 0

abbrev bufTy : (tb : Table) → Fin (tcTables nBuf tb) → BufTy
  | .hbm, ⟨0, _⟩ => ⟨S4x73728x128, .i32⟩
  | .hbm, ⟨1, _⟩ => ⟨S8x1024x7168, .f32⟩
  | .hbm, ⟨2, _⟩ => ⟨S8x3584x1024, .f32⟩
  | .hbm, ⟨3, _⟩ => ⟨S72, .i32⟩
  | .hbm, ⟨4, _⟩ => ⟨S72, .i32⟩
  | .hbm, ⟨5, _⟩ => ⟨S1, .i32⟩
  | .hbm, ⟨6, _⟩ => ⟨S_, .i32⟩
  | .hbm, ⟨7, _⟩ => ⟨S4x73728x128, .i32⟩
  | .hbm, ⟨8, _⟩ => ⟨S4x73728x128, .i32⟩
  | .hbm, ⟨9, _⟩ => ⟨S4x73728x128, .f32⟩
  | .hbm, ⟨10, _⟩ => ⟨S_, .i32⟩
  | .hbm, ⟨11, _⟩ => ⟨S4x73728x128, .i32⟩
  | .hbm, ⟨12, _⟩ => ⟨S4x73728x128, .i32⟩
  | .hbm, ⟨13, _⟩ => ⟨S4x73728x128, .f32⟩
  | .hbm, ⟨14, _⟩ => ⟨S1x4x73728x128, .f32⟩
  | .hbm, ⟨15, _⟩ => ⟨S1x4x73728x128, .f32⟩
  | .hbm, ⟨16, _⟩ => ⟨S2x4x73728x128, .f32⟩
  | .hbm, ⟨17, _⟩ => ⟨S73728x2x4x128, .f32⟩
  | .hbm, ⟨18, _⟩ => ⟨S72x1024x1024, .f32⟩
  | .hbm, ⟨19, _⟩ => ⟨S72x1024x1, .i32⟩
  | .hbm, ⟨20, _⟩ => ⟨S72x1x1, .i32⟩
  | .hbm, ⟨21, _⟩ => ⟨S72x1024x1, .i32⟩
  | .hbm, ⟨22, _⟩ => ⟨S72x1024x1, .i1⟩
  | .hbm, ⟨23, _⟩ => ⟨S_, .f32⟩
  | .hbm, ⟨24, _⟩ => ⟨S_, .f32⟩
  | .hbm, ⟨25, _⟩ => ⟨S72x1024x1024, .i1⟩
  | .hbm, ⟨26, _⟩ => ⟨S72x1024x1024, .f32⟩
  | .hbm, ⟨27, _⟩ => ⟨S72x1024x1024, .f32⟩
  | .hbm, ⟨28, _⟩ => ⟨S_, .i32⟩
  | .hbm, ⟨29, _⟩ => ⟨S72, .i32⟩
  | .hbm, ⟨30, _⟩ => ⟨S72, .i1⟩
  | .hbm, ⟨31, _⟩ => ⟨S_, .i32⟩
  | .hbm, ⟨32, _⟩ => ⟨S72, .i32⟩
  | .hbm, ⟨33, _⟩ => ⟨S72, .i32⟩
  | .hbm, ⟨34, _⟩ => ⟨S72, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S72x1, .i32⟩
  | .hbm, ⟨52, _⟩ => ⟨S72x1, .i32⟩
  | .hbm, ⟨53, _⟩ => ⟨S72x1, .i32⟩
  | .hbm, ⟨54, _⟩ => ⟨S72x3, .i32⟩
  | .hbm, ⟨55, _⟩ => ⟨S72x1x1024x7168, .f32⟩
  | .hbm, ⟨56, _⟩ => ⟨S72x1024x7168, .f32⟩
  | .hbm, ⟨57, _⟩ => ⟨S_, .i32⟩
  | .hbm, ⟨58, _⟩ => ⟨S72, .i32⟩
  | .hbm, ⟨59, _⟩ => ⟨S72, .i1⟩
  | .hbm, ⟨60, _⟩ => ⟨S_, .i32⟩
  | .hbm, ⟨61, _⟩ => ⟨S72, .i32⟩
  | .hbm, ⟨62, _⟩ => ⟨S72, .i32⟩
  | .hbm, ⟨63, _⟩ => ⟨S72, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S72x1, .i32⟩
  | .hbm, ⟨81, _⟩ => ⟨S72x1, .i32⟩
  | .hbm, ⟨82, _⟩ => ⟨S72x1, .i32⟩
  | .hbm, ⟨83, _⟩ => ⟨S72x3, .i32⟩
  | .hbm, ⟨84, _⟩ => ⟨S72x1x3584x1024, .f32⟩
  | .hbm, ⟨85, _⟩ => ⟨S72x3584x1024, .f32⟩
  | .hbm, ⟨86, _⟩ => ⟨S72x1024x7168, .f32⟩
  | .hbm, ⟨87, _⟩ => ⟨S72x1024x3584, .f32⟩
  | .hbm, ⟨88, _⟩ => ⟨S72x1024x3584, .f32⟩
  | .hbm, ⟨89, _⟩ => ⟨S72x1024x3584, .f32⟩
  | .hbm, ⟨90, _⟩ => ⟨S72x1024x3584, .f32⟩
  | .hbm, ⟨91, _⟩ => ⟨S_, .f32⟩
  | .hbm, ⟨92, _⟩ => ⟨S72x1024x3584, .f32⟩
  | .hbm, ⟨93, _⟩ => ⟨S72x1024x3584, .f32⟩
  | .hbm, ⟨94, _⟩ => ⟨S_, .f32⟩
  | .hbm, ⟨95, _⟩ => ⟨S72x1024x3584, .f32⟩
  | .hbm, ⟨96, _⟩ => ⟨S72x1024x3584, .f32⟩
  | .hbm, ⟨97, _⟩ => ⟨S72x1024x3584, .f32⟩
  | .hbm, ⟨98, _⟩ => ⟨S72x1024x3584, .f32⟩
  | .hbm, ⟨99, _⟩ => ⟨S72x1024x1024, .f32⟩
  | .hbm, ⟨100, _⟩ => ⟨S73728x2x4x128, .f32⟩
  | .hbm, ⟨101, _⟩ => ⟨S4x2x73728x128, .f32⟩
  | .hbm, ⟨102, _⟩ => ⟨S4x2x73728x128, .bf16⟩
  | _, _ => ⟨S4x73728x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_c_4 : Ref sig .tc := ⟨.hbm, 36, rfl⟩
abbrev main_v21 : Ref sig .tc := ⟨.hbm, 37, rfl⟩
abbrev main_c_5 : Ref sig .tc := ⟨.hbm, 38, rfl⟩
abbrev main_c_6 : Ref sig .tc := ⟨.hbm, 39, rfl⟩
abbrev main_v22 : Ref sig .tc := ⟨.hbm, 40, rfl⟩
abbrev main_c_7 : Ref sig .tc := ⟨.hbm, 41, rfl⟩
abbrev main_v23 : Ref sig .tc := ⟨.hbm, 42, rfl⟩
abbrev main_c_8 : Ref sig .tc := ⟨.hbm, 43, rfl⟩
abbrev main_c_9 : Ref sig .tc := ⟨.hbm, 44, rfl⟩
abbrev main_v24 : Ref sig .tc := ⟨.hbm, 45, rfl⟩
abbrev main_c_10 : Ref sig .tc := ⟨.hbm, 46, rfl⟩
abbrev main_c_11 : Ref sig .tc := ⟨.hbm, 47, rfl⟩
abbrev main_v25 : Ref sig .tc := ⟨.hbm, 48, rfl⟩
abbrev main_c_12 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_13 : Ref sig .tc := ⟨.hbm, 57, rfl⟩
abbrev main_v33 : Ref sig .tc := ⟨.hbm, 58, rfl⟩
abbrev main_v34 : Ref sig .tc := ⟨.hbm, 59, rfl⟩
abbrev main_c_14 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_15 : Ref sig .tc := ⟨.hbm, 64, rfl⟩
abbrev main_c_16 : Ref sig .tc := ⟨.hbm, 65, rfl⟩
abbrev main_v38 : Ref sig .tc := ⟨.hbm, 66, rfl⟩
abbrev main_c_17 : Ref sig .tc := ⟨.hbm, 67, rfl⟩
abbrev main_c_18 : Ref sig .tc := ⟨.hbm, 68, rfl⟩
abbrev main_v39 : Ref sig .tc := ⟨.hbm, 69, rfl⟩
abbrev main_c_19 : Ref sig .tc := ⟨.hbm, 70, rfl⟩
abbrev main_v40 : Ref sig .tc := ⟨.hbm, 71, rfl⟩
abbrev main_c_20 : Ref sig .tc := ⟨.hbm, 72, rfl⟩
abbrev main_c_21 : Ref sig .tc := ⟨.hbm, 73, rfl⟩
abbrev main_v41 : Ref sig .tc := ⟨.hbm, 74, rfl⟩
abbrev main_c_22 : Ref sig .tc := ⟨.hbm, 75, rfl⟩
abbrev main_c_23 : Ref sig .tc := ⟨.hbm, 76, rfl⟩
abbrev main_v42 : Ref sig .tc := ⟨.hbm, 77, rfl⟩
abbrev main_c_24 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩

abbrev nD : Nat := 1
abbrev τ : Topo := Topo.v7x

variable {F : FTy → Type} [FloatOps F]
-- ==== Combine.lean ====
abbrev S8x4096x1024 : Shape := ⟨3, ![8, 4096, 1024]⟩
abbrev S2x4x32768x128 : Shape := ⟨4, ![2, 4, 32768, 128]⟩
abbrev S32768x128 : Shape := ⟨2, ![32768, 128]⟩
abbrev S8x6x1024 : Shape := ⟨3, ![8, 6, 1024]⟩
abbrev S32768x1024 : Shape := ⟨2, ![32768, 1024]⟩
abbrev S1024x1024 : Shape := ⟨2, ![1024, 1024]⟩
abbrev S1x4x1024x128 : Shape := ⟨4, ![1, 4, 1024, 128]⟩
abbrev S1024x128 : Shape := ⟨2, ![1024, 128]⟩
abbrev S1x6x1024 : Shape := ⟨3, ![1, 6, 1024]⟩
abbrev S1x1x1024x128 : Shape := ⟨4, ![1, 1, 1024, 128]⟩
abbrev S1024x512 : Shape := ⟨2, ![1024, 512]⟩
abbrev S1024x1 : Shape := ⟨2, ![1024, 1]⟩
abbrev S6x1024 : Shape := ⟨2, ![6, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S2x4x32768x128, .i32⟩
  | .hbm, ⟨2, _⟩ => ⟨S32768x128, .f32⟩
  | .hbm, ⟨3, _⟩ => ⟨S8x6x1024, .f32⟩
  | .hbm, ⟨4, _⟩ => ⟨S32768x1024, .f32⟩
  | .hbm, ⟨5, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x4x1024x128, .i32⟩
  | .local _ .vmem, ⟨3, _⟩ => ⟨S1x4x1024x128, .i32⟩
  | .local _ .vmem, ⟨4, _⟩ => ⟨S1x4x1024x128, .i32⟩
  | .local _ .vmem, ⟨5, _⟩ => ⟨S1x4x1024x128, .i32⟩
  | .local _ .vmem, ⟨6, _⟩ => ⟨S1024x128, .f32⟩
  | .local _ .vmem, ⟨7, _⟩ => ⟨S1024x128, .f32⟩
  | .local _ .vmem, ⟨8, _⟩ => ⟨S1x6x1024, .f32⟩
  | .local _ .vmem, ⟨9, _⟩ => ⟨S1x6x1024, .f32⟩
  | .local _ .vmem, ⟨10, _⟩ => ⟨S1024x1024, .f32⟩
  | .local _ .vmem, ⟨11, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineReferenceIdeal.lean ====
abbrev S8x4096x1024 : Shape := ⟨3, ![8, 4096, 1024]⟩
abbrev S2x4x32768x128 : Shape := ⟨4, ![2, 4, 32768, 128]⟩
abbrev S32768x128 : Shape := ⟨2, ![32768, 128]⟩
abbrev S8x6x1024 : Shape := ⟨3, ![8, 6, 1024]⟩
abbrev S_ : Shape := ⟨0, ![]⟩
abbrev S1x2x4x32768x128 : Shape := ⟨5, ![1, 2, 4, 32768, 128]⟩
abbrev S2x2x4x32768x128 : Shape := ⟨5, ![2, 2, 4, 32768, 128]⟩
abbrev S2x32768x2x4x128 : Shape := ⟨5, ![2, 32768, 2, 4, 128]⟩
abbrev S2x32768x1024 : Shape := ⟨3, ![2, 32768, 1024]⟩
abbrev S32768x2 : Shape := ⟨2, ![32768, 2]⟩
abbrev S2x32768 : Shape := ⟨2, ![2, 32768]⟩
abbrev S2x32768x1 : Shape := ⟨3, ![2, 32768, 1]⟩
abbrev S32768x1024 : Shape := ⟨2, ![32768, 1024]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x4x32768x128, .i32⟩
  | .hbm, ⟨2, _⟩ => ⟨S32768x128, .f32⟩
  | .hbm, ⟨3, _⟩ => ⟨S8x6x1024, .f32⟩
  | .hbm, ⟨4, _⟩ => ⟨S_, .i32⟩
  | .hbm, ⟨5, _⟩ => ⟨S2x4x32768x128, .i32⟩
  | .hbm, ⟨6, _⟩ => ⟨S2x4x32768x128, .i32⟩
  | .hbm, ⟨7, _⟩ => ⟨S2x4x32768x128, .f32⟩
  | .hbm, ⟨8, _⟩ => ⟨S_, .i32⟩
  | .hbm, ⟨9, _⟩ => ⟨S2x4x32768x128, .i32⟩
  | .hbm, ⟨10, _⟩ => ⟨S2x4x32768x128, .i32⟩
  | .hbm, ⟨11, _⟩ => ⟨S2x4x32768x128, .f32⟩
  | .hbm, ⟨12, _⟩ => ⟨S1x2x4x32768x128, .f32⟩
  | .hbm, ⟨13, _⟩ => ⟨S1x2x4x32768x128, .f32⟩
  | .hbm, ⟨14, _⟩ => ⟨S2x2x4x32768x128, .f32⟩
  | .hbm, ⟨15, _⟩ => ⟨S2x32768x2x4x128, .f32⟩
  | .hbm, ⟨16, _⟩ => ⟨S2x32768x1024, .f32⟩
  | .hbm, ⟨17, _⟩ => ⟨S32768x2, .f32⟩
  | .hbm, ⟨18, _⟩ => ⟨S2x32768, .f32⟩
  | .hbm, ⟨19, _⟩ => ⟨S2x32768x1, .f32⟩
  | .hbm, ⟨20, _⟩ => ⟨S2x32768x1024, .f32⟩
  | .hbm, ⟨21, _⟩ => ⟨S2x32768x1024, .f32⟩
  | .hbm, ⟨22, _⟩ => ⟨S_, .f32⟩
  | .hbm, ⟨23, _⟩ => ⟨S32768x1024, .f32⟩
  | .hbm, ⟨24, _⟩ => ⟨S8x4096x1024, .f32⟩
  | .hbm, ⟨25, _⟩ => ⟨S8x6x1x1024, .f32⟩
  | .hbm, ⟨26, _⟩ => ⟨S8x1x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== MixOut.lean ====
abbrev S8x4096x1024 : Shape := ⟨3, ![8, 4096, 1024]⟩
abbrev S8x4096x512 : Shape := ⟨3, ![8, 4096, 512]⟩
abbrev S8x4096x256 : Shape := ⟨3, ![8, 4096, 256]⟩
abbrev S1024x1024 : Shape := ⟨2, ![1024, 1024]⟩
abbrev S8x6x1024 : Shape := ⟨3, ![8, 6, 1024]⟩
abbrev S1024 : Shape := ⟨1, ![1024]⟩
abbrev S1x1024 : Shape := ⟨2, ![1, 1024]⟩
abbrev S1x1024x1024 : Shape := ⟨3, ![1, 1024, 1024]⟩
abbrev S1x1024x512 : Shape := ⟨3, ![1, 1024, 512]⟩
abbrev S1x1024x256 : Shape := ⟨3, ![1, 1024, 256]⟩
abbrev S1x6x1024 : Shape := ⟨3, ![1, 6, 1024]⟩
abbrev S6x1024 : Shape := ⟨2, ![6, 1024]⟩
abbrev S1024x512 : Shape := ⟨2, ![1024, 512]⟩
abbrev S512x1024 : Shape := ⟨2, ![512, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 11
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x256, .bf16⟩
  | .hbm, ⟨3, _⟩ => ⟨S8x4096x256, .bf16⟩
  | .hbm, ⟨4, _⟩ => ⟨S1024x1024, .f32⟩
  | .hbm, ⟨5, _⟩ => ⟨S8x6x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S8x4096x1024, .f32⟩
  | .hbm, ⟨10, _⟩ => ⟨S8x4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x1024, .bf16⟩
  | .local _ .vmem, ⟨9, _⟩ => ⟨S1x6x1024, .f32⟩
  | .local _ .vmem, ⟨10, _⟩ => ⟨S1x6x1024, .f32⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .bf16⟩
  | .local _ .vmem, ⟨15, _⟩ => ⟨S1x1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixOutReferenceIdeal.lean ====
abbrev S8x4096x1024 : Shape := ⟨3, ![8, 4096, 1024]⟩
abbrev S8x4096x512 : Shape := ⟨3, ![8, 4096, 512]⟩
abbrev S8x4096x256 : Shape := ⟨3, ![8, 4096, 256]⟩
abbrev S1024x1024 : Shape := ⟨2, ![1024, 1024]⟩
abbrev S8x6x1024 : Shape := ⟨3, ![8, 6, 1024]⟩
abbrev S1024 : Shape := ⟨1, ![1024]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x256, .bf16⟩
  | .hbm, ⟨3, _⟩ => ⟨S8x4096x256, .bf16⟩
  | .hbm, ⟨4, _⟩ => ⟨S1024x1024, .f32⟩
  | .hbm, ⟨5, _⟩ => ⟨S8x6x1024, .f32⟩
  | .hbm, ⟨6, _⟩ => ⟨S1024, .f32⟩
  | .hbm, ⟨7, _⟩ => ⟨S8x6x1x1024, .f32⟩
  | .hbm, ⟨8, _⟩ => ⟨S8x1x1x1024, .f32⟩
  | .hbm, ⟨9, _⟩ => ⟨S8x1x1024, .f32⟩
  | .hbm, ⟨10, _⟩ => ⟨S8x1x1x1024, .f32⟩
  | .hbm, ⟨11, _⟩ => ⟨S8x1x1024, .f32⟩
  | .hbm, ⟨12, _⟩ => ⟨S8x1x1x1024, .f32⟩
  | .hbm, ⟨13, _⟩ => ⟨S8x1x1024, .f32⟩
  | .hbm, ⟨14, _⟩ => ⟨S8x4096x1024, .bf16⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Rope.lean ====
abbrev S8x4096 : Shape := ⟨2, ![8, 4096]⟩
abbrev S16 : Shape := ⟨1, ![16]⟩
abbrev S_ : Shape := ⟨0, ![]⟩
abbrev S8x4096x1 : Shape := ⟨3, ![8, 4096, 1]⟩
abbrev S8x4096x16 : Shape := ⟨3, ![8, 4096, 16]⟩
abbrev S8x512x128 : Shape := ⟨3, ![8, 512, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S1x512x128 : Shape := ⟨3, ![1, 512, 128]⟩
abbrev S512x128 : Shape := ⟨2, ![512, 128]⟩
abbrev S8x4096x64 : Shape := ⟨3, ![8, 4096, 64]⟩
abbrev S8x4096x32 : Shape := ⟨3, ![8, 4096, 32]⟩
abbrev S8x4096x128 : Shape := ⟨3, ![8, 4096, 128]⟩

abbrev nBuf : Space → Nat
  | .hbm => 36
  | .vmem => 7
  | .smem => 0
  | _ => 0

abbrev bufTy : (tb : Table) → Fin (tcTables nBuf tb) → BufTy
  | .hbm, ⟨0, _⟩ => ⟨S8x4096, .i32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8x4096x1, .i32⟩
  | .hbm, ⟨16, _⟩ => ⟨S8x4096x16, .i32⟩
  | .hbm, ⟨17, _⟩ => ⟨S8x512x128, .i32⟩
  | .hbm, ⟨18, _⟩ => ⟨S1x16, .f32⟩
  | .hbm, ⟨19, _⟩ => ⟨S8x16, .f32⟩
  | .hbm, ⟨20, _⟩ => ⟨S128, .f32⟩
  | .hbm, ⟨21, _⟩ => ⟨S1x128, .f32⟩
  | .hbm, ⟨22, _⟩ => ⟨S8x512x128, .f32⟩
  | .hbm, ⟨23, _⟩ => ⟨S8x512x128, .f32⟩
  | .hbm, ⟨24, _⟩ => ⟨S8x4096x16, .f32⟩
  | .hbm, ⟨25, _⟩ => ⟨S_, .f32⟩
  | .hbm, ⟨26, _⟩ => ⟨S8x4096x64, .f32⟩
  | .hbm, ⟨27, _⟩ => ⟨S_, .f32⟩
  | .hbm, ⟨28, _⟩ => ⟨S8x4096x32, .f32⟩
  | .hbm, ⟨29, _⟩ => ⟨S8x4096x128, .f32⟩
  | .hbm, ⟨30, _⟩ => ⟨S8x4096x16, .f32⟩
  | .hbm, ⟨31, _⟩ => ⟨S_, .f32⟩
  | .hbm, ⟨32, _⟩ => ⟨S8x4096x64, .f32⟩
  | .hbm, ⟨33, _⟩ => ⟨S_, .f32⟩
  | .hbm, ⟨34, _⟩ => ⟨S8x4096x32, .f32⟩
  | .hbm, ⟨35, _⟩ => ⟨S8x4096x128, .f32⟩
  | .local _ .vmem, ⟨0, _⟩ => ⟨S1x512x128, .i32⟩
  | .local _ .vmem, ⟨1, _⟩ => ⟨S1x512x128, .i32⟩
  | .local _ .vmem, ⟨2, _⟩ => ⟨S1x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeReferenceIdeal.lean ====
abbrev S8x4096 : Shape := ⟨2, ![8, 4096]⟩
abbrev S16 : Shape := ⟨1, ![16]⟩
abbrev S_ : Shape := ⟨0, ![]⟩
abbrev S8x4096x1 : Shape := ⟨3, ![8, 4096, 1]⟩
abbrev S1x1x16 : Shape := ⟨3, ![1, 1, 16]⟩
abbrev S8x4096x16 : Shape := ⟨3, ![8, 4096, 16]⟩
abbrev S8x4096x64 : Shape := ⟨3, ![8, 4096, 64]⟩
abbrev S8x4096x32 : Shape := ⟨3, ![8, 4096, 32]⟩
abbrev S8x4096x128 : Shape := ⟨3, ![8, 4096, 128]⟩

abbrev nBuf : Space → Nat
  | .hbm => 33
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8x4096, .f32⟩
  | .hbm, ⟨16, _⟩ => ⟨S8x4096x1, .f32⟩
  | .hbm, ⟨17, _⟩ => ⟨S1x1x16, .f32⟩
  | .hbm, ⟨18, _⟩ => ⟨S8x4096x16, .f32⟩
  | .hbm, ⟨19, _⟩ => ⟨S8x4096x16, .f32⟩
  | .hbm, ⟨20, _⟩ => ⟨S8x4096x16, .f32⟩
  | .hbm, ⟨21, _⟩ => ⟨S8x4096x16, .f32⟩
  | .hbm, ⟨22, _⟩ => ⟨S8x4096x16, .f32⟩
  | .hbm, ⟨23, _⟩ => ⟨S_, .f32⟩
  | .hbm, ⟨24, _⟩ => ⟨S8x4096x64, .f32⟩
  | .hbm, ⟨25, _⟩ => ⟨S_, .f32⟩
  | .hbm, ⟨26, _⟩ => ⟨S8x4096x32, .f32⟩
  | .hbm, ⟨27, _⟩ => ⟨S8x4096x128, .f32⟩
  | .hbm, ⟨28, _⟩ => ⟨S_, .f32⟩
  | .hbm, ⟨29, _⟩ => ⟨S8x4096x64, .f32⟩
  | .hbm, ⟨30, _⟩ => ⟨S_, .f32⟩
  | .hbm, ⟨31, _⟩ => ⟨S8x4096x32, .f32⟩
  | .hbm, ⟨32, _⟩ => ⟨S8x4096x128, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Modulation.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Words.lean ====
/-
  The gather kernel's words as numbers. Vector subcore `s` of SparseCore `c` is worker `s + 16 c`; its trip `k`
  handles window `64 (s + 16 c) + k`, a run of 128 row numbers and of 128 rows of the result. The kernel carries a
  count of windows fetched, one of windows gathered, one of windows written back, and the window's own number; all
  slots are those counts modulo two. Each of the printed offsets, conditions and checks is evaluated here once, over
  every worker and trip.
-/
module

public import proofs.«01_k».proof.Defs
public import proofs.«01_k».proof.Proof.Gen.KernelIdeal
public import proofs.«01_k».proof.Proof.Gen.KernelIdeal.Skeleton

@[expose] public section

set_option maxRecDepth 65536

noncomputable section

namespace Cert.Proof.Rows

open Cert.KernelIdeal Cert.KernelIdeal.Gen
open Idealize.ShloMosaic

/-- The grid point of vector subcore `s` of SparseCore `c`. -/
def pt (c : Fin 2) (s : Fin 16) : grid0.Coords :=
  fun | 0 => c | 1 => s | ⟨_ + 2, h⟩ => absurd h (Nat.not_lt.2 (Nat.le_add_left _ _))

/-- The worker's number. -/
abbrev wk (c : Fin 2) (s : Fin 16) : Nat := s.val + 16 * c.val

theorem trips_eq : k0_t1_loop.trips = 64 := by decide +kernel

/-- Trip `k` of the loop. -/
abbrev tr (k : Fin 64) : Fin k0_t1_loop.trips := Fin.cast trips_eq.symm k

/-- A number as a word. -/
abbrev wd (n : Nat) : BitVec 32 := BitVec.ofNat 32 n

/-- The window's number as the kernel carries it before trip `k`: back at 0 after the last. -/
abbrev wrapped (n : Nat) : BitVec 32 := wd (if n = 64 then 0 else n)

theorem off1_val : k0_off1 = ![0, 0, 0] := by decide +kernel
theorem off3_val : k0_off3 = ![0] := by decide +kernel
theorem off2_val : ∀ c s, k0_off2 (pt c s) = ![0, 128 * (64 * wk c s)] := by decide +kernel
theorem off4_val : ∀ k : Fin 65, k0_off4 (wd k.val) = ![k.val % 2, 0, 0] := by decide +kernel
theorem off6_val : ∀ k : Fin 65, k0_off6 (wd k.val) = ![k.val % 2] := by decide +kernel
theorem off7_val : ∀ k : Fin 65, k0_off7 (wd k.val) = ![k.val % 2, 0, 0] := by decide +kernel
theorem off9_val : ∀ k : Fin 65, k0_off9 (wd k.val) = ![k.val % 2] := by decide +kernel
theorem off10_val : ∀ k : Fin 65, k0_off10 (wd k.val) = ![k.val % 2, 0, 0] := by decide +kernel
theorem off11_val : ∀ k : Fin 65, k0_off11 (wd k.val) = ![k.val % 2, 0, 0] := by decide +kernel
theorem off12_val : ∀ k : Fin 65, k0_off12 (wd k.val) = ![k.val % 2, 0, 0] := by decide +kernel
theorem off14_val : ∀ k : Fin 65, k0_off14 (wd k.val) = ![k.val % 2] := by decide +kernel
theorem off15_val : ∀ k : Fin 65, k0_off15 (wd k.val) = ![k.val % 2, 0, 0] := by decide +kernel
theorem off17_val : ∀ k : Fin 65, k0_off17 (wd k.val) = ![k.val % 2] := by decide +kernel
theorem off18_val : ∀ k : Fin 65, k0_off18 (wd k.val) = ![k.val % 2, 0, 0] := by decide +kernel
theorem off20_val : ∀ k : Fin 65, k0_off20 (wd k.val) = ![k.val % 2] := by decide +kernel
theorem off21_val : ∀ k : Fin 65, k0_off21 (wd k.val) = ![k.val % 2, 0, 0] := by decide +kernel
theorem off5_val : ∀ c s, ∀ k : Fin 63, k0_off5 (pt c s) (wd k.val) = ![0, 128 * (64 * wk c s + (k.val + 1))] := by decide +kernel
theorem off8_val : ∀ c s, ∀ k : Fin 64, k0_off8 (pt c s) (wd k.val) = ![0, 128 * (64 * wk c s + k.val)] := by decide +kernel
theorem off13_val : ∀ c s, ∀ k : Fin 64, k0_off13 (pt c s) (wd k.val) = ![128 * (64 * wk c s + k.val), 0] := by decide +kernel
theorem off16_val : ∀ c s, ∀ k : Fin 63, k0_off16 (pt c s) (wd (k.val + 1)) = ![128 * (64 * wk c s + k.val), 0] := by decide +kernel
theorem off19_val : ∀ c s, k0_off19 (pt c s) (wd 0) = ![128 * (64 * wk c s + 63), 0] := by decide +kernel

theorem cond1_val : ∀ c s, ∀ k : Fin 64, k0_cond1 (pt c s) (tr k) (wd k.val) = if k.val < 63 then 1#1 else 0#1 := by decide +kernel
theorem cond2_val : ∀ c s, ∀ k : Fin 64, k0_cond2 (pt c s) (tr k) (wd k.val) = 1#1 := by decide +kernel
theorem cond5_val : ∀ c s, ∀ k : Fin 64, k0_cond5 (pt c s) (tr k) (wd k.val) = 1#1 := by decide +kernel
theorem cond7_val : ∀ c s, ∀ k : Fin 64, k0_cond7 (pt c s) (tr k) (wd k.val) = if k.val = 0 then 0#1 else 1#1 := by decide +kernel

theorem chk2_val : ∀ k : Fin 65, k0_chk2 (wd k.val) := by decide +kernel
theorem chk3_val : ∀ k : Fin 65, k0_chk3 (wd k.val) := by decide +kernel
theorem chk4_val : k0_chk4 (wd 63) := by decide +kernel
theorem chk5_val : ∀ c s, k0_chk5 (pt c s) (wd 0) := by decide +kernel
theorem chk1_val : ∀ c s, ∀ k : Fin 64,
    k0_chk1 (pt c s) (tr k) (wd (k.val + 1)) (wd k.val) (wd k.val) (wd (k.val - 1)) (wd k.val) := by decide +kernel

end Cert.Proof.Rows

end
-- ==== Proof.Moves.lean ====
/-
  The gather kernel's moves, each stated once over the slot and the window it concerns: fetching a window of row
  numbers into a slot, gathering the rows a slot's numbers name, writing a slot of rows to a window of the result, and
  the waits for each. A program's memref, given by computed offsets, is one of the memrefs named here as soon as its
  offsets are; so the moves are stated over memrefs with an equation, and used with the offsets of `Words.lean`.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic

@[expose] public section

set_option maxRecDepth 65536

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UU : Type := UH × Counters

local notation "𝕄" => MT nD τ sig (HIx 1) (Elt F) ℕ UU ℕ

/-! ## The memrefs by slot and window -/

theorem inb_list (b : Fin 2) : ∀ a, (![b.val, 0, 0] : Fin 3 → ℕ) a + S1x1x128.size a ≤ S2x1x128.size a := by
  revert b; decide
theorem inb_page (b : Fin 2) : ∀ a, (![b.val, 0, 0] : Fin 3 → ℕ) a + S1x128x128.size a ≤ S2x128x128.size a := by
  revert b; decide
theorem inb_sem (b : Fin 2) : ∀ a, (![b.val] : Fin 1 → ℕ) a + S1.size a ≤ S2.size a := by
  revert b; decide
theorem inb_numbers (n : Fin 2048) : ∀ a, (![0, 128 * n.val] : Fin 2 → ℕ) a + S1x128.size a ≤ S1x262144.size a := by
  intro a; match a with
  | 0 => show 0 + 1 ≤ 1; omega
  | 1 => show 128 * n.val + 128 ≤ 262144; omega
theorem inb_result (n : Fin 2048) : ∀ a, (![128 * n.val, 0] : Fin 2 → ℕ) a + S128x128.size a ≤ S262144x128.size a := by
  intro a; match a with
  | 0 => show 128 * n.val + 128 ≤ 262144; omega
  | 1 => show 0 + 128 ≤ 128; omega

/-- Slot `b` of the scratch of row numbers. -/
abbrev listM (b : Fin 2) : Memref sig .scVector .vmem S1x128 .i32 :=
  ((Memref.whole cc0_scoped0).slice (Rect.unit (s := S2x1x128) ![b.val, 0, 0] S1x1x128.size (inb_list b)) (fun _ => rfl)).squeeze S1x128 squeezes_S1x1x128_S1x128
/-- The same as the list the indirect transfer reads. -/
abbrev flatM (b : Fin 2) : Memref sig .scVector .vmem S128 .i32 :=
  ((listM b).slice (Rect.unit (s := S1x128) ![0, 0] S1x128.size inb_S1x128_S1x128_0_0) (fun _ => rfl)).squeeze S128 squeezes_S1x128_S128
/-- Slot `b` of the scratch of rows. -/
abbrev pageM (b : Fin 2) : Memref sig .scVector .vmem S128x128 .i32 :=
  ((Memref.whole cc0_scoped2).slice (Rect.unit (s := S2x128x128) ![b.val, 0, 0] S1x128x128.size (inb_page b)) (fun _ => rfl)).squeeze S128x128 squeezes_S1x128x128_S128x128
/-- Window `n` of the row numbers. -/
abbrev numsM (n : Fin 2048) : Memref sig .scVector .hbm S1x128 .i32 :=
  (Memref.whole main_v10_scv).slice (Rect.unit (s := S1x262144) ![0, 128 * n.val] S1x128.size (inb_numbers n)) (fun _ => rfl)
/-- Window `n` of the result. -/
abbrev resM (n : Fin 2048) : Memref sig .scVector .hbm S128x128 .i32 :=
  (Memref.whole main_v11_scv).slice (Rect.unit (s := S262144x128) ![128 * n.val, 0] S128x128.size (inb_result n)) (fun _ => rfl)
/-- All rows. -/
abbrev rowsM : Memref sig .scVector .hbm S294912x128 .i32 :=
  (Memref.whole main_v8_scv).slice (Rect.unit (s := S294912x128) ![0, 0] S294912x128.size inb_S294912x128_S294912x128_0_0) (fun _ => rfl)
/-- The semaphores of the two slots of row numbers, and of the two slots of rows. -/
abbrev listSem (b : Fin 2) : DmaSem sig :=
  ((cc0_scoped1.slice (Rect.unit (s := S2) ![b.val] S1.size (inb_sem b))).squeeze S_ squeezes_S1_S_).sem
abbrev pageSem (b : Fin 2) : DmaSem sig :=
  ((cc0_scoped3.slice (Rect.unit (s := S2) ![b.val] S1.size (inb_sem b))).squeeze S_ squeezes_S1_S_).sem

theorem listM_of {b : Fin 2} {off : Fin 3 → ℕ} (h : off = ![b.val, 0, 0]) (inb) :
    ((Memref.whole cc0_scoped0).slice (Rect.unit (s := S2x1x128) off S1x1x128.size inb) (fun _ => rfl)).squeeze S1x128 squeezes_S1x1x128_S1x128 = listM b := by
  subst h; rfl
theorem pageM_of {b : Fin 2} {off : Fin 3 → ℕ} (h : off = ![b.val, 0, 0]) (inb) :
    ((Memref.whole cc0_scoped2).slice (Rect.unit (s := S2x128x128) off S1x128x128.size inb) (fun _ => rfl)).squeeze S128x128 squeezes_S1x128x128_S128x128 = pageM b := by
  subst h; rfl
theorem numsM_of {n : Fin 2048} {off : Fin 2 → ℕ} (h : off = ![0, 128 * n.val]) (inb) :
    (Memref.whole main_v10_scv).slice (Rect.unit (s := S1x262144) off S1x128.size inb) (fun _ => rfl) = numsM n := by
  subst h; rfl
theorem resM_of {n : Fin 2048} {off : Fin 2 → ℕ} (h : off = ![128 * n.val, 0]) (inb) :
    (Memref.whole main_v11_scv).slice (Rect.unit (s := S262144x128) off S128x128.size inb) (fun _ => rfl) = resM n := by
  subst h; rfl
theorem listSem_of {b : Fin 2} {off : Fin 1 → ℕ} (h : off = ![b.val]) (inb) :
    ((cc0_scoped1.slice (Rect.unit (s := S2) off S1.size inb)).squeeze S_ squeezes_S1_S_).sem = listSem b := by
  subst h; rfl
theorem pageSem_of {b : Fin 2} {off : Fin 1 → ℕ} (h : off = ![b.val]) (inb) :
    ((cc0_scoped3.slice (Rect.unit (s := S2) off S1.size inb)).squeeze S_ squeezes_S1_S_).sem = pageSem b := by
  subst h; rfl

/-! ## Where the memrefs lie -/

theorem numsM_emb (n : Fin 2048) (i : S1x128.Idx) :
    (((numsM n).view.emb i : S1x262144.Idx) 0).val = 0 ∧ (((numsM n).view.emb i : S1x262144.Idx) 1).val = 128 * n.val + (i 1).val := by
  have h0 := (i 0).isLt
  have h0' : (i 0).val < 1 := h0
  constructor
  · show 0 + 1 * (i 0).val = 0; omega
  · show 128 * n.val + 1 * (i 1).val = _; omega

theorem resM_emb (n : Fin 2048) (i : S128x128.Idx) :
    (((resM n).view.emb i : S262144x128.Idx) 0).val = 128 * n.val + (i 0).val ∧ (((resM n).view.emb i : S262144x128.Idx) 1).val = (i 1).val := by
  constructor
  · show 128 * n.val + 1 * (i 0).val = _; omega
  · show 0 + 1 * (i 1).val = _; omega

theorem rowsM_emb (j : S294912x128.Idx) : (rowsM.view.emb j : S294912x128.Idx) = j := by
  funext a; match a with
  | 0 => exact Fin.ext (show 0 + 1 * (j 0).val = (j 0).val by omega)
  | 1 => exact Fin.ext (show 0 + 1 * (j 1).val = (j 1).val by omega)

/-- The flat list's place `x` in the slot. -/
def flatIx (x : S128.Idx) : S1x128.Idx :=
  (Rect.unit (s := S1x128) ![0, 0] S1x128.size inb_S1x128_S1x128_0_0).emb (Shape.reshapeEquiv squeezes_S1x128_S128.numel_eq x)

theorem flatIx_one (x : S128.Idx) : (flatIx x 1).val = (x 0).val := by
  have h := Shape.rowMajor_reshapeEquiv squeezes_S1x128_S128.numel_eq x
  have h' := h
  have h0 : ((Shape.reshapeEquiv squeezes_S1x128_S128.numel_eq x : S1x128.Idx) 0).val < 1 := Fin.isLt _
  show 0 + 1 * ((Shape.reshapeEquiv squeezes_S1x128_S128.numel_eq x : S1x128.Idx) 1).val = _
  simp only [Shape.rowMajor_val_two, Shape.rowMajor_val_one, Fin.val_cast] at h'
  have e : ((Shape.reshapeEquiv squeezes_S1x128_S128.numel_eq x : S1x128.Idx) 0).val = 0 := by omega
  rw [e] at h'; omega

theorem flat_read {Val : EltTy → Type} (b : Fin 2) (f : (Memref.view (listM b)).ty.Contents Val) (x : S128.Idx) :
    (flatM b).view.read Val f x = (listM b).view.read Val f (flatIx x) := by
  rw [View.read_apply, View.read_apply]; rfl

/-! ## What is read and what is left -/

section Contents

variable (X : S294912x128.Idx → Elt F .i32) (I : S1x262144.Idx → Elt F .i32)

/-- Every number names a row. -/
def Names : Prop := ∀ j, (I j).toNat < 294912

/-- The result: row `R` is the row that number `R` names. -/
def gathered (hI : Names I) : S262144x128.Idx → Elt F .i32 := fun j =>
  X (fun | 0 => ⟨(I (fun | 0 => (0 : Fin 1) | 1 => j 0)).toNat, hI _⟩ | 1 => j 1)

/-- Window `n`'s numbers. -/
abbrev nums (n : Fin 2048) : S1x128.Idx → Elt F .i32 := (numsM n).view.read (Elt F) I

theorem nums_lt {I : S1x262144.Idx → Elt F .i32} (hI : Names I) (n : Fin 2048) (i : S1x128.Idx) : (nums I n i).toNat < 294912 := by
  unfold nums; rw [View.read_apply]; exact hI _

/-- The rows window `n`'s numbers name. -/
def page (hI : Names I) (n : Fin 2048) : S128x128.Idx → Elt F .i32 :=
  SparseCore.gatherPayload gathers_S294912x128_S128x128 (rowsM.view.read (Elt F) X)
    (SparseCore.rows (F := F) (si := S128) (fun x => nums I n (flatIx x)) rfl fun x => nums_lt hI n (flatIx x))

/-- They are the result's window. -/
theorem page_eq (hI : Names I) (n : Fin 2048) (i : S128x128.Idx) :
    page X I hI n i = gathered X I hI ((resM n).view.emb i) := by
  unfold page SparseCore.gatherPayload gathered
  rw [View.read_apply]
  refine (cast_eq _ _).trans (congrArg X ?_)
  rw [rowsM_emb]
  obtain ⟨e0, e1⟩ := resM_emb n i
  funext a
  match a with
  | 0 =>
    refine (Shape.Gathers.idx_axis gathers_S294912x128_S128x128 _ i).trans (Fin.ext ?_)
    show (nums I n _).toNat = (I _).toNat
    unfold nums
    rw [View.read_apply, show ∀ v : Elt F .i32, cast rfl v = v from fun v => rfl]
    refine congrArg (fun j => (I j).toNat) ?_
    obtain ⟨f0, f1⟩ := numsM_emb n (flatIx (S128.rowMajor.symm (Fin.cast rfl (i 0))))
    funext b
    match b with
    | 0 => exact Fin.ext f0
    | 1 =>
      refine Fin.ext (f1.trans ?_)
      rw [flatIx_one]
      refine Eq.trans ?_ e0.symm
      have := congrArg Fin.val (S128.rowMajor.apply_symm_apply (Fin.cast rfl (i 0)))
      rw [Shape.rowMajor_val_one] at this
      exact congrArg (128 * n.val + ·) this
  | 1 =>
    exact Fin.ext ((Shape.Gathers.idx_of_ne gathers_S294912x128_S128x128 _ i 1 (by decide)).trans e1.symm)

end Contents

/-! ## The resources, and the moves -/

section Moves

variable [FloatOps F]
variable (X : S294912x128.Idx → Elt F .i32) (I : S1x262144.Idx → Elt F .i32) (hI : Names I)
variable (d : Dev nD) (c : Fin τ.nSC) (s : Fin τ.nSub)

/-- The vector subcore's thread. -/
abbrev me : Thread nD τ := V d c s

/-- A slot of row numbers: at anything, at window `n`'s. -/
def listAny (b : Fin 2) : sProp 𝕄 := iprop(∃ f, (listM b).view.loc (me d c s) ↦[(listM b).view.set]{fullShare} f)
def listAt (b : Fin 2) (n : Fin 2048) : sProp 𝕄 :=
  iprop(∃ f, ⌜(listM b).view.read (Elt F) f = nums I n⌝ ∗ (listM b).view.loc (me d c s) ↦[(listM b).view.set]{fullShare} f)
/-- A slot of rows: at anything, at those window `n` names. -/
def pageAny (b : Fin 2) : sProp 𝕄 := iprop(∃ f, (pageM b).view.loc (me d c s) ↦[(pageM b).view.set]{fullShare} f)
def pageAt (b : Fin 2) (n : Fin 2048) : sProp 𝕄 :=
  iprop(∃ f, ⌜(pageM b).view.read (Elt F) f = page X I hI n⌝ ∗ (pageM b).view.loc (me d c s) ↦[(pageM b).view.set]{fullShare} f)
/-- Window `n` of the numbers, and all rows, at a share. -/
def numsPts (q : PosShare TreeShare) (n : Fin 2048) : sProp 𝕄 := (numsM n).view.loc (me d c s) ↦[(numsM n).view.set]{q} I
def rowsPts (q : PosShare TreeShare) : sProp 𝕄 := rowsM.view.loc (me d c s) ↦[rowsM.view.set]{q} X
/-- Window `n` of the result: at anything, as it is to be. -/
def resAny (n : Fin 2048) : sProp 𝕄 := iprop(∃ f, (resM n).view.loc (me d c s) ↦[(resM n).view.set]{fullShare} f)
def resDone (n : Fin 2048) : sProp 𝕄 := (resM n).view.loc (me d c s) ↦[(resM n).view.set]{fullShare} gathered X I hI

/-- Window `n`'s numbers on their way to slot `b`; slot `b`'s rows on their way to window `n` of the result. -/
def listFlight (q : PosShare TreeShare) (b : Fin 2) (n : Fin 2048) : sProp 𝕄 :=
  Transfers.Flight countersEmb (me d c s) (.dma (listSem b)) (default : HIx 1) (listM b).view.dmaCredit iprop(listAt I d c s b n ∗ numsPts I d c s q n)
def pageFlight (b : Fin 2) (n : Fin 2048) : sProp 𝕄 :=
  Transfers.Flight countersEmb (me d c s) (.dma (pageSem b)) (default : HIx 1) (resM n).view.dmaCredit iprop(resDone X I hI d c s n ∗ pageAny d c s b)

variable {α : Type} {Q : α → sProp (MT nD τ sig (HIx 1) (Elt F) ℕ UU ℕ)}

/-- Starting the fetch of window `n` into slot `b`. -/
theorem wp_fetch (q : PosShare TreeShare) (b : Fin 2) (n : Fin 2048)
    {src : Memref sig .scVector .hbm S1x128 .i32} {dst : Memref sig .scVector .vmem S1x128 .i32} {sem : DmaSem sig}
    (hs : src = numsM n) (hd : dst = listM b) (hm : sem = listSem b)
    {h1 h2 h3} {k : PUnit → Prog (TpuEff nD τ sig (Elt F) Λ₀ (me d c s).2) α} :
    iprop(numsPts I d c s q n ∗ listAny d c s b ∗ semVal (me d c s, SemLoc.dma (listSem b)) 0)
      ⊢ iprop((listFlight I d c s q b n -∗ wp frame (wpE (defs₀ (F := F)) Variants.none (me d c s) none) Set.univ (k ⟨⟩) Q)
        -∗ wp frame (wpE (defs₀ (F := F)) Variants.none (me d c s) none) Set.univ
            (.op (.enqueueDma src (.here dst) (.dma sem) h1 h2 h3) k) Q) := by
  subst hs hd hm
  unfold listAny numsPts listFlight
  iintro ⟨Hn, ⟨%f, Hl⟩, Hs⟩ Hk
  iapply (Transfers.wp_dmaLocal countersEmb Variants.none (me d c s) none (default : HIx 1) (listM b).view.dmaCredit rfl
    (View.dmaCredit_pos _ (by decide)) (Finset.Subset.refl _)) $$ [Hn Hl Hs]
  · isplitl [Hn]; · iexact Hn
    isplitl [Hl] <;> iassumption
  iintro Hf
  iapply Hk
  iapply (Transfers.Flight_mono countersEmb (me d c s) (D := iprop(((listM b).view.loc (me d c s) ↦[(listM b).view.set]{fullShare}
    (listM b).view.write (Elt F) f ((numsM n).view.read (Elt F) I) Finset.univ) ∗ ((numsM n).view.loc (me d c s) ↦[(numsM n).view.set]{q} I)))
    (by
      unfold listAt numsPts
      iintro ⟨H, Hn⟩
      isplitl [H]
      · iexists ((listM b).view.write (Elt F) f ((numsM n).view.read (Elt F) I) Finset.univ); isplitr
        · ipureintro; exact View.read_write_univ _ _
        · iexact H
      · iexact Hn))
  iexact Hf

/-- Waiting for it. -/
theorem wp_fetched (q : PosShare TreeShare) (b : Fin 2) (n : Fin 2048) (O : CellTallies nD τ sig (HIx 1)) (W : Waits sig (HIx 1))
    {src : Memref sig .scVector .hbm S1x128 .i32} {dst : Memref sig .scVector .vmem S1x128 .i32} {sem : DmaSem sig}
    (hd : dst = listM b) (hm : sem = listSem b)
    {h1 h2} {k : PUnit → Prog (TpuEff nD τ sig (Elt F) Λ₀ (me d c s).2) α} :
    iprop(listFlight I d c s q b n ∗ owes (me d c s) O W ∗ Transfers.MayWaits (me d c s) (default : HIx 1) O)
      ⊢ iprop((iprop(listAt I d c s b n ∗ numsPts I d c s q n ∗ semVal (me d c s, SemLoc.dma (listSem b)) 0
            ∗ owes (me d c s) O (insert (SemLoc.dma (listSem b), default) W))
          -∗ wp frame (wpE (defs₀ (F := F)) Variants.none (me d c s) none) Set.univ (k ⟨⟩) Q)
        -∗ wp frame (wpE (defs₀ (F := F)) Variants.none (me d c s) none) Set.univ (.op (.waitDma2 sem src dst h1 h2) k) Q) := by
  subst hd hm
  unfold listFlight
  iintro ⟨Hf, HO, Hmw⟩ Hk
  iapply (Transfers.wp_waitLocalO countersEmb Variants.none (me d c s) none (default : HIx 1) (rfl : (listM b).view.dmaCredit = _)) $$ [Hf HO Hmw]
  · isplitl [Hf]; · iexact Hf
    isplitl [HO]; · iexact HO
    iapply (Transfers.MayWaits.elim (SemLoc.dma (listSem b))) $$ Hmw
  iintro ⟨⟨Hl, Hn⟩, Hs, HO⟩
  iapply Hk
  isplitl [Hl]; · iexact Hl
  isplitl [Hn]; · iexact Hn
  isplitl [Hs] <;> iassumption

/-- Starting the write of slot `b`, holding window `n`'s rows, to the result. -/
theorem wp_store (b : Fin 2) (n : Fin 2048)
    {src : Memref sig .scVector .vmem S128x128 .i32} {dst : Memref sig .scVector .hbm S128x128 .i32} {sem : DmaSem sig}
    (hs : src = pageM b) (hd : dst = resM n) (hm : sem = pageSem b)
    {h1 h2 h3} {k : PUnit → Prog (TpuEff nD τ sig (Elt F) Λ₀ (me d c s).2) α} :
    iprop(pageAt X I hI d c s b n ∗ resAny d c s n ∗ semVal (me d c s, SemLoc.dma (pageSem b)) 0)
      ⊢ iprop((pageFlight X I hI d c s b n -∗ wp frame (wpE (defs₀ (F := F)) Variants.none (me d c s) none) Set.univ (k ⟨⟩) Q)
        -∗ wp frame (wpE (defs₀ (F := F)) Variants.none (me d c s) none) Set.univ
            (.op (.enqueueDma src (.here dst) (.dma sem) h1 h2 h3) k) Q) := by
  subst hs hd hm
  unfold pageAt resAny pageFlight
  iintro ⟨⟨%f, %hf, Hp⟩, ⟨%g, Hr⟩, Hs⟩ Hk
  iapply (Transfers.wp_dmaLocal countersEmb Variants.none (me d c s) none (default : HIx 1) (resM n).view.dmaCredit rfl
    (View.dmaCredit_pos _ (by decide)) (Finset.Subset.refl _)) $$ [Hp Hr Hs]
  · isplitl [Hp]; · iexact Hp
    isplitl [Hr] <;> iassumption
  iintro Hf
  iapply Hk
  iapply (Transfers.Flight_mono countersEmb (me d c s) (D := iprop(((resM n).view.loc (me d c s) ↦[(resM n).view.set]{fullShare}
    (resM n).view.write (Elt F) g ((pageM b).view.read (Elt F) f) Finset.univ) ∗ ((pageM b).view.loc (me d c s) ↦[(pageM b).view.set]{fullShare} f)))
    (by
      unfold resDone pageAny
      iintro ⟨H, Hn⟩
      isplitl [H]
      · iapply (Entails.of_eq (pointsTo_congr (f := (resM n).view.write (Elt F) g ((pageM b).view.read (Elt F) f) Finset.univ) (g := gathered X I hI) (by
          intro i hi
          obtain ⟨x, rfl⟩ := View.exists_emb_of_mem_set (resM n).view hi
          refine (View.write_emb_of_mem _ _ (Finset.mem_univ x)).trans ((cast_eq _ _).trans ?_)
          rw [hf, page_eq])))
        iexact H
      · iexists f; iexact Hn))
  iexact Hf

/-- Waiting for it. -/
theorem wp_stored (b : Fin 2) (n : Fin 2048) (O : CellTallies nD τ sig (HIx 1)) (W : Waits sig (HIx 1))
    {src : Memref sig .scVector .vmem S128x128 .i32} {dst : Memref sig .scVector .hbm S128x128 .i32} {sem : DmaSem sig}
    (hd : dst = resM n) (hm : sem = pageSem b)
    {h1 h2} {k : PUnit → Prog (TpuEff nD τ sig (Elt F) Λ₀ (me d c s).2) α} :
    iprop(pageFlight X I hI d c s b n ∗ owes (me d c s) O W ∗ Transfers.MayWaits (me d c s) (default : HIx 1) O)
      ⊢ iprop((iprop(resDone X I hI d c s n ∗ pageAny d c s b ∗ semVal (me d c s, SemLoc.dma (pageSem b)) 0
            ∗ owes (me d c s) O (insert (SemLoc.dma (pageSem b), default) W))
          -∗ wp frame (wpE (defs₀ (F := F)) Variants.none (me d c s) none) Set.univ (k ⟨⟩) Q)
        -∗ wp frame (wpE (defs₀ (F := F)) Variants.none (me d c s) none) Set.univ (.op (.waitDma2 sem src dst h1 h2) k) Q) := by
  subst hd hm
  unfold pageFlight
  iintro ⟨Hf, HO, Hmw⟩ Hk
  iapply (Transfers.wp_waitLocalO countersEmb Variants.none (me d c s) none (default : HIx 1) (rfl : (resM n).view.dmaCredit = _)) $$ [Hf HO Hmw]
  · isplitl [Hf]; · iexact Hf
    isplitl [HO]; · iexact HO
    iapply (Transfers.MayWaits.elim (SemLoc.dma (pageSem b))) $$ Hmw
  iintro ⟨⟨Hl, Hn⟩, Hs, HO⟩
  iapply Hk
  isplitl [Hl]; · iexact Hl
  isplitl [Hn]; · iexact Hn
  isplitl [Hs] <;> iassumption

theorem credit_page : ∀ b : Fin 2, ∑ j, ((pageM b).slice (S128x128.rowRect gathers_S294912x128_S128x128.axis' j)
    (S128x128.stride_rowRect gathers_S294912x128_S128x128.axis' j)).view.dmaCredit = (pageM b).view.dmaCredit := by decide

/-- The indirect transfer of the rows that slot `b`'s numbers name, and its wait. -/
theorem wp_gather (q : PosShare TreeShare) (b : Fin 2) (n : Fin 2048) (O : CellTallies nD τ sig (HIx 1)) (W : Waits sig (HIx 1))
    {dst dst' : Memref sig .scVector .vmem S128x128 .i32} {lst : Memref sig .scVector .vmem S128 .i32}
    (hd : dst = pageM b) (hd' : dst' = pageM b) (hl : lst = flatM b)
    {src' : Memref sig .scVector .hbm S294912x128 .i32} {h1 h2 h3 h4 h5} {h6 : src'.view.WordExact} {h7 : dst'.view.WordExact}
    {k : PUnit → Prog (TpuEff nD τ sig (Elt F) Λ₀ (me d c s).2) α} :
    iprop(rowsPts X d c s q ∗ pageAny d c s b ∗ listAt I d c s b n ∗ semVal (me d c s, SemLoc.dma cc0_scoped4.sem) 0
        ∗ owes (me d c s) O W ∗ Transfers.MayWaits (me d c s) (default : HIx 1) O)
      ⊢ iprop((iprop(rowsPts X d c s q ∗ pageAt X I hI d c s b n ∗ listAny d c s b ∗ semVal (me d c s, SemLoc.dma cc0_scoped4.sem) 0
            ∗ owes (me d c s) O (insert (SemLoc.dma cc0_scoped4.sem, default) W))
          -∗ wp frame (wpE (defs₀ (F := F)) Variants.none (me d c s) none) Set.univ (k ⟨⟩) Q)
        -∗ wp frame (wpE (defs₀ (F := F)) Variants.none (me d c s) none) Set.univ
            (SparseCore.enqueueIndirectGather h1 rowsM dst gathers_S294912x128_S128x128 lst h2 cc0_scoped4.sem h3 h4 h5 >>= fun _ =>
              SparseCore.waitIndirectGather cc0_scoped4.sem src' dst' h6 h7 >>= k) Q) := by
  subst hd hd' hl
  unfold rowsPts pageAny listAt
  iintro ⟨Hx, ⟨%f, Hp⟩, ⟨%l, %hl, Hl⟩, Hs, HO, Hmw⟩ Hk
  have hread : ∀ x, (flatM b).view.read (Elt F) l x = nums I n (flatIx x) := fun x => (flat_read b l x).trans (congrFun hl _)
  have hin : ∀ x, ((flatM b).view.read (Elt F) l x).toNat < S294912x128.size gathers_S294912x128_S128x128.axis := fun x => by
    rw [hread]; exact nums_lt hI n _
  have hset : (flatM b).view.set = (listM b).view.set := by
    refine (View.set_reshape _ _).trans ((View.set_slice _ _).trans ?_)
    rw [show (Rect.unit (s := S1x128) ![0, 0] S1x128.size inb_S1x128_S1x128_0_0).set = Finset.univ from
      Finset.eq_univ_of_forall fun i => Rect.mem_set_unit.mpr fun a => match a with
        | 0 => ⟨Nat.zero_le _, by have := (i 0).isLt; show (i 0).val < 0 + _; omega⟩
        | 1 => ⟨Nat.zero_le _, by have := (i 1).isLt; show (i 1).val < 0 + _; omega⟩]
    rfl
  iapply (SparseCore.wp_indirectGatherLocal countersEmb Variants.none (me d c s) none (hg := gathers_S294912x128_S128x128) (default : HIx 1)
      (pageM b).view.dmaCredit (credit_page b) (by decide) hin) $$ [Hx Hp Hl Hs]
  · isplitl [Hx]; · iexact Hx
    isplitl [Hp]; · iexact Hp
    isplitl [Hl]
    · rw [hset]; iexact Hl
    iexact Hs
  iintro Hf
  rw [show ∀ k', SparseCore.waitIndirectGather (F := F) (nD := nD) (τ := τ) (Λ := Λ₀) (p := (me d c s).2) cc0_scoped4.sem src' (pageM b) h6 h7 >>= k' = .op (.waitDma2 cc0_scoped4.sem src' (pageM b) h6 h7) k' from fun _ => rfl]
  iapply (Transfers.wp_waitLocalO countersEmb Variants.none (me d c s) none (default : HIx 1) (rfl : (pageM b).view.dmaCredit = _)) $$ [Hf HO Hmw]
  · isplitl [Hf]; · iexact Hf
    isplitl [HO]; · iexact HO
    iapply (Transfers.MayWaits.elim (SemLoc.dma cc0_scoped4.sem)) $$ Hmw
  iintro ⟨⟨Hp, Hx, Hl⟩, Hs, HO⟩
  iapply Hk
  isplitl [Hx]; · iexact Hx
  isplitl [Hp]
  · unfold pageAt
    iexists _; isplitr
    swap; · iexact Hp
    ipureintro
    refine (View.read_write_univ _ _).trans ?_
    unfold page
    refine congrArg (SparseCore.gatherPayload gathers_S294912x128_S128x128 (rowsM.view.read (Elt F) X)) (funext fun j => ?_)
    have e := congrArg BitVec.toNat (hread (S128.rowMajor.symm (Fin.cast rfl j)))
    exact Fin.ext e
  isplitl [Hl]
  · unfold listAny
    iexists l; rw [← hset]; iexact Hl
  isplitl [Hs] <;> iassumption

end Moves

end Cert.Proof.Rows

end
-- ==== Proof.Trip.lean ====
/-
  One trip of the gather kernel's pipeline. Before trip `k` the numbers of window `k` are on their way into slot
  `k mod 2`, the rows of window `k - 1` are on their way out of the other slot of rows, and the two remaining slots
  are idle. The trip starts the fetch of window `k + 1`, awaits window `k`'s numbers, gathers their rows, starts writing
  them out and awaits the write of window `k - 1`: the same state with `k + 1` for `k`.
-/
module

public import proofs.«01_k».proof.Proof.Moves

@[expose] public section

set_option maxRecDepth 65536

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Slots and windows by trip -/

/-- Trip `k`'s slot. -/
abbrev bit (k : ℕ) : Fin 2 := ⟨k % 2, Nat.mod_lt _ (by decide)⟩

theorem bit_add_two (k : ℕ) : bit (k + 2) = bit k := Fin.ext (Nat.add_mod_right k 2)

variable (d : Dev nD) (c : Fin 2) (s : Fin 16)

/-- The worker's window of trip `k`. -/
def win (k : Fin 64) : Fin 2048 := ⟨64 * wk c s + k.val, by have := c.isLt; have := s.isLt; have := k.isLt; unfold wk; omega⟩

abbrev cV : Fin τ.nSC := (pt c s 0).castLE hcore0
abbrev sV : Fin τ.nSub := (pt c s 1).castLE hsub0

abbrev xLoc : Loc nD τ sig := (SparseCore.T d).loc main_v8
abbrev nLoc : Loc nD τ sig := (SparseCore.T d).loc main_v10
abbrev oLoc : Loc nD τ sig := (SparseCore.T d).loc main_v11

/-- Rows `128 a` up to `128 b` of the result. -/
def span (a b : ℕ) : Finset S262144x128.Idx := Finset.univ.filter fun j => 128 * a ≤ (j 0).val ∧ (j 0).val < 128 * b

theorem mem_span {a b : ℕ} {j : S262144x128.Idx} : j ∈ span a b ↔ 128 * a ≤ (j 0).val ∧ (j 0).val < 128 * b := by simp [span]

theorem set_resM (n : Fin 2048) : (resM n).view.set = span n.val (n.val + 1) := by
  refine (View.set_slice_whole _ _).trans (Finset.ext fun j => ?_)
  rw [mem_span]
  refine Rect.mem_set_unit.trans ⟨fun h => ?_, fun h a => ?_⟩
  · obtain ⟨h1, h2⟩ := h 0
    have h1' : 128 * n.val ≤ (j 0).val := h1
    have h2' : (j 0).val < 128 * n.val + 128 := h2
    constructor <;> omega
  · match a with
    | 0 => exact ⟨h.1, show (j 0).val < 128 * n.val + 128 by omega⟩
    | 1 => exact ⟨Nat.zero_le _, by have h1 : (j 1).val < 128 := (j 1).isLt; show (j 1).val < 0 + 128; omega⟩

theorem span_union {a b e : ℕ} (h : a ≤ b) (h' : b ≤ e) : span a e = span a b ∪ span b e := by
  ext j; simp only [Finset.mem_union, mem_span]; omega

theorem span_disjoint (a b e : ℕ) : Disjoint (span a b) (span b e) :=
  Finset.disjoint_left.mpr fun j h h' => by rw [mem_span] at h h'; omega

variable [FloatOps F]
variable (X : S294912x128.Idx → Elt F .i32) (I : S1x262144.Idx → Elt F .i32) (hI : Names I)

/-- The part of the result still to be written from trip `k` on; the part written before it. -/
def todo (k : ℕ) : sProp 𝕄 := iprop(∃ f : Buf (Elt F) (oLoc d), oLoc d ↦[span (64 * wk c s + k) (64 * wk c s + 64)]{fullShare} f)
def doneTo (k : ℕ) : sProp 𝕄 := oLoc d ↦[span (64 * wk c s) (64 * wk c s + k)]{fullShare} gathered X I hI

theorem todo_split (k : Fin 64) : (todo (F := F) d c s k.val : sProp 𝕄) ⊢ iprop(resAny d (cV c s) (sV c s) (win c s k) ∗ todo d c s (k.val + 1)) := by
  unfold todo resAny
  iintro ⟨%f, H⟩
  have e : span (64 * wk c s + k.val) (64 * wk c s + 64) = span (64 * wk c s + k.val) (64 * wk c s + (k.val + 1)) ∪ span (64 * wk c s + (k.val + 1)) (64 * wk c s + 64) :=
    span_union (by omega) (by have := k.isLt; omega)
  rw [e]
  ihave H' := (pointsTo_union (ℓ := oLoc d) (q := fullShare) (f := f) (span_disjoint _ _ _)).1 $$ H
  icases H' with ⟨Ha, Hb⟩
  isplitl [Ha]
  · iexists f; rw [set_resM]; iexact Ha
  · iexists f; iexact Hb

theorem doneTo_succ (k : Fin 64) : iprop(doneTo d c s X I hI k.val ∗ resDone X I hI d (cV c s) (sV c s) (win c s k)) ⊢ (doneTo d c s X I hI (k.val + 1) : sProp 𝕄) := by
  unfold doneTo resDone
  rw [set_resM, show span (64 * wk c s) (64 * wk c s + (k.val + 1)) = span (64 * wk c s) (64 * wk c s + k.val) ∪ span (64 * wk c s + k.val) (64 * wk c s + (k.val + 1)) from
    span_union (by omega) (by omega)]
  exact (pointsTo_union (ℓ := oLoc d) (q := fullShare) (f := gathered X I hI) (span_disjoint _ _ _)).2

/-! ## The state between trips -/

variable (qx qn : PosShare TreeShare)

/-- Slot `b`'s half of the share of the numbers. -/
def half (b : Fin 2) : PosShare TreeShare := match b with | 0 => qn.left | 1 => qn.right

/-- Slot `b` of numbers idle; window `n` on its way into it. -/
def listIdle (b : Fin 2) : sProp 𝕄 :=
  iprop(listAny d (cV c s) (sV c s) b ∗ semVal (me d (cV c s) (sV c s), SemLoc.dma (listSem b)) 0 ∗ (nLoc d ↦{half qn b} I))
def listBusy (b : Fin 2) (n : Fin 2048) : sProp 𝕄 :=
  iprop(listFlight I d (cV c s) (sV c s) (half qn b) b n ∗ (nLoc d ↦[Finset.univ \ (numsM n).view.set]{half qn b} I))
/-- Slot `b` of rows idle. -/
def pageIdle (b : Fin 2) : sProp 𝕄 :=
  iprop(pageAny d (cV c s) (sV c s) b ∗ semVal (me d (cV c s) (sV c s), SemLoc.dma (pageSem b)) 0)

/-- Trip `k`'s slot of numbers before it; the other slot of rows. -/
def listState (k : ℕ) : sProp 𝕄 :=
  if h : k < 64 then listBusy d c s I qn (bit k) (win c s ⟨k, h⟩) else listIdle d c s I qn (bit k)
def pageState : ℕ → sProp 𝕄
  | 0 => iprop(pageIdle d c s 1 ∗ doneTo d c s X I hI 0)
  | k + 1 => if h : k < 64 then iprop(pageFlight X I hI d (cV c s) (sV c s) (bit k) (win c s ⟨k, h⟩) ∗ doneTo d c s X I hI k) else iprop(emp)

/-- The wait set with waits on the subcore's own transfers added. -/
def owing (O : CellTallies nD τ sig (HIx 1)) (W : Waits sig (HIx 1)) : sProp 𝕄 :=
  iprop(∃ W', ⌜∀ p ∈ W', p ∈ W ∨ p.2 = none⌝ ∗ owes (me d (cV c s) (sV c s)) O W')

theorem owing_insert {W W' : Waits sig (HIx 1)} (h : ∀ p ∈ W', p ∈ W ∨ p.2 = none) (l : SemLoc sig) :
    ∀ p ∈ insert (l, (default : HIx 1)) W', p ∈ W ∨ p.2 = none := fun p hp =>
  (Finset.mem_insert.mp hp).elim (fun e => .inr (e ▸ rfl)) (h p)

theorem owing_intro {O : CellTallies nD τ sig (HIx 1)} {W W' : Waits sig (HIx 1)} (h : ∀ p ∈ W', p ∈ W ∨ p.2 = none) :
    (owes (me d (cV c s) (sV c s)) O W' : sProp 𝕄) ⊢ owing d c s O W := by
  unfold owing
  iintro H
  iexists W'
  isplitl []
  · ipureintro; exact h
  · iexact H

theorem owing_out {O : CellTallies nD τ sig (HIx 1)} {W : Waits sig (HIx 1)} :
    (owing d c s O W : sProp 𝕄) ⊢ iprop(∃ W', ⌜∀ p ∈ W', p ∈ W ∨ p.2 = none⌝ ∗ owes (me d (cV c s) (sV c s)) O W') := .rfl

/-- The state before trip `k`. -/
def state (O : CellTallies nD τ sig (HIx 1)) (W : Waits sig (HIx 1)) (k : ℕ) : sProp 𝕄 :=
  iprop(Transfers.MayWaits (me d (cV c s) (sV c s)) (default : HIx 1) O
    ∗ listState d c s I qn k ∗ listIdle d c s I qn (bit (k + 1))
    ∗ pageState d c s X I hI k ∗ pageIdle d c s (bit k) ∗ todo d c s k
    ∗ rowsPts X d (cV c s) (sV c s) qx ∗ semVal (me d (cV c s) (sV c s), SemLoc.dma cc0_scoped4.sem) 0
    ∗ owing d c s O W)

/-- The carried counts before trip `k`. -/
def carried (k : ℕ) : BitVec 32 × BitVec 32 × BitVec 32 × BitVec 32 × BitVec 32 :=
  (wd (min (k + 1) 64), wd k, wd k, wd (k - 1), wrapped k)

theorem lift_bind {E : Type → Type} {α β : Type} (op : E α) (k : α → Prog E β) : (Prog.lift op >>= k) = Prog.op op k := rfl

/-- A truth value as a word. -/
abbrev flag (p : Bool) : BitVec 1 := BitVec.ofBool p

/-- What the first part of trip `k` hands on: whether the trip is the first, whether it is the last, the numbers of the
    window, of the one before it and of the one after it (around the worker's 64), and the count of windows fetched. -/
def handed (k : Fin 64) (v64 v65 : BitVec 1) (v66 v71 v76 v91 : BitVec 32) : Prop :=
  v64 = flag (k.val = 0) ∧ v65 = flag (k.val = 63) ∧ v66 = wd (64 * wk c s + k.val)
    ∧ v71 = wd (64 * wk c s + (if k.val = 0 then 63 else k.val - 1)) ∧ v76 = wd (64 * wk c s + (if k.val = 63 then 0 else k.val + 1))
    ∧ v91 = wd (min (k.val + 2) 64)

theorem handed_values : ∀ (c : Fin 2) (s : Fin 16) (k : Fin 64),
    let v4 := wd (64 * wk c s)
    let arg5 := Scf.iv 0#32 1#32 (tr k).val
    let v64 := Scalar.cmpi .eq arg5 0#32
    let v65 := Scalar.cmpi .eq arg5 63#32
    let v66 := Scalar.addi (wd k.val) v4
    let v68 := Scalar.select 1#1 (Scalar.subi (wd k.val) 1#32) (wd k.val)
    let v70 := Scalar.select (Scalar.cmpi .eq v68 4294967295#32) 63#32 v68
    let v71 := Scalar.addi v70 v4
    let v73 := Scalar.select 1#1 (Scalar.addi (wd k.val) 1#32) (wd k.val)
    let v75 := Scalar.select (Scalar.cmpi .eq v73 64#32) 0#32 v73
    let v76 := Scalar.addi v75 v4
    let v85 := Scalar.andi (Scalar.cmpi .ne v66 v76) (Scalar.xori (Scalar.cmpi .sge arg5 63#32) 1#1)
    let v91 := Scalar.select (Scalar.andi v85 1#1) (Scalar.addi (wd (k.val + 1)) 1#32) (wd (k.val + 1))
    v64 = flag (k.val = 0) ∧ v65 = flag (k.val = 63) ∧ v66 = wd (64 * wk c s + k.val)
    ∧ v71 = wd (64 * wk c s + (if k.val = 0 then 63 else k.val - 1)) ∧ v76 = wd (64 * wk c s + (if k.val = 63 then 0 else k.val + 1))
    ∧ v91 = wd (min (k.val + 2) 64) := by decide +kernel

theorem nums_split (q : PosShare TreeShare) (n : Fin 2048) :
    (nLoc d ↦{q} I : sProp 𝕄) ⊣⊢ iprop(numsPts I d (cV c s) (sV c s) q n ∗ (nLoc d ↦[Finset.univ \ (numsM n).view.set]{q} I)) :=
  pointsTo_split_subset (ℓ := nLoc d) (q := q) (f := I) (Finset.subset_univ (numsM n).view.set)

/-- The trip's first part: the fetch of the next window, unless the trip is the last. -/
theorem trip_fetch (k : Fin 64) {c0 c1 : BitVec 32} (h0 : c0 = 0#32) (h1 : c1 = 1#32)
    {Q : _ → sProp 𝕄} :
    listIdle d c s I qn (bit (k.val + 1))
      ⊢ iprop((∀ r, ⌜handed c s k r.2.2.2.2.1 r.2.2.2.2.2.1 r.2.2.2.2.2.2.1 r.2.2.2.2.2.2.2.1 r.2.2.2.2.2.2.2.2.1 r.2.2.2.2.2.2.2.2.2.1⌝
            -∗ listState d c s I qn (k.val + 1) -∗ Q r)
        -∗ wp frame (wpE (defs₀ (F := F)) Variants.none (me d (cV c s) (sV c s)) none) Set.univ (k0_part1 (F := F) (pt c s) (Memref.whole main_v8_scv) (Memref.isWhole_whole _) (Memref.whole main_v10_scv) (Memref.isWhole_whole _)
            (Memref.whole main_v11_scv) (Memref.isWhole_whole _) (Memref.whole cc0_scoped0) (Memref.isWhole_whole _) cc0_scoped1
            (Memref.whole cc0_scoped2) (Memref.isWhole_whole _) cc0_scoped3 cc0_scoped4 (wd (64 * wk c s)) c0 c1 (tr k)
            (wd (k.val + 1)) (wd k.val) (wd k.val) (wd (k.val - 1)) (wd k.val)) Q) := by
  subst h0 h1
  rw [k0_part1_eq_skeleton]; unfold k0_part1_skel
  iintro Hl Hk
  have h3 : k0_chk3 (wd k.val) := chk3_val k.castSucc
  have h2 : k0_chk2 (wd k.val) := chk2_val k.castSucc
  rw [lift_bind, wp_assume_of _ _ _ _ h3]
  rw [lift_bind, wp_assume_of _ _ _ _ h2]
  rw [lift_bind, wp_assume_of _ _ _ _ (chk1_val c s k)]
  dsimp only
  have hc := cond1_val c s k
  by_cases hk : k.val < 63
  · rw [if_pos hk] at hc
    rw [dif_pos hc, lift_bind]
    unfold listIdle
    icases Hl with ⟨Hl, Hs, Hn⟩
    ihave Hn' := (nums_split d c s I (half qn (bit (k.val + 1))) (win c s ⟨k.val + 1, by omega⟩)).1 $$ Hn
    icases Hn' with ⟨Hn, Hr⟩
    iapply (wp_fetch I d (cV c s) (sV c s) (half qn (bit (k.val + 1))) (bit (k.val + 1)) (win c s ⟨k.val + 1, by omega⟩)
      (numsM_of (off5_val c s ⟨k.val, hk⟩) _) (listM_of (off4_val k.succ) _) (listSem_of (off6_val k.succ) _)) $$ [Hn Hl Hs]
    · isplitl [Hn]; · iexact Hn
      isplitl [Hl] <;> iassumption
    iintro Hf
    rw [wp_pure]
    imodintro
    ispecialize Hk $$ %_
    iapply Hk $$ [] [Hf Hr]
    · ipureintro; exact handed_values c s k
    · unfold listState; rw [dif_pos (show k.val + 1 < 64 by omega)]; unfold listBusy
      isplitl [Hf] <;> iassumption
  · rw [if_neg hk] at hc
    rw [dif_neg (by rw [hc]; decide), wp_pure]
    imodintro
    ispecialize Hk $$ %_
    iapply Hk $$ [] [Hl]
    · ipureintro; exact handed_values c s k
    · unfold listState; rw [dif_neg (show ¬(k.val + 1 < 64) by omega)]; iexact Hl

theorem flatM_of {b : Fin 2} {off : Fin 3 → ℕ} (h : off = ![b.val, 0, 0]) (inb) :
    ((((Memref.whole cc0_scoped0).slice (Rect.unit (s := S2x1x128) off S1x1x128.size inb) (fun _ => rfl)).squeeze S1x128 squeezes_S1x1x128_S1x128).slice
      (Rect.unit (s := S1x128) ![0, 0] S1x128.size inb_S1x128_S1x128_0_0) (fun _ => rfl)).squeeze S128 squeezes_S1x128_S128 = flatM b := by
  subst h; rfl

theorem wp_ite_same {α : Type} {x : Prop} [Decidable x] {p : Prog (TpuEff nD τ sig (Elt F) Λ₀ (me d (cV c s) (sV c s)).2) α}
    {Q : α → sProp 𝕄} : wp frame (wpE (defs₀ (F := F)) Variants.none (me d (cV c s) (sV c s)) none) Set.univ p Q ⊢ wp frame (wpE (defs₀ (F := F)) Variants.none (me d (cV c s) (sV c s)) none) Set.univ (if x then p else p) Q := by rw [ite_self]

/-- The trip's second part: the wait for the window's numbers and the transfer of the rows they name. -/
theorem trip_gather (k : Fin 64) (O : CellTallies nD τ sig (HIx 1)) (W : Waits sig (HIx 1)) {c6 c9 : BitVec 32}
    (hw3 : k0_chk3 (wd k.val)) (hw2 : k0_chk2 (wd k.val)) (hw1 : k0_chk1 (pt c s) (tr k) c6 (wd k.val) (wd k.val) c9 (wd k.val))
    {a5 v66 v71 v76 : BitVec 32} {v64 v65 v96 : BitVec 1} {Q : PUnit → sProp 𝕄} :
    iprop(Transfers.MayWaits (me d (cV c s) (sV c s)) (default : HIx 1) O ∗ listState d c s I qn k.val ∗ pageIdle d c s (bit k.val)
        ∗ rowsPts X d (cV c s) (sV c s) qx ∗ semVal (me d (cV c s) (sV c s), SemLoc.dma cc0_scoped4.sem) 0 ∗ owing d c s O W)
      ⊢ iprop((iprop(listIdle d c s I qn (bit k.val) ∗ pageAt X I hI d (cV c s) (sV c s) (bit k.val) (win c s k)
            ∗ semVal (me d (cV c s) (sV c s), SemLoc.dma (pageSem (bit k.val))) 0
            ∗ rowsPts X d (cV c s) (sV c s) qx ∗ semVal (me d (cV c s) (sV c s), SemLoc.dma cc0_scoped4.sem) 0 ∗ owing d c s O W) -∗ Q ⟨⟩)
        -∗ wp frame (wpE (defs₀ (F := F)) Variants.none (me d (cV c s) (sV c s)) none) Set.univ (k0_part2 (F := F) (pt c s) (Memref.whole main_v8_scv) (Memref.isWhole_whole _) (Memref.whole main_v10_scv) (Memref.isWhole_whole _)
            (Memref.whole main_v11_scv) (Memref.isWhole_whole _) (Memref.whole cc0_scoped0) (Memref.isWhole_whole _) cc0_scoped1
            (Memref.whole cc0_scoped2) (Memref.isWhole_whole _) cc0_scoped3 cc0_scoped4 (tr k)
            c6 (wd k.val) (wd k.val) c9 (wd k.val) hw3 hw2 hw1 a5 v64 v65 v66 v71 v76 v96) Q) := by
  rw [k0_part2_eq_skeleton]; unfold k0_part2_skel
  dsimp only
  rw [dif_pos (cond2_val c s k), lift_bind]
  unfold listState pageIdle
  rw [dif_pos k.isLt]
  unfold listBusy listIdle
  iintro ⟨#Hmw, Hl, Hp, Hx, Hg, HO⟩ Hk
  icases Hl with ⟨Hf, Hr⟩
  icases Hp with ⟨Hp, Hs⟩
  ihave HO' := owing_out d c s $$ HO
  icases HO' with ⟨%W', %hW', HO⟩
  iapply (wp_fetched I d (cV c s) (sV c s) (half qn (bit k.val)) (bit k.val) (win c s k) O W'
    (listM_of (off7_val k.castSucc) _) (listSem_of (off9_val k.castSucc) _)) $$ [Hf HO]
  · isplitl [Hf]; · iexact Hf
    isplitl [HO] <;> iassumption
  iintro ⟨Hl, Hn, Hls, HO⟩
  iapply (wp_ite_same d c s)
  iapply (wp_gather X I hI d (cV c s) (sV c s) qx (bit k.val) (win c s k) O (insert (SemLoc.dma (listSem (bit k.val)), default) W')
    (pageM_of (off10_val k.castSucc) _) (pageM_of (off10_val k.castSucc) _) (flatM_of (off11_val k.castSucc) _)) $$ [Hx Hp Hl Hg HO]
  · isplitl [Hx]; · iexact Hx
    isplitl [Hp]; · iexact Hp
    isplitl [Hl]; · iexact Hl
    isplitl [Hg]; · iexact Hg
    isplitl [HO] <;> iassumption
  iintro ⟨Hx, Hp, Hl, Hg, HO⟩
  iapply (wp_ite_same d c s)
  rw [wp_pure]
  imodintro
  iapply Hk
  isplitl [Hl Hls Hn Hr]
  · isplitl [Hl]; · iexact Hl
    isplitl [Hls]; · iexact Hls
    iapply (nums_split d c s I (half qn (bit k.val)) (win c s k)).2
    isplitl [Hn] <;> iassumption
  isplitl [Hp]; · iexact Hp
  isplitl [Hs]; · iexact Hs
  isplitl [Hx]; · iexact Hx
  isplitl [Hg]; · iexact Hg
  iapply (owing_intro d c s (owing_insert (owing_insert hW' _) _)) $$ HO

theorem carried_eq (k : Fin 64) : carried k.val = (wd (k.val + 1), wd k.val, wd k.val, wd (k.val - 1), wd k.val) := by
  have := k.isLt
  unfold carried wrapped
  rw [if_neg (by omega), Nat.min_eq_left (by omega)]

/-- The counts that a trip yields. -/
theorem yielded {k : Fin 64} {v64 v65 : BitVec 1} {v66 v71 v76 v91 : BitVec 32} (h : handed c s k v64 v65 v66 v71 v76 v91) :
    (v91, Scalar.select (Scalar.ori (Scalar.cmpi .ne v66 v76) v65) (Scalar.addi (wd k.val) 1#32) (wd k.val),
      Scalar.select (Scalar.andi (Scalar.ori (Scalar.cmpi .ne v66 v76) v65) 1#1) (Scalar.addi (wd k.val) 1#32) (wd k.val),
      Scalar.select (Scalar.andi (Scalar.andi (Scalar.cmpi .ne v66 v71) (Scalar.xori v64 1#1)) 1#1) (Scalar.addi (wd (k.val - 1)) 1#32) (wd (k.val - 1)),
      Scalar.select (Scalar.cmpi .eq (Scalar.select 1#1 (Scalar.addi (wd k.val) 1#32) (wd k.val)) 64#32) 0#32
        (Scalar.select 1#1 (Scalar.addi (wd k.val) 1#32) (wd k.val))) = carried (k.val + 1) := by
  obtain ⟨rfl, rfl, rfl, rfl, rfl, rfl⟩ := h
  revert c s k
  decide +kernel

/-- The wait for the rows of the window before: at the first trip there is none. -/
theorem pageState_zero : (pageState d c s X I hI 0 : sProp 𝕄) ⊢ iprop(pageIdle d c s 1 ∗ doneTo d c s X I hI 0) := .rfl

theorem pageState_succ (k : Fin 64) : (pageState d c s X I hI (k.val + 1) : sProp 𝕄)
    = iprop(pageFlight X I hI d (cV c s) (sV c s) (bit k.val) (win c s k) ∗ doneTo d c s X I hI k.val) := by
  rw [pageState, dif_pos k.isLt]

/-- The end of a trip: the state before the next one. -/
theorem trip_end (k : Fin 64) (O : CellTallies nD τ sig (HIx 1)) (W : Waits sig (HIx 1))
    {v : BitVec 32 × BitVec 32 × BitVec 32 × BitVec 32 × BitVec 32} (h : v = carried (k.val + 1)) :
    iprop(pageIdle d c s (bit (k.val + 1)) ∗ doneTo d c s X I hI k.val ∗ owing d c s O W
        ∗ Transfers.MayWaits (me d (cV c s) (sV c s)) (default : HIx 1) O
        ∗ listIdle d c s I qn (bit k.val) ∗ listState d c s I qn (k.val + 1)
        ∗ pageFlight X I hI d (cV c s) (sV c s) (bit k.val) (win c s k) ∗ todo d c s (k.val + 1)
        ∗ rowsPts X d (cV c s) (sV c s) qx ∗ semVal (me d (cV c s) (sV c s), SemLoc.dma cc0_scoped4.sem) 0)
      ⊢ wp frame (wpE (defs₀ (F := F)) Variants.none (me d (cV c s) (sV c s)) none) Set.univ (pure v) (fun acc => iprop(⌜acc = carried (k.val + 1)⌝ ∗ state d c s X I hI qx qn O W (k.val + 1))) := by
  subst h
  rw [wp_pure]
  unfold state
  rw [bit_add_two, pageState_succ]
  iintro ⟨Hp, Hd, HO, Hmw, Hl, Hl', Hf, Ht, Hx, Hg⟩
  imodintro
  isplitl []
  · ipureintro; rfl
  isplitl [Hmw]; · iexact Hmw
  isplitl [Hl']; · iexact Hl'
  isplitl [Hl]; · iexact Hl
  isplitl [Hf Hd]
  · isplitl [Hf] <;> iassumption
  isplitl [Hp]; · iexact Hp
  isplitl [Ht]; · iexact Ht
  isplitl [Hx]; · iexact Hx
  isplitl [Hg] <;> iassumption

/-- One trip. -/
theorem trip (k : Fin 64) (O : CellTallies nD τ sig (HIx 1)) (W : Waits sig (HIx 1)) :
    state d c s X I hI qx qn O W k.val
      ⊢ wp frame (wpE (defs₀ (F := F)) Variants.none (me d (cV c s) (sV c s)) none) Set.univ (k0_t1_body (F := F) (pt c s) (Memref.whole main_v8_scv) (Memref.isWhole_whole _) (Memref.whole main_v10_scv) (Memref.isWhole_whole _)
            (Memref.whole main_v11_scv) (Memref.isWhole_whole _) (Memref.whole cc0_scoped0) (Memref.isWhole_whole _) cc0_scoped1
            (Memref.whole cc0_scoped2) (Memref.isWhole_whole _) cc0_scoped3 cc0_scoped4 (wd (64 * wk c s)) (tr k) (carried k.val))
          (fun acc => iprop(⌜acc = carried (k.val + 1)⌝ ∗ state d c s X I hI qx qn O W (k.val + 1))) := by
  rw [carried_eq]
  unfold k0_t1_body
  dsimp only
  rw [wp_bind]
  unfold state
  iintro ⟨#Hmw, Hl, Hl', Hps, Hp, Htodo, Hx, Hg, HO⟩
  iapply (trip_fetch d c s I qn k rfl rfl) $$ Hl'
  iintro %r %hr Hl'
  obtain ⟨hw3, hw2, hw1, a5, v64, v65, v66, v71, v76, v91, v96⟩ := r
  dsimp only at hr ⊢
  rw [wp_bind]
  iapply (trip_gather d c s X I hI qx qn k O W hw3 hw2 hw1) $$ [Hl Hp Hx Hg HO]
  · isplitl []; · iexact Hmw
    isplitl [Hl]; · iexact Hl
    isplitl [Hp]; · iexact Hp
    isplitl [Hx]; · iexact Hx
    isplitl [Hg] <;> iassumption
  iintro ⟨Hl, Hp, Hs, Hx, Hg, HO⟩
  rw [dif_pos (cond5_val c s k), lift_bind]
  ihave Htodo' := todo_split d c s k $$ Htodo
  icases Htodo' with ⟨Hres, Htodo⟩
  iapply (wp_store X I hI d (cV c s) (sV c s) (bit k.val) (win c s k)
    (pageM_of (off12_val k.castSucc) _) (resM_of (off13_val c s k) _) (pageSem_of (off14_val k.castSucc) _)) $$ [Hp Hres Hs]
  · isplitl [Hp]; · iexact Hp
    isplitl [Hres] <;> iassumption
  iintro Hf
  iapply (wp_ite_same d c s)
  have h7 := cond7_val c s k
  obtain ⟨m, hm⟩ := k
  match m, hm with
  | 0, hm =>
    rw [dif_neg (by rw [h7, if_pos rfl]; decide)]
    ihave Hps' := pageState_zero d c s X I hI $$ Hps
    icases Hps' with ⟨Hp, Hd⟩
    iapply (trip_end d c s X I hI qx qn ⟨0, hm⟩ O W (yielded c s hr)) $$ [Hp Hd HO Hl Hl' Hf Htodo Hx Hg]
    isplitl [Hp]; · iexact Hp
    isplitl [Hd]; · iexact Hd
    isplitl [HO]; · iexact HO
    isplitl []; · iexact Hmw
    isplitl [Hl]; · iexact Hl
    isplitl [Hl']; · iexact Hl'
    isplitl [Hf]; · iexact Hf
    isplitl [Htodo]; · iexact Htodo
    isplitl [Hx] <;> iassumption
  | m + 1, hm =>
    have hm' : m < 63 := by omega
    rw [dif_pos (by rw [h7]; exact if_neg (Nat.succ_ne_zero m)), lift_bind]
    ihave Hps' := (Entails.of_eq (pageState_succ d c s X I hI ⟨m, by omega⟩)) $$ Hps
    icases Hps' with ⟨Hf', Hd⟩
    ihave HO' := owing_out d c s $$ HO
    icases HO' with ⟨%W', %hW', HO⟩
    iapply (wp_stored X I hI d (cV c s) (sV c s) (bit m) (win c s ⟨m, by omega⟩) O W'
      (resM_of (off16_val c s ⟨m, hm'⟩) _) (pageSem_of (off17_val ⟨m, by omega⟩) _)) $$ [Hf' HO]
    · isplitl [Hf']; · iexact Hf'
      isplitl [HO] <;> iassumption
    iintro ⟨Hr, Hp, Hs, HO⟩
    ihave HO := (owing_intro d c s (owing_insert hW' _)) $$ HO
    ihave Hd := (doneTo_succ d c s X I hI ⟨m, by omega⟩) $$ [Hd Hr]
    · isplitl [Hd] <;> iassumption
    ihave Hp : pageIdle d c s (bit (m + 2)) $$ [Hp Hs]
    · rw [bit_add_two]
      unfold pageIdle
      isplitl [Hp] <;> iassumption
    iapply (trip_end d c s X I hI qx qn ⟨m + 1, hm⟩ O W (yielded c s hr)) $$ [Hp Hd HO Hl Hl' Hf Htodo Hx Hg]
    isplitl [Hp]; · iexact Hp
    isplitl [Hd]; · iexact Hd
    isplitl [HO]; · iexact HO
    isplitl []; · iexact Hmw
    isplitl [Hl]; · iexact Hl
    isplitl [Hl']; · iexact Hl'
    isplitl [Hf]; · iexact Hf
    isplitl [Htodo]; · iexact Htodo
    isplitl [Hx] <;> iassumption

end Cert.Proof.Rows

end
-- ==== Proof.Tile.lean ====
/-
  One vector subcore's whole task: the first window's fetch, the 64 trips of the pipeline, the wait for the last window's
  rows. Afterwards the subcore's 8192 rows of the result are the rows that its numbers name.
-/
module

public import proofs.«01_k».proof.Proof.Trip

@[expose] public section

set_option maxRecDepth 65536

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (c : Fin 2) (s : Fin 16)
variable [FloatOps F]
variable (X : S294912x128.Idx → Elt F .i32) (I : S1x262144.Idx → Elt F .i32) (hI : Names I)
variable (qx qn : PosShare TreeShare)

theorem todo_start : (todo (F := F) d c s 0 : sProp 𝕄) ⊢ iprop(todo d c s 0 ∗ doneTo d c s X I hI 0) := by
  unfold todo doneTo
  rw [show span (64 * wk c s) (64 * wk c s + 0) = ∅ from Finset.filter_false_of_mem fun j _ => by omega, pointsTo_empty]
  iintro H
  isplitl [H]; · iexact H
  iempintro

/-- The loop over the worker's 64 windows, as it stands in the task. -/
theorem trips_run (O : CellTallies nD τ sig (HIx 1)) (W : Waits sig (HIx 1)) {α : Type}
    {kk : BitVec 32 × BitVec 32 × BitVec 32 × BitVec 32 × BitVec 32 → Prog (TpuEff nD τ sig (Elt F) Λ₀ (me d (cV c s) (sV c s)).2) α}
    {Q : α → sProp (MT nD τ sig (HIx 1) (Elt F) ℕ UU ℕ)} :
    state d c s X I hI qx qn O W 0
      ⊢ iprop((state d c s X I hI qx qn O W 64 -∗ wp frame (wpE (defs₀ (F := F)) Variants.none (me d (cV c s) (sV c s)) none) Set.univ (kk (carried 64)) Q)
        -∗ wp frame (wpE (defs₀ (F := F)) Variants.none (me d (cV c s) (sV c s)) none) Set.univ
          (Scf.Loop.for k0_t1_loop k0_t1_ok (Scalar.addi 0#32 1#32, 0#32, 0#32, 0#32, 0#32)
            (k0_t1_body (F := F) (pt c s) (Memref.whole main_v8_scv) (Memref.isWhole_whole _) (Memref.whole main_v10_scv) (Memref.isWhole_whole _)
              (Memref.whole main_v11_scv) (Memref.isWhole_whole _) (Memref.whole cc0_scoped0) (Memref.isWhole_whole _) cc0_scoped1
              (Memref.whole cc0_scoped2) (Memref.isWhole_whole _) cc0_scoped3 cc0_scoped4 (wd (64 * wk c s))) >>= kk) Q) := by
  have hbody : ∀ (k : Fin k0_t1_loop.trips) acc, iprop(⌜acc = carried k.val⌝ ∗ state d c s X I hI qx qn O W k.val)
      ⊢ wp frame (wpE (defs₀ (F := F)) Variants.none (me d (cV c s) (sV c s)) none) Set.univ
          (k0_t1_body (F := F) (pt c s) (Memref.whole main_v8_scv) (Memref.isWhole_whole _) (Memref.whole main_v10_scv) (Memref.isWhole_whole _)
              (Memref.whole main_v11_scv) (Memref.isWhole_whole _) (Memref.whole cc0_scoped0) (Memref.isWhole_whole _) cc0_scoped1
              (Memref.whole cc0_scoped2) (Memref.isWhole_whole _) cc0_scoped3 cc0_scoped4 (wd (64 * wk c s)) k acc)
          (fun acc => iprop(⌜acc = carried (k.val + 1)⌝ ∗ state d c s X I hI qx qn O W (k.val + 1))) := by
    intro k acc
    iintro ⟨%hacc, Hst⟩
    subst hacc
    have ht : state d c s X I hI qx qn O W k.val ⊢ _ := trip d c s X I hI qx qn (Fin.cast trips_eq k) O W
    iapply ht $$ Hst
  have hrun := Scf.wp_for_bind frame (wpE (defs₀ (F := F)) Variants.none (me d (cV c s) (sV c s)) none) Set.univ _ _ _ k0_t1_ok
    (Scalar.addi 0#32 1#32, 0#32, 0#32, 0#32, 0#32) _ (fun k acc => iprop(⌜acc = carried k⌝ ∗ state d c s X I hI qx qn O W k)) hbody (kk := kk) (Q := Q)
  rw [show Scf.trips _ _ _ = 64 from trips_eq] at hrun
  iintro Hst Hk
  iapply hrun $$ [Hst]
  · isplitl []
    · ipureintro; decide +kernel
    · iexact Hst
  · iintro %acc ⟨%hacc, Hst⟩
    subst hacc
    iapply Hk $$ Hst

theorem listIdle_out (b : Fin 2) : (listIdle d c s I qn b : sProp 𝕄)
    ⊢ iprop(listAny d (cV c s) (sV c s) b ∗ semVal (me d (cV c s) (sV c s), SemLoc.dma (listSem b)) 0 ∗ (nLoc d ↦{half qn b} I)) := .rfl

theorem base_val : ∀ c s, Scalar.muli (Scalar.addi (Scalar.addi 0#32 (Scalar.muli (BitVec.ofNat 32 (pt c s 1).val) 1#32))
    (Scalar.muli (BitVec.ofNat 32 (pt c s 0).val) 16#32)) 64#32 = wd (64 * wk c s) := by decide +kernel

theorem state_out (O : CellTallies nD τ sig (HIx 1)) (W : Waits sig (HIx 1)) :
    (state d c s X I hI qx qn O W 64 : sProp 𝕄)
      ⊢ iprop(listIdle d c s I qn 0 ∗ listIdle d c s I qn 1 ∗ pageFlight X I hI d (cV c s) (sV c s) 1 (win c s 63) ∗ doneTo d c s X I hI 63
        ∗ pageIdle d c s 0 ∗ rowsPts X d (cV c s) (sV c s) qx ∗ semVal (me d (cV c s) (sV c s), SemLoc.dma cc0_scoped4.sem) 0 ∗ owing d c s O W) := by
  unfold state listState
  rw [dif_neg (by decide)]
  iintro ⟨-, Hl, Hl', Hps, Hp, -, Hx, Hg, HO⟩
  have e : (pageState d c s X I hI 64 : sProp 𝕄) = _ := pageState_succ d c s X I hI 63
  ihave Hps' := (Entails.of_eq e) $$ Hps
  icases Hps' with ⟨Hf, Hd⟩
  isplitl [Hl]; · iexact Hl
  isplitl [Hl']; · iexact Hl'
  isplitl [Hf]; · iexact Hf
  isplitl [Hd]; · iexact Hd
  isplitl [Hp]; · iexact Hp
  isplitl [Hx]; · iexact Hx
  isplitl [Hg] <;> iassumption

/-- The task: from the subcore's scratch, its share of the numbers and of the rows and its part of the result. -/
theorem task_run (O : CellTallies nD τ sig (HIx 1)) (W : Waits sig (HIx 1)) :
    iprop(Transfers.MayWaits (me d (cV c s) (sV c s)) (default : HIx 1) O
        ∗ listIdle d c s I qn 0 ∗ listIdle d c s I qn 1 ∗ pageIdle d c s 0 ∗ pageIdle d c s 1 ∗ todo d c s 0
        ∗ rowsPts X d (cV c s) (sV c s) qx ∗ semVal (me d (cV c s) (sV c s), SemLoc.dma cc0_scoped4.sem) 0 ∗ owing d c s O W)
      ⊢ wp frame (wpE (defs₀ (F := F)) Variants.none (me d (cV c s) (sV c s)) none) Set.univ
          (cc0_gather (F := F) (pt c s) (Memref.whole main_v8_scv) (Memref.isWhole_whole _) (Memref.whole main_v10_scv) (Memref.isWhole_whole _)
            (Memref.whole main_v11_scv) (Memref.isWhole_whole _) (Memref.whole cc0_scoped0) (Memref.isWhole_whole _) cc0_scoped1
            (Memref.whole cc0_scoped2) (Memref.isWhole_whole _) cc0_scoped3 cc0_scoped4)
          (fun _ => iprop(listIdle d c s I qn 0 ∗ listIdle d c s I qn 1 ∗ pageIdle d c s 0 ∗ pageIdle d c s 1 ∗ doneTo d c s X I hI 64
            ∗ rowsPts X d (cV c s) (sV c s) qx ∗ semVal (me d (cV c s) (sV c s), SemLoc.dma cc0_scoped4.sem) 0 ∗ owing d c s O W)) := by
  rw [cc0_gather_eq_skeleton]; unfold cc0_gather_skel
  rw [k0_part3_eq_skeleton]; unfold k0_part3_skel
  dsimp only
  rw [wp_bind, lift_bind]
  iintro ⟨#Hmw, Hl, Hl', Hp, Hp', Ht, Hx, Hg, HO⟩
  ihave Hl2 := (listIdle_out d c s I qn 0) $$ Hl
  icases Hl2 with ⟨Hl, Hs, Hn⟩
  ihave Hn' := (nums_split d c s I (half qn 0) (win c s 0)).1 $$ Hn
  icases Hn' with ⟨Hn, Hr⟩
  iapply (wp_fetch I d (cV c s) (sV c s) (half qn 0) 0 (win c s 0)
    (numsM_of (off2_val c s) _) (listM_of off1_val _) (listSem_of off3_val _)) $$ [Hn Hl Hs]
  · isplitl [Hn]; · iexact Hn
    isplitl [Hl] <;> iassumption
  iintro Hf
  rw [wp_pure]
  imodintro
  rw [k0_part4_eq_skeleton]; unfold k0_part4_skel
  dsimp only
  rw [base_val, wp_bind]
  ihave Ht' := (todo_start d c s X I hI) $$ Ht
  icases Ht' with ⟨Ht, Hd⟩
  iapply (trips_run d c s X I hI qx qn O W) $$ [Hf Hr Hl' Hp Hp' Ht Hd Hx Hg HO]
  · unfold state
    isplitl []; · iexact Hmw
    isplitl [Hf Hr]
    · unfold listState listBusy
      rw [dif_pos (by decide)]
      isplitl [Hf]
      · iexact Hf
      · iexact Hr
    isplitl [Hl']; · iexact Hl'
    isplitl [Hp' Hd]
    · unfold pageState
      isplitl [Hp'] <;> iassumption
    isplitl [Hp]; · iexact Hp
    isplitl [Ht]; · iexact Ht
    isplitl [Hx]; · iexact Hx
    isplitl [Hg] <;> iassumption
  iintro Hst
  have h5 : k0_chk5 (pt c s) (wd 0) := chk5_val c s
  have e63 : carried 64 = (wd 64, wd 64, wd 64, wd 63, wd 0) := rfl
  rw [e63]
  dsimp only
  rw [lift_bind, wp_assume_of _ _ _ _ h5]
  rw [lift_bind, wp_assume_of _ _ _ _ chk4_val]
  rw [wp_pure]
  imodintro
  dsimp only
  rw [lift_bind]
  ihave Hst' := (state_out d c s X I hI qx qn O W) $$ Hst
  icases Hst' with ⟨Hl, Hl', Hf, Hd, Hp, Hx, Hg, HO⟩
  ihave HO' := owing_out d c s $$ HO
  icases HO' with ⟨%W', %hW', HO⟩
  iapply (wp_stored X I hI d (cV c s) (sV c s) 1 (win c s 63) O W'
    (resM_of (off19_val c s) _) (pageSem_of (off20_val 63) _)) $$ [Hf HO]
  · isplitl [Hf]; · iexact Hf
    isplitl [HO] <;> iassumption
  iintro ⟨Hr, Hp', Hs', HO⟩
  rw [wp_pure]
  imodintro
  isplitl [Hl]; · iexact Hl
  isplitl [Hl']; · iexact Hl'
  isplitl [Hp]; · iexact Hp
  isplitl [Hp' Hs']
  · unfold pageIdle
    isplitl [Hp'] <;> iassumption
  isplitl [Hd Hr]
  · have hlast : iprop(doneTo d c s X I hI 63 ∗ resDone X I hI d (cV c s) (sV c s) (win c s 63)) ⊢ (doneTo d c s X I hI 64 : sProp 𝕄) :=
      doneTo_succ d c s X I hI 63
    iapply hlast $$ [Hd Hr]
    isplitl [Hd] <;> iassumption
  isplitl [Hx]; · iexact Hx
  isplitl [Hg]; · iexact Hg
  iapply (owing_intro d c s (owing_insert hW' _)) $$ HO

end Cert.Proof.Rows

end
-- ==== Proof.Task.lean ====
/-
  The task with a vector subcore's whole scratch: its two buffers are their two slots each, its five transfer
  semaphores the slots' and the gather's.
-/
module

public import proofs.«01_k».proof.Proof.Tile
public import Idealize.ShloMosaic.Lib.ShareLeaves

@[expose] public section

set_option maxRecDepth 65536

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := Variants.none.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (d : Dev nD) (c : Fin 2) (s : Fin 16)

/-! ## The slots make up the scratch buffers -/

theorem mem_listM {b : Fin 2} {j : S2x1x128.Idx} : j ∈ (listM b).view.set ↔ (j 0).val = b.val := by
  have e : (listM b).view.set = (Rect.unit (s := S2x1x128) ![b.val, 0, 0] S1x1x128.size (inb_list b)).set :=
    (View.set_reshape _ _).trans (View.set_slice_whole _ _)
  rw [e]
  refine Rect.mem_set_unit.trans ⟨fun h => ?_, fun h a => ?_⟩
  · have h1 : b.val ≤ (j 0).val := (h 0).1
    have h2 : (j 0).val < b.val + 1 := (h 0).2
    omega
  · match a with
    | 0 => exact ⟨h.ge, show (j 0).val < b.val + 1 by omega⟩
    | 1 => exact ⟨Nat.zero_le _, by have h1 : (j 1).val < 1 := (j 1).isLt; show (j 1).val < 0 + 1; omega⟩
    | 2 => exact ⟨Nat.zero_le _, by have h1 : (j 2).val < 128 := (j 2).isLt; show (j 2).val < 0 + 128; omega⟩

theorem mem_pageM {b : Fin 2} {j : S2x128x128.Idx} : j ∈ (pageM b).view.set ↔ (j 0).val = b.val := by
  have e : (pageM b).view.set = (Rect.unit (s := S2x128x128) ![b.val, 0, 0] S1x128x128.size (inb_page b)).set :=
    (View.set_reshape _ _).trans (View.set_slice_whole _ _)
  rw [e]
  refine Rect.mem_set_unit.trans ⟨fun h => ?_, fun h a => ?_⟩
  · have h1 : b.val ≤ (j 0).val := (h 0).1
    have h2 : (j 0).val < b.val + 1 := (h 0).2
    omega
  · match a with
    | 0 => exact ⟨h.ge, show (j 0).val < b.val + 1 by omega⟩
    | 1 => exact ⟨Nat.zero_le _, by have h1 : (j 1).val < 128 := (j 1).isLt; show (j 1).val < 0 + 128; omega⟩
    | 2 => exact ⟨Nat.zero_le _, by have h1 : (j 2).val < 128 := (j 2).isLt; show (j 2).val < 0 + 128; omega⟩

theorem list_disjoint : Disjoint (listM 0).view.set (listM 1).view.set :=
  Finset.disjoint_left.mpr fun j h h' => by rw [mem_listM] at h h'; exact absurd (h.symm.trans h') (by decide)
theorem page_disjoint : Disjoint (pageM 0).view.set (pageM 1).view.set :=
  Finset.disjoint_left.mpr fun j h h' => by rw [mem_pageM] at h h'; exact absurd (h.symm.trans h') (by decide)
theorem list_union : (Finset.univ : Finset S2x1x128.Idx) = (listM 0).view.set ∪ (listM 1).view.set := by
  ext j
  have h : (j 0).val < 2 := (j 0).isLt
  rw [Finset.mem_union, mem_listM, mem_listM]
  exact ⟨fun _ => (Nat.lt_succ_iff_lt_or_eq.mp h).imp Nat.lt_one_iff.mp id, fun _ => Finset.mem_univ _⟩
theorem page_union : (Finset.univ : Finset S2x128x128.Idx) = (pageM 0).view.set ∪ (pageM 1).view.set := by
  ext j
  have h : (j 0).val < 2 := (j 0).isLt
  rw [Finset.mem_union, mem_pageM, mem_pageM]
  exact ⟨fun _ => (Nat.lt_succ_iff_lt_or_eq.mp h).imp Nat.lt_one_iff.mp id, fun _ => Finset.mem_univ _⟩

/-- A buffer that two disjoint sets make up, at anything, is the two at anything. -/
theorem any_union {ℓ : Loc nD τ sig} {A B C : Finset (Idx ℓ)} (hd : Disjoint A B) (hu : C = A ∪ B) :
    (iprop(∃ f, ℓ ↦[C]{fullShare} f) : sProp 𝕄) ⊣⊢ iprop((∃ f, ℓ ↦[A]{fullShare} f) ∗ (∃ f, ℓ ↦[B]{fullShare} f)) := by
  subst hu
  constructor
  · iintro ⟨%f, H⟩
    ihave H' := (pointsTo_union hd).1 $$ H
    icases H' with ⟨Ha, Hb⟩
    isplitl [Ha]
    · iexists f; iexact Ha
    · iexists f; iexact Hb
  · iintro ⟨⟨%f, Ha⟩, ⟨%g, Hb⟩⟩
    iexists _
    iapply (pointsTo_join hd) $$ [Ha Hb]
    isplitl [Ha] <;> iassumption

theorem lists_whole : (iprop(∃ f, (me d (cV c s) (sV c s)).loc cc0_scoped0 ↦{fullShare} f) : sProp 𝕄)
    ⊣⊢ iprop(listAny d (cV c s) (sV c s) 0 ∗ listAny d (cV c s) (sV c s) 1) :=
  any_union (ℓ := (me d (cV c s) (sV c s)).loc cc0_scoped0) list_disjoint list_union
theorem pages_whole : (iprop(∃ f, (me d (cV c s) (sV c s)).loc cc0_scoped2 ↦{fullShare} f) : sProp 𝕄)
    ⊣⊢ iprop(pageAny d (cV c s) (sV c s) 0 ∗ pageAny d (cV c s) (sV c s) 1) :=
  any_union (ℓ := (me d (cV c s) (sV c s)).loc cc0_scoped2) page_disjoint page_union

/-! ## The subcore's own storage -/

/-- The five transfer semaphores of the task. -/
def cell : Fin 5 → SemLoc sig
  | 0 => .dma (listSem 0) | 1 => .dma (listSem 1) | 2 => .dma (pageSem 0) | 3 => .dma (pageSem 1) | 4 => .dma cc0_scoped4.sem

theorem cell_injective : Function.Injective cell := by decide
theorem cell_scoped : ∀ i, (cell i).isScoped .scVector = true := by decide

theorem sems_own : (ownSems0 (V d (cV c s) (sV c s)) : sProp 𝕄)
    = iprop((bigSep Finset.univ fun i : Fin 5 => semVal (V d (cV c s) (sV c s), cell i) 0)
        ∗ bigSep (ownCells (V d (cV c s) (sV c s)) \ Finset.univ.image fun i : Fin 5 => ((V d (cV c s) (sV c s), cell i) : GSem nD τ sig)) fun g => semVal g 0) := by
  have hinj : Function.Injective fun i : Fin 5 => ((V d (cV c s) (sV c s), cell i) : GSem nD τ sig) :=
    fun i j h => cell_injective (congrArg Prod.snd h)
  unfold SparseCore.Cfg.ownSems0
  rw [SparseCore.bigSep_sdiff_split' (s := ownCells (V d (cV c s) (sV c s))) (t := Finset.univ.image fun i : Fin 5 => ((V d (cV c s) (sV c s), cell i) : GSem nD τ sig))
    (Finset.image_subset_iff.mpr fun i _ => mem_ownCells.mpr ⟨rfl, cell_scoped i⟩),
    bigSep_image_of_injOn (hinj.injOn) (fun g => semVal g 0)]

/-- What a subcore owns besides the task's two buffers and five semaphores. -/
def otherSems : sProp 𝕄 :=
  bigSep (ownCells (V d (cV c s) (sV c s)) \ Finset.univ.image fun i : Fin 5 => ((V d (cV c s) (sV c s), cell i) : GSem nD τ sig)) fun g => semVal g 0
def otherBufs : sProp 𝕄 :=
  bigSep (((ownRefs (τ := τ) (.scVector (cV c s) (sV c s))).erase ((Proc.scVector (cV c s) (sV c s)).devRef cc0_scoped0)).erase
    ((Proc.scVector (cV c s) (sV c s)).devRef cc0_scoped2)) fun b => iprop(∃ f, ((d, b) : Loc nD τ sig) ↦{fullShare} f)

theorem sems_split : (ownSems0 (V d (cV c s) (sV c s)) : sProp 𝕄)
    = iprop((semVal (me d (cV c s) (sV c s), SemLoc.dma (listSem 0)) 0 ∗ semVal (me d (cV c s) (sV c s), SemLoc.dma (listSem 1)) 0
        ∗ semVal (me d (cV c s) (sV c s), SemLoc.dma (pageSem 0)) 0 ∗ semVal (me d (cV c s) (sV c s), SemLoc.dma (pageSem 1)) 0
        ∗ semVal (me d (cV c s) (sV c s), SemLoc.dma cc0_scoped4.sem) 0) ∗ otherSems d c s) := by
  rw [sems_own]
  unfold otherSems
  congr 1
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
  rfl

theorem bufs_split : (ownBufs (V d (cV c s) (sV c s)) : sProp 𝕄)
    ⊣⊢ iprop((listAny d (cV c s) (sV c s) 0 ∗ listAny d (cV c s) (sV c s) 1)
        ∗ (pageAny d (cV c s) (sV c s) 0 ∗ pageAny d (cV c s) (sV c s) 1) ∗ otherBufs d c s) := by
  have h0 := SparseCore.Cfg.mem_ownRefs_of_owner (p := Proc.scVector (cV c s) (sV c s)) (b := (Proc.scVector (cV c s) (sV c s)).devRef cc0_scoped0) rfl
  have h2 := SparseCore.Cfg.mem_ownRefs_of_owner (p := Proc.scVector (cV c s) (sV c s)) (b := (Proc.scVector (cV c s) (sV c s)).devRef cc0_scoped2) rfl
  have e : (ownBufs (V d (cV c s) (sV c s)) : sProp 𝕄)
      = iprop((∃ f, (me d (cV c s) (sV c s)).loc cc0_scoped0 ↦{fullShare} f) ∗ (∃ f, (me d (cV c s) (sV c s)).loc cc0_scoped2 ↦{fullShare} f) ∗ otherBufs d c s) := by
    unfold SparseCore.Cfg.ownBufs
    refine (SparseCore.bigSep_erase' h0).trans ?_
    rw [SparseCore.bigSep_erase' (Finset.mem_erase.mpr ⟨fun e => absurd (Proc.devRef_injective _ e) (show (cc0_scoped2 : Ref sig .scVector) ≠ cc0_scoped0 by decide), h2⟩)]
    rfl
  rw [e]
  constructor
  · iintro ⟨Hl, Hp, Ho⟩
    isplitl [Hl]
    · iapply (lists_whole d c s).1 $$ Hl
    isplitl [Hp]
    · iapply (pages_whole d c s).1 $$ Hp
    iexact Ho
  · iintro ⟨Hl, Hp, Ho⟩
    isplitl [Hl]
    · iapply (lists_whole d c s).2 $$ Hl
    isplitl [Hp]
    · iapply (pages_whole d c s).2 $$ Hp
    iexact Ho

/-! ## What a worker is handed and hands back -/

theorem wk_lt : wk c s < 2 ^ 5 := by
  have := c.isLt
  have := s.isLt
  unfold wk; omega

/-- The worker's share of the numbers and of the rows. -/
abbrev share : PosShare TreeShare := ShareLeaves.leaf 5 fullShare ⟨wk c s, wk_lt c s⟩

theorem rows_set : rowsM.view.set = (Finset.univ : Finset S294912x128.Idx) := by
  refine (View.set_slice_whole _ _).trans (Finset.eq_univ_iff_forall.mpr fun j => Rect.mem_set_unit.mpr fun a => ?_)
  match a with
  | 0 => exact ⟨Nat.zero_le _, by have h1 : (j 0).val < 294912 := (j 0).isLt; show (j 0).val < 0 + 294912; omega⟩
  | 1 => exact ⟨Nat.zero_le _, by have h1 : (j 1).val < 128 := (j 1).isLt; show (j 1).val < 0 + 128; omega⟩

variable [FloatOps F]
variable (X : S294912x128.Idx → Elt F .i32) (I : S1x262144.Idx → Elt F .i32) (hI : Names I)

def handed_in : sProp 𝕄 := iprop((nLoc d ↦{share c s} I) ∗ (xLoc d ↦{share c s} X) ∗ todo d c s 0)
def handed_back : sProp 𝕄 := iprop((nLoc d ↦{share c s} I) ∗ (xLoc d ↦{share c s} X) ∗ doneTo d c s X I hI 64)

theorem halves (q : PosShare TreeShare) : (nLoc d ↦{q} I : sProp 𝕄) ⊣⊢ iprop((nLoc d ↦{q.left} I) ∗ (nLoc d ↦{q.right} I)) :=
  pointsTo_share (PosShare.mem_left_op_right q)

/-- The task on a vector subcore, from and to the subcore's whole storage. -/
theorem tile_body (hF : (K (F := F)).Facts) (O : CellTallies nD τ sig (HIx 1)) (W : Waits sig (HIx 1)) (hO : ∀ g, O g none = 0) :
    iprop(levAts (K (F := F)).L (K (F := F)).lev ∗ emp ∗ handed_in d c s X I
        ∗ scopedBufs (V d (cV c s) (sV c s)) ∗ scopedSems0 (V d (cV c s) (sV c s)) ∗ owes (V d (cV c s) (sV c s)) O W)
      ⊢ wp frame (wpE (defs₀ (F := F)) Variants.none (me d (cV c s) (sV c s)) none) Set.univ
          (cc0_gather (F := F) (pt c s) (Memref.whole main_v8_scv) (Memref.isWhole_whole _) (Memref.whole main_v10_scv) (Memref.isWhole_whole _)
            (Memref.whole main_v11_scv) (Memref.isWhole_whole _) (Memref.whole cc0_scoped0) (Memref.isWhole_whole _) cc0_scoped1
            (Memref.whole cc0_scoped2) (Memref.isWhole_whole _) cc0_scoped3 cc0_scoped4)
          fun _ => iprop(handed_back d c s X I hI
            ∗ scopedBufs (V d (cV c s) (sV c s)) ∗ scopedSems0 (V d (cV c s) (sV c s))
            ∗ ∃ W', ⌜∀ p ∈ W', p ∈ W ∨ p.2 = none⌝ ∗ owes (V d (cV c s) (sV c s)) O W') := by
  rw [(K (F := F)).scopedBufs_V hF d (cV c s) (sV c s), SparseCore.Cfg.scopedSems0_V (Val := Elt F) d (cV c s) (sV c s), sems_split]
  iintro ⟨#Hlv, -, Hin, Hbufs, ⟨⟨Hs0, Hs1, Hs2, Hs3, Hs4⟩, Hsems⟩, HO⟩
  ihave Hin' := (Entails.of_eq (show handed_in d c s X I = iprop((nLoc d ↦{share c s} I) ∗ (xLoc d ↦{share c s} X) ∗ todo d c s 0) from rfl)) $$ Hin
  icases Hin' with ⟨Hn, Hx, Ht⟩
  ihave Hb' := (bufs_split d c s).1 $$ Hbufs
  icases Hb' with ⟨⟨Hl0, Hl1⟩, ⟨Hp0, Hp1⟩, Hbufs⟩
  ihave Hn' := (halves d I (share c s)).1 $$ Hn
  icases Hn' with ⟨Hn0, Hn1⟩
  ihave Hmw := (show levAts (K (F := F)).L (K (F := F)).lev ⊢ Transfers.MayWaits (me d (cV c s) (sV c s)) (default : HIx 1) O from
    (K (F := F)).mayWaits_none (thr := V d (cV c s) (sV c s)) hO) $$ Hlv
  have hx : (xLoc d ↦{share c s} X : sProp 𝕄) = rowsPts X d (cV c s) (sV c s) (share c s) := by unfold rowsPts; rw [rows_set]
  ihave Hx' := (Entails.of_eq hx) $$ Hx
  ihave HO' := (owing_intro d c s (W := W) (W' := W) (fun _ h => .inl h)) $$ HO
  ihave Hw := (task_run d c s X I hI (share c s) (share c s) O W) $$ [Hmw Hs0 Hs1 Hs2 Hs3 Hs4 Hn0 Hn1 Hx' Ht Hl0 Hl1 Hp0 Hp1 HO']
  · unfold listIdle pageIdle
    isplitl [Hmw]; · iexact Hmw
    isplitl [Hl0 Hs0 Hn0]
    · isplitl [Hl0]; · iexact Hl0
      isplitl [Hs0]; · iexact Hs0
      iexact Hn0
    isplitl [Hl1 Hs1 Hn1]
    · isplitl [Hl1]; · iexact Hl1
      isplitl [Hs1]; · iexact Hs1
      iexact Hn1
    isplitl [Hp0 Hs2]
    · isplitl [Hp0] <;> iassumption
    isplitl [Hp1 Hs3]
    · isplitl [Hp1] <;> iassumption
    isplitl [Ht]; · iexact Ht
    isplitl [Hx']; · iexact Hx'
    isplitl [Hs4] <;> iassumption
  iapply (wp_wand frame _ Set.univ) $$ Hw
  iintro %r Hpost
  unfold listIdle pageIdle
  icases Hpost with ⟨⟨Hl0, Hs0, Hn0⟩, ⟨Hl1, Hs1, Hn1⟩, ⟨Hp0, Hs2⟩, ⟨Hp1, Hs3⟩, Hd, Hx, Hs4, HO⟩
  unfold handed_back
  isplitl [Hn0 Hn1 Hx Hd]
  · isplitl [Hn0 Hn1]
    · iapply (halves d I (share c s)).2
      isplitl [Hn0]
      · iexact Hn0
      · iexact Hn1
    isplitl [Hx]
    · iapply (Entails.of_eq hx.symm) $$ Hx
    · iexact Hd
  isplitl [Hl0 Hl1 Hp0 Hp1 Hbufs]
  · iapply (bufs_split d c s).2
    isplitl [Hl0 Hl1]; · isplitl [Hl0] <;> iassumption
    isplitl [Hp0 Hp1]; · isplitl [Hp0] <;> iassumption
    iexact Hbufs
  isplitl [Hs0 Hs1 Hs2 Hs3 Hs4 Hsems]
  · isplitl [Hs0 Hs1 Hs2 Hs3 Hs4]
    · isplitl [Hs0]; · iexact Hs0
      isplitl [Hs1]; · iexact Hs1
      isplitl [Hs2]; · iexact Hs2
      isplitl [Hs3] <;> iassumption
    iexact Hsems
  iapply (owing_out d c s) $$ HO

end Cert.Proof.Rows

end
-- ==== Proof.Launch.lean ====
/-
  The launch: what the call hands each worker and has back of it, the steps of @main about the call, and the run of
  the whole program from any memory whose row numbers are in range.
-/
module

public import proofs.«01_k».proof.Proof.Task

@[expose] public section

set_option maxRecDepth 65536

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq after)
open Idealize.ShloMosaic.Pipeline (ucRefs)

variable {F : FTy → Type}

local notation "𝕄" => MT nD τ sig (HIx 1) (Elt F) ℕ UU ℕ

theorem nCore_zero : (K (F := F)).nCore 0 = 2 := rfl
theorem nSub_zero : (K (F := F)).nSub 0 = 16 := rfl

/-! ## The workers' parts make up the whole arrays -/

/-- A worker's place as its number among the 32. -/
def place : Fin 2 × Fin 16 ≃ Fin (2 ^ 5) where
  toFun p := ⟨wk p.1 p.2, wk_lt p.1 p.2⟩
  invFun i := (⟨i.val / 16, by have := i.isLt; omega⟩, ⟨i.val % 16, by omega⟩)
  left_inv p := by
    have h := p.2.isLt
    refine Prod.ext (Fin.ext ?_) (Fin.ext ?_)
    · show (p.2.val + 16 * p.1.val) / 16 = p.1.val; omega
    · show (p.2.val + 16 * p.1.val) % 16 = p.2.val; omega
  right_inv i := Fin.ext (show i.val % 16 + 16 * (i.val / 16) = i.val by omega)

theorem shares {ℓ : Loc nD τ sig} (f : Buf (Elt F) ℓ) :
    (ℓ ↦{fullShare} f : sProp 𝕄) = bigSep Finset.univ fun c : Fin 2 => bigSep Finset.univ fun s : Fin 16 => ℓ ↦{share c s} f := by
  rw [ShareLeaves.pointsTo_leaves Finset.univ f 5 fullShare, bigSep_univ_equiv place, bigSep_univ_prod]
  rfl

theorem spans_disjoint (p q : Fin 2 × Fin 16) (h : p ≠ q) :
    Disjoint (span (64 * wk p.1 p.2) (64 * wk p.1 p.2 + 64)) (span (64 * wk q.1 q.2) (64 * wk q.1 q.2 + 64)) := by
  have hne : wk p.1 p.2 ≠ wk q.1 q.2 := fun e => h (place.injective (Fin.ext e))
  refine Finset.disjoint_left.mpr fun j h1 h2 => ?_
  rw [mem_span] at h1 h2
  omega

theorem spans_cover : (Finset.univ : Finset (Fin 2 × Fin 16)).biUnion (fun p => span (64 * wk p.1 p.2) (64 * wk p.1 p.2 + 64))
    = (Finset.univ : Finset S262144x128.Idx) := by
  refine Finset.eq_univ_iff_forall.mpr fun j => Finset.mem_biUnion.mpr ?_
  have hj : (j 0).val < 262144 := (j 0).isLt
  refine ⟨place.symm ⟨(j 0).val / 8192, by omega⟩, Finset.mem_univ _, ?_⟩
  have e : wk (place.symm ⟨(j 0).val / 8192, by omega⟩).1 (place.symm ⟨(j 0).val / 8192, by omega⟩).2 = (j 0).val / 8192 :=
    congrArg Fin.val (place.apply_symm_apply ⟨(j 0).val / 8192, by omega⟩)
  rw [mem_span, e]; omega

theorem pieces (d : Dev nD) (f : Buf (Elt F) (oLoc d)) :
    (oLoc d ↦{fullShare} f : sProp 𝕄)
      = bigSep Finset.univ fun c : Fin 2 => bigSep Finset.univ fun s : Fin 16 => oLoc d ↦[span (64 * wk c s) (64 * wk c s + 64)]{fullShare} f := by
  have h := pointsTo_biUnion (ℓ := oLoc d) (q := fullShare) (f := f) (Ix := HIx 1) (Name := ℕ) (U := UU) (Lvl := ℕ)
    (Finset.univ : Finset (Fin 2 × Fin 16)) (fun p => span (64 * wk p.1 p.2) (64 * wk p.1 p.2 + 64)) (fun p _ q _ h => spans_disjoint p q h)
  rw [spans_cover, bigSep_univ_prod] at h
  exact h

variable [FloatOps F]
variable (X : Dev nD → S294912x128.Idx → Elt F .i32) (I : Dev nD → S1x262144.Idx → Elt F .i32) (hI : ∀ d, Names (I d))

theorem all_in (d : Dev nD) (f : Buf (Elt F) (oLoc d)) :
    iprop((nLoc d ↦{fullShare} I d) ∗ (xLoc d ↦{fullShare} X d) ∗ (oLoc d ↦{fullShare} f))
      ⊢ (bigSep Finset.univ fun c : Fin 2 => bigSep Finset.univ fun s : Fin 16 => handed_in d c s (X d) (I d) : sProp 𝕄) := by
  unfold handed_in
  simp only [bigSep_sep']
  rw [shares (F := F) (ℓ := nLoc d) (I d), shares (F := F) (ℓ := xLoc d) (X d), pieces d f]
  refine sep_mono .rfl (sep_mono .rfl (bigSep_mono fun c _ => bigSep_mono fun s _ => ?_))
  exact (show _ ⊢ todo (F := F) d c s 0 by
    unfold todo; iintro H; iexists f; iexact H)

theorem all_back (d : Dev nD) :
    (bigSep Finset.univ fun c : Fin 2 => bigSep Finset.univ fun s : Fin 16 => handed_back d c s (X d) (I d) (hI d) : sProp 𝕄)
      = iprop((nLoc d ↦{fullShare} I d) ∗ (xLoc d ↦{fullShare} X d) ∗ (oLoc d ↦{fullShare} gathered (X d) (I d) (hI d))) := by
  unfold handed_back doneTo
  simp only [bigSep_sep']
  rw [shares (F := F) (ℓ := nLoc d) (I d), shares (F := F) (ℓ := xLoc d) (X d), pieces d (gathered (X d) (I d) (hI d))]

/-! ## The call's hand-overs -/

def P : (K (F := F)).Pay (nD := nD) (Val := Elt F) (Name := ℕ) (U := UU) where
  st := fun q d c => match q with | 0 => bigSep Finset.univ fun s : Fin 16 => handed_in d (Fin.cast nCore_zero c) s (X d) (I d)
  dn := fun q d c => match q with | 0 => bigSep Finset.univ fun s : Fin 16 => handed_back d (Fin.cast nCore_zero c) s (X d) (I d) (hI d)
  go := fun q d c i => match q with | 0 => handed_in d (Fin.cast nCore_zero c) (Fin.cast nSub_zero i) (X d) (I d)
  td := fun q d c i => match q with | 0 => handed_back d (Fin.cast nCore_zero c) (Fin.cast nSub_zero i) (X d) (I d) (hI d)
  x := fun _ _ => iprop(emp)

instance handed_in_storable (d : Dev nD) (c : Fin 2) (s : Fin 16) (X : S294912x128.Idx → Elt F .i32) (I : S1x262144.Idx → Elt F .i32) :
    BI.Storable (upEmb : UEmb _ 𝕄) (handed_in d c s X I) := by
  unfold handed_in todo; infer_instance
instance handed_back_storable (d : Dev nD) (c : Fin 2) (s : Fin 16) (X : S294912x128.Idx → Elt F .i32) (I : S1x262144.Idx → Elt F .i32)
    (hI : Names I) : BI.Storable (upEmb : UEmb _ 𝕄) (handed_back d c s X I hI) := by
  unfold handed_back doneTo; infer_instance

instance P_storable : (P (F := F) X I hI).IsStorable where
  st q d c := match q with
    | 0 => (inferInstance : BI.Storable (upEmb : UEmb _ 𝕄) (bigSep Finset.univ fun s : Fin 16 => handed_in d (Fin.cast nCore_zero c) s (X d) (I d)))
  dn q d c := match q with
    | 0 => (inferInstance : BI.Storable (upEmb : UEmb _ 𝕄) (bigSep Finset.univ fun s : Fin 16 => handed_back d (Fin.cast nCore_zero c) s (X d) (I d) (hI d)))
  go q d c i := match q with
    | 0 => handed_in_storable d (Fin.cast nCore_zero c) (Fin.cast nSub_zero i) (X d) (I d)
  td q d c i := match q with
    | 0 => handed_back_storable d (Fin.cast nCore_zero c) (Fin.cast nSub_zero i) (X d) (I d) (hI d)

/-! ## The launch's obligations -/

theorem defs₀_vector (c : Fin τ.nSC) (s : Fin τ.nSub) :
    defs₀ (F := F) (.scVector c s) 0 ()
      = SparseCore.onTile hcore0 hsub0 (fun c s => cc0_gather (F := F) (pt c s) (Memref.whole main_v8_scv) (Memref.isWhole_whole _)
            (Memref.whole main_v10_scv) (Memref.isWhole_whole _) (Memref.whole main_v11_scv) (Memref.isWhole_whole _)
            (Memref.whole cc0_scoped0) (Memref.isWhole_whole _) cc0_scoped1 (Memref.whole cc0_scoped2) (Memref.isWhole_whole _)
            cc0_scoped3 cc0_scoped4) ⟨⟩ c s := rfl

omit [FloatOps F] in
theorem wider {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P X I hI) v₀ 0 := by
  intro d c i O W hO _ _
  simp only [show (P X I hI).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) Variants.none _ Set.univ none _ _)
  rw [defs₀_vector]; simp only [SparseCore.onTile, hci, and_self, ↓reduceDIte]
  exact (tile_body d (Fin.cast nCore_zero c) (Fin.cast nSub_zero i) (X d) (I d) (hI d) facts O W hO).trans (wp_mono frame _ _ fun _ => wider)

theorem vecSplit : (K (F := F)).VecSplit' (P X I hI) 0 := by
  intro d c
  show (bigSep Finset.univ fun s : Fin 16 => handed_in d (Fin.cast nCore_zero c) s (X d) (I d)) ⊢ |={Set.univ}=> iprop(
      (bigSep Finset.univ fun s : Fin 16 => handed_in d (Fin.cast nCore_zero c) s (X d) (I d))
      ∗ ((bigSep Finset.univ fun s : Fin 16 => handed_back d (Fin.cast nCore_zero c) s (X d) (I d) (hI d))
          -∗ (bigSep Finset.univ fun s : Fin 16 => handed_back d (Fin.cast nCore_zero c) s (X d) (I d) (hI d))))
  iintro H; imodintro
  isplitl [H]; · iexact H
  iintro H; iexact H

omit [FloatOps F] in
theorem bigSep_emp' {J : Type} (s : Finset J) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X I hI).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) X I hI).x q thr) = bigSep Finset.univ fun _ => iprop(emp) from
    bigSep_congr fun _ _ => bigSep_univ_of_subsingleton (0 : Fin 1), bigSep_emp']
  iempintro

/-! ## @main on the TensorCore -/

abbrev bA0 : DevRef τ sig := Proc.devRef .tc main_arg0
abbrev bA1 : DevRef τ sig := Proc.devRef .tc main_arg1
abbrev bX : DevRef τ sig := Proc.devRef .tc main_v8
abbrev bN : DevRef τ sig := Proc.devRef .tc main_v10
abbrev bO : DevRef τ sig := Proc.devRef .tc main_v11
abbrev bR : DevRef τ sig := Proc.devRef .tc main_v12

/-- The steps before the call: the row numbers of every plane side by side, the rows of every plane one below the other. -/
def before : List (HloOp τ sig (Elt F)) :=
  [StableHlo.unary main_arg1 main_v0 (broadcastInDim S2x1x32768 ![0, 2] bcast_S2x32768_S2x1x32768_0_2 : (⟨S2x32768, .i32⟩ : BufTy).Contents (Elt F) → (⟨S2x1x32768, .i32⟩ : BufTy).Contents (Elt F)),
   StableHlo.nullary main_v1 (iotaInDim S4 32 0),
   StableHlo.nullary main_c (constantI S_ 32 73728#32),
   StableHlo.unary main_c main_v2 (broadcastInDim S4 ![] bcast_S_S4 : (⟨S_, .i32⟩ : BufTy).Contents (Elt F) → (⟨S4, .i32⟩ : BufTy).Contents (Elt F)),
   StableHlo.binary main_v1 main_v2 main_v3 (muli : (⟨S4, .i32⟩ : BufTy).Contents (Elt F) → (⟨S4, .i32⟩ : BufTy).Contents (Elt F) → (⟨S4, .i32⟩ : BufTy).Contents (Elt F)),
   StableHlo.unary main_v3 main_v4 (broadcastInDim S1x4x1 ![1] bcast_S4_S1x4x1_1 : (⟨S4, .i32⟩ : BufTy).Contents (Elt F) → (⟨S1x4x1, .i32⟩ : BufTy).Contents (Elt F)),
   StableHlo.unary main_v0 main_v5 (broadcastInDim S2x4x32768 ![0, 1, 2] bcast_S2x1x32768_S2x4x32768_0_1_2 : (⟨S2x1x32768, .i32⟩ : BufTy).Contents (Elt F) → (⟨S2x4x32768, .i32⟩ : BufTy).Contents (Elt F)),
   StableHlo.unary main_v4 main_v6 (broadcastInDim S2x4x32768 ![0, 1, 2] bcast_S1x4x1_S2x4x32768_0_1_2 : (⟨S1x4x1, .i32⟩ : BufTy).Contents (Elt F) → (⟨S2x4x32768, .i32⟩ : BufTy).Contents (Elt F)),
   StableHlo.binary main_v5 main_v6 main_v7 (addi : (⟨S2x4x32768, .i32⟩ : BufTy).Contents (Elt F) → (⟨S2x4x32768, .i32⟩ : BufTy).Contents (Elt F) → (⟨S2x4x32768, .i32⟩ : BufTy).Contents (Elt F)),
   StableHlo.reshape main_arg0 main_v8 (rfl : (.i32 : EltTy) = .i32) shapeCasts_S4x73728x128_S294912x128,
   StableHlo.reshape main_v7 main_v9 (rfl : (.i32 : EltTy) = .i32) shapeCasts_S2x4x32768_S262144,
   StableHlo.reshape main_v9 main_v10 (rfl : (.i32 : EltTy) = .i32) shapeCasts_S262144_S1x262144]

/-- The step after it. -/
def behind : List (HloOp τ sig (Elt F)) :=
  [StableHlo.reshape main_v11 main_v12 (rfl : (.i32 : EltTy) = .i32) shapeCasts_S262144x128_S2x4x32768x128]

theorem main_eq (d : Dev nD) : main (F := F) d = (seq before >>= fun _ => (sc (F := F)).run d 0 >>= fun _ => seq behind >>= fun _ => pure ⟨⟩) := by
  rfl

variable (m : (ℓ : Loc nD τ sig) → Buf (Elt F) ℓ) (ρ : Dev nD → PrngReg)

abbrev Val0 (d : Dev nD) : Valuation τ sig (Elt F) := fun b => m (d, b)
def Val1 (d : Dev nD) : Valuation τ sig (Elt F) := after before (Val0 m d)
def rowsOf (d : Dev nD) : S294912x128.Idx → Elt F .i32 := Val1 m d bX
def numsOf (d : Dev nD) : S1x262144.Idx → Elt F .i32 := Val1 m d bN

/-- What the run asks of the launch memory. -/
def InRange : Prop := ∀ d, Names (numsOf m d)

variable (hm : InRange m)

def Val2 (d : Dev nD) : Valuation τ sig (Elt F) :=
  Function.update (Val1 m d) bO (gathered (rowsOf m d) (numsOf m d) (hm d) : (sig.ty .hbm 14).Contents (Elt F))
def Val3 (d : Dev nD) : Valuation τ sig (Elt F) := after behind (Val2 m hm d)

theorem unscoped : ucRefs τ sig = StableHlo.tcRefs τ sig := by
  refine Finset.filter_true_of_mem fun b hb => ?_
  obtain ⟨r, -, rfl⟩ := Finset.mem_map.mp hb
  exact (by decide : ∀ r : Ref sig .tc, ¬ (Proc.devRef (τ := τ) .tc r).isScoped) r

theorem held_launch (d : Dev nD) :
    (unscopedBufs d (fun b => m ((SparseCore.T d).loc b)) : sProp 𝕄) = held (SparseCore.T d) (StableHlo.tcRefs τ sig) (Val0 m d) :=
  (Pipeline.unscopedBufs_held d (Val0 m d)).trans (congrArg (fun S => held (SparseCore.T d) S (Val0 m d)) unscoped)

/-- The three arrays the call uses. -/
abbrev used : Finset (DevRef τ sig) := {bN, bX, bO}
theorem used_sub : used ⊆ StableHlo.tcRefs τ sig := by
  intro b hb
  simp only [Finset.mem_insert, Finset.mem_singleton] at hb
  rcases hb with rfl | rfl | rfl <;> exact StableHlo.devRef_mem_tcRefs _

theorem held_used (d : Dev nD) (W : Valuation τ sig (Elt F)) :
    (held (SparseCore.T d) used W : sProp 𝕄)
      = iprop((nLoc d ↦{fullShare} W bN) ∗ (xLoc d ↦{fullShare} W bX) ∗ (oLoc d ↦{fullShare} W bO)) := by
  unfold StableHlo.held
  rw [SparseCore.bigSep_insert' (by decide), SparseCore.bigSep_insert' (by decide), bigSep_singleton]

theorem before_bufs : ∀ op ∈ before (F := F), op.bufs ⊆ StableHlo.tcRefs τ sig := by
  refine List.forall_iff_forall_mem.1 ?_
  exact ⟨StableHlo.unary_bufs_sub .., StableHlo.nullary_bufs_sub .., StableHlo.nullary_bufs_sub .., StableHlo.unary_bufs_sub ..,
    StableHlo.binary_bufs_sub .., StableHlo.unary_bufs_sub .., StableHlo.unary_bufs_sub .., StableHlo.unary_bufs_sub ..,
    StableHlo.binary_bufs_sub .., StableHlo.reshape_bufs_sub .., StableHlo.reshape_bufs_sub .., StableHlo.reshape_bufs_sub ..⟩
theorem before_fresh : ∀ op ∈ before (F := F), op.fresh = ∅ := by
  refine List.forall_iff_forall_mem.1 ?_
  exact ⟨rfl, rfl, rfl, rfl, rfl, rfl, rfl, rfl, rfl, rfl, rfl, rfl⟩
theorem behind_bufs : ∀ op ∈ behind (F := F), op.bufs ⊆ StableHlo.tcRefs τ sig :=
  List.forall_iff_forall_mem.1 (StableHlo.reshape_bufs_sub ..)
theorem behind_fresh : ∀ op ∈ behind (F := F), op.fresh = ∅ :=
  List.forall_iff_forall_mem.1 rfl

theorem Val2_ne (d : Dev nD) {b : DevRef τ sig} (h : b ≠ bO) : Val2 m hm d b = Val1 m d b := Function.update_of_ne h _ _
theorem Val2_res (d : Dev nD) : Val2 m hm d bO = gathered (rowsOf m d) (numsOf m d) (hm d) := Function.update_self _ _ _

instance pay_storable : (P (rowsOf m) (numsOf m) hm).IsStorable := P_storable _ _ hm
abbrev payOf : (K (F := F)).Pay (nD := nD) (Val := Elt F) (Name := ℕ) (U := UU) := P (rowsOf m) (numsOf m) hm

theorem st_eq (d : Dev nD) : (bigSep Finset.univ fun c : Fin ((K (F := F)).nCore 0) => (payOf m hm).st 0 d c)
    = (bigSep Finset.univ fun c : Fin 2 => bigSep Finset.univ fun s : Fin 16 => handed_in d c s (rowsOf m d) (numsOf m d) : sProp 𝕄) := rfl
theorem dn_eq (d : Dev nD) : (bigSep Finset.univ fun c : Fin ((K (F := F)).nCore 0) => (payOf m hm).dn 0 d c)
    = (bigSep Finset.univ fun c : Fin 2 => bigSep Finset.univ fun s : Fin 16 => handed_back d c s (rowsOf m d) (numsOf m d) (hm d) : sProp 𝕄) := rfl

abbrev FIN (d : Dev nD) : sProp 𝕄 := held (SparseCore.T d) (StableHlo.tcRefs τ sig) (Val3 m hm d)

theorem hmain (κ : GSem nD τ sig → ℕ) (d : Dev nD) :
    iprop((K (F := F)).ctx EH (payOf m hm) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hm d ∗ (K (F := F)).tcEnd d) := by
  unfold SparseCore.Cfg.tcRes SparseCore.Cfg.tcEnd
  rw [held_launch, main_eq]
  iintro ⟨#Hctx, Hst, ⟨Hb, Hheld, Hts, -⟩, -⟩
  iapply (StableHlo.wp_seq 𝒱 none Set.univ d (StableHlo.tcRefs τ sig) _ before before_bufs before_fresh (Val0 m d)) $$ [Hb Hheld]
  · isplitl [Hb] <;> iassumption
  iintro ⟨Hb, Hheld⟩
  ihave Hh := (show (held (SparseCore.T d) (StableHlo.tcRefs τ sig) (after before (Val0 m d)) : sProp 𝕄) ⊢ _ from
    Entails.of_eq (StableHlo.held_sub_split (c := SparseCore.T d) used_sub (Val1 m d))) $$ Hheld
  icases Hh with ⟨Hu, Hrest⟩
  ihave Hu' := (show (held (SparseCore.T d) used (Val1 m d) : sProp 𝕄) ⊢ iprop((nLoc d ↦{fullShare} numsOf m d) ∗ (xLoc d ↦{fullShare} rowsOf m d) ∗ (oLoc d ↦{fullShare} Val1 m d bO)) from
    Entails.of_eq (held_used d (Val1 m d))) $$ Hu
  ihave Hin := (all_in (rowsOf m) (numsOf m) d (Val1 m d bO)) $$ Hu'
  rw [wp_bind]
  iapply ((K (F := F)).wp_run (D (F := F)) 𝒱 (EH := EH) (P := payOf m hm) κ d 0) $$ [Hst Hin Hrest Hb Hts]
  isplitr; · iexact Hctx
  isplitl [Hst]; · iexact Hst
  isplitl [Hin]
  · rw [st_eq]; iexact Hin
  iintro ⟨Hst, Hdn⟩
  ihave Hdn' := (Entails.of_eq ((dn_eq m hm d).trans (all_back (rowsOf m) (numsOf m) hm d))) $$ Hdn
  have hused : iprop((nLoc d ↦{fullShare} numsOf m d) ∗ (xLoc d ↦{fullShare} rowsOf m d) ∗ (oLoc d ↦{fullShare} gathered (rowsOf m d) (numsOf m d) (hm d)))
      = (held (SparseCore.T d) used (Val2 m hm d) : sProp 𝕄) := by
    rw [held_used, Val2_res, Val2_ne m hm d (show bN ≠ bO by decide), Val2_ne m hm d (show bX ≠ bO by decide)]; rfl
  have hrest : (held (SparseCore.T d) (StableHlo.tcRefs τ sig \ used) (Val1 m d) : sProp 𝕄) = held (SparseCore.T d) (StableHlo.tcRefs τ sig \ used) (Val2 m hm d) :=
    StableHlo.held_congr (SparseCore.T d) fun b hb => (Val2_ne m hm d fun e => (Finset.mem_sdiff.mp hb).2 (by rw [e]; decide)).symm
  ihave Hu := (Entails.of_eq hused) $$ Hdn'
  ihave Hr := (Entails.of_eq hrest) $$ Hrest
  ihave Hheld := (Entails.of_eq (StableHlo.held_sub_split (c := SparseCore.T d) used_sub (Val2 m hm d)).symm) $$ [Hu Hr]
  · isplitl [Hu] <;> iassumption
  iapply (StableHlo.wp_seq 𝒱 none Set.univ d (StableHlo.tcRefs τ sig) _ behind behind_bufs behind_fresh (Val2 m hm d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-! ## The run -/

def Ends (d : Dev nD) (s' : Phys nD τ sig (Elt F)) : Prop :=
  s'.mem.mem (d, bA0) = Val3 m hm d bA0 ∧ s'.mem.mem (d, bA1) = Val3 m hm d bA1 ∧ s'.mem.mem (d, bR) = Val3 m hm d bR

theorem read_one (d : Dev nD) (s' : Phys nD τ sig (Elt F)) (b : DevRef τ sig) (hb : b ∈ StableHlo.tcRefs τ sig) :
    iprop(FIN m hm d ∗ SI s') ⊢ (⌜s'.mem.mem (d, b) = Val3 m hm d b⌝ : sProp 𝕄) := by
  unfold FIN
  rw [StableHlo.held_sub_split (c := SparseCore.T d) (Finset.singleton_subset_iff.mpr hb) (Val3 m hm d)]
  unfold StableHlo.held
  rw [bigSep_singleton]
  iintro ⟨⟨H, -⟩, HSI⟩
  ihave H := (SI_pointsTo_agree (st := s') (ℓ := (d, b)) (I := Finset.univ) (q := fullShare) (f := Val3 m hm d b)) $$ [HSI H]
  · isplitl [HSI] <;> iassumption
  icases H with %h
  ipureintro; exact funext fun i => h i (Finset.mem_univ i)

theorem hfin (d : Dev nD) (s' : Phys nD τ sig (Elt F)) : iprop(FIN m hm d ∗ SI s') ⊢ (⌜Ends m hm d s'⌝ : sProp 𝕄) := by
  have h0 := persistent_entails_right (read_one m hm d s' bA0 (StableHlo.devRef_mem_tcRefs _))
  have h1 := persistent_entails_right (read_one m hm d s' bA1 (StableHlo.devRef_mem_tcRefs _))
  have h2 := read_one m hm d s' bR (StableHlo.devRef_mem_tcRefs _)
  iintro H
  ihave H := h0 $$ H
  icases H with ⟨%e0, H⟩
  ihave H := h1 $$ H
  icases H with ⟨%e1, H⟩
  ihave H := h2 $$ H
  icases H with %e2
  ipureintro; exact ⟨e0, e1, e2⟩

def Post : PUnit × MemSt nD τ sig (Elt F) → Prop := fun r =>
  (∀ d : Dev nD, r.2.mem (d, bA0) = Val3 m hm d bA0 ∧ r.2.mem (d, bA1) = Val3 m hm d bA1 ∧ r.2.mem (d, bR) = Val3 m hm d bR) ∧ r.2.sem = fun _ => 0

theorem run_main [∀ e, Nonempty (Elt F e)] :
    θ_run (Cert.KernelIdeal.defs (F := F)) (Cert.KernelIdeal.threads (F := F)) ⟨m, fun _ => 0, ρ⟩ (Post m hm) :=
  haveI := pay_storable m hm
  SparseCore.Cfg.θ_run_sc_quiescent (K := K (F := F)) (D := D (F := F)) (𝒱 := 𝒱) (EH := EH) (P := payOf m hm) (A := ∅) facts v₀
    (fun q hq => match q with | 0 => nomatch hq)
    (fun q _ => match q with | 0 => tileObl _ _ hm)
    (fun q _ => match q with | 0 => SparseCore.Cfg.VecSplit.of_plain (vecSplit _ _ hm))
    m ρ main (fun _ => iprop(emp)) (FIN m hm) (u₀ (F := F)) (sep_elim_left.trans (hu₀ _ _ hm)) (hmain m ρ hm) (Ends m hm) (hfin m hm)
    (Post m hm) (fun _ h hz => ⟨h, hz⟩)

end Cert.Proof.Rows

end
-- ==== Proof.Taken.lean ====
/-
  What is to be computed: the rows `dest` names out of every plane. The reference returns them, and the precondition
  says that every number names a row.
-/
module

public import proofs.«01_k».proof.Proof.Gen.ReferenceIdeal.Run
public import proofs.«01_k».proof.Proof.Gen.Pre_dest_in_rows
public import Idealize.ShloMosaic.Lib.ValueIdxCore
public import Idealize.ShloMosaic.Lib.Pipeline.Value

@[expose] public section

set_option maxRecDepth 65536

noncomputable section

namespace Cert.Proof.Rows

open Cert.ReferenceIdeal Cert.ReferenceIdeal.Gen

open Idealize.ShloMosaic Idealize.ShloMosaic.ValueIdx

/-! ## The rows that `dest` names -/

/-- Every number in `dest` names a row. -/
def RowsOk (A : S2x32768.Idx → BitVec 32) : Prop := ∀ j, (A j).toNat < 73728

/-- Row `dest[c, t]` of plane `p`, for every `c`, `p` and `t`. -/
def taken (Y : S4x73728x128.Idx → BitVec 32) (A : S2x32768.Idx → BitVec 32) (hA : RowsOk A) : S2x4x32768x128.Idx → BitVec 32 :=
  fun i => Y (ix3 (i 1 : Fin 4) (⟨(A (ix2 (i 0 : Fin 2) (i 2 : Fin 32768))).toNat, hA _⟩ : Fin 73728) (i 3 : Fin 128))

/-! ## The reference's result -/

/-- A gather along the middle axis, read at an index: the row its number names. -/
theorem gather_row_apply (Y : S4x73728x128.Idx → BitVec 32) (N : S2x32768x1.Idx → BitVec 32) (p : Fin 4) (c : Fin 2) (t : Fin 32768) (l : Fin 128)
    (r : Fin 73728) (hr : (N (ix3 c t (0 : Fin 1))).toInt.toNat = r.val) :
    Host.gather gather_S4x73728x128_S2x32768x1_S4x2x32768x128_03_1_n_n_1_2_41128 Y N (ix4 p c t l) = Y (ix3 p r l) := by
  unfold Host.gather
  congr 1
  funext a
  refine Fin.ext ?_
  show GatherDims.start _ (ix4 p c t l) N a + GatherDims.batchCoord _ (ix4 p c t l) a + GatherDims.offCoord _ (ix4 p c t l) a = _
  rw [GatherDims.batchCoord_eq_zero _ _ _ List.not_mem_nil]
  match a with
  | 0 =>
    unfold GatherDims.start
    rw [dif_neg (by decide)]
    unfold GatherDims.offCoord
    rw [dif_pos (by decide)]
    simp only [Nat.zero_add]
    rfl
  | 1 =>
    rw [GatherDims.offCoord_eq_zero _ _ _ (by decide)]
    unfold GatherDims.start
    rw [dif_pos (by decide)]
    have hsi : GatherDims.siIdx gather_S4x73728x128_S2x32768x1_S4x2x32768x128_03_1_n_n_1_2_41128 (ix4 p c t l) ⟨List.idxOf (1 : Fin 3) [1], by decide⟩ = ix3 c t (0 : Fin 1) := by
      funext b
      refine Fin.ext ?_
      match b with
      | 0 => rfl
      | 1 => rfl
      | 2 => rfl
    refine (congrArg (fun k => min (N k).toInt.toNat _) hsi).trans ?_
    rw [hr]
    have := r.isLt
    show min r.val (73728 - 1) = r.val
    omega
  | 2 =>
    unfold GatherDims.start
    rw [dif_neg (by decide)]
    unfold GatherDims.offCoord
    rw [dif_pos (by decide)]
    simp only [Nat.zero_add]
    rfl

/-- The reference's numbers: a negative one counted from the end, the others as they are. -/
abbrev fromEnd (A : S2x32768.Idx → BitVec 32) : S2x32768x1.Idx → BitVec 32 :=
  broadcastInDim S2x32768x1 ![0, 1] bcast_S2x32768_S2x32768x1_0_1 (select (cmpi .slt A (broadcastInDim S2x32768 ![] bcast_S_S2x32768 (constantI S_ 32 0#32)))
    (addi A (broadcastInDim S2x32768 ![] bcast_S_S2x32768 (constantI S_ 32 73728#32))) A)

theorem fromEnd_apply (A : S2x32768.Idx → BitVec 32) (hA : RowsOk A) (c : Fin 2) (t : Fin 32768) :
    fromEnd A (ix3 c t (0 : Fin 1)) = A (ix2 c t) := by
  unfold fromEnd
  rw [broadcastInDim_apply _ _ _ _ (ix2 c t) (by intro a; match a with | 0 => rfl | 1 => rfl)]
  have h : IntOp.cmpi .slt (A (ix2 c t)) 0#32 = 0#1 := by
    have h := hA (ix2 c t)
    have hs : (A (ix2 c t)).slt 0#32 = false := by
      rw [BitVec.slt_eq_decide, decide_eq_false_iff_not, BitVec.toInt_eq_toNat_cond, BitVec.toInt_eq_toNat_cond]
      simp only [BitVec.toNat_ofNat, Nat.reducePow, Nat.reduceMod]
      omega
    simp only [IntOp.cmpi, hs]
    rfl
  show (if IntOp.cmpi .slt (A (ix2 c t)) 0#32 = 1#1 then _ else A (ix2 c t)) = _
  rw [h, if_neg (by decide)]

theorem reference_taken (Y : S4x73728x128.Idx → BitVec 32) (A : S2x32768.Idx → BitVec 32) (hA : RowsOk A) :
    transpose S2x4x32768x128 [1, 0, 2, 3] (Host.gather gather_S4x73728x128_S2x32768x1_S4x2x32768x128_03_1_n_n_1_2_41128 Y (fromEnd A))
      transposes_S4x2x32768x128_S2x4x32768x128_1_0_2_3 = taken Y A hA := by
  funext i
  refine (transpose_apply _ _ _ i (ix4 (i 1 : Fin 4) (i 0 : Fin 2) (i 2 : Fin 32768) (i 3 : Fin 128)) (by
    intro b; match b with | 0 => rfl | 1 => rfl | 2 => rfl | 3 => rfl)).trans ?_
  refine gather_row_apply Y (fromEnd A) (i 1) (i 0) (i 2) (i 3) _ ?_
  refine (congrArg (fun v : BitVec 32 => v.toInt.toNat) (fromEnd_apply A hA (i 0) (i 2))).trans ?_
  have h := hA (ix2 (i 0 : Fin 2) (i 2 : Fin 32768))
  show (A (ix2 (i 0 : Fin 2) (i 2 : Fin 32768))).toInt.toNat = (A (ix2 (i 0 : Fin 2) (i 2 : Fin 32768))).toNat
  rw [BitVec.toInt_eq_toNat_cond, if_pos (by omega)]
  rfl

/-! ## The precondition -/

theorem ok_of_pre {F : FTy → Type} [FloatOps F] (Y : S4x73728x128.Idx → BitVec 32) (A : S2x32768.Idx → BitVec 32)
    (h : Cert.Pre_dest_in_rows.fn (F := F) Y A = fun _ => 1#1) : RowsOk A := by
  intro j
  have e := congrFun h j
  have both : ∀ p q : Bool, IntOp.andi (BitVec.ofBool p) (BitVec.ofBool q) = 1#1 → p = true ∧ q = true := by decide
  have e' : IntOp.andi (BitVec.ofBool ((0#32).sle (A j))) (BitVec.ofBool ((A j).slt 73728#32)) = 1#1 := e
  obtain ⟨h1, h2⟩ := both _ _ e'
  rw [BitVec.sle_eq_decide, decide_eq_true_eq] at h1
  rw [BitVec.slt_eq_decide, decide_eq_true_eq] at h2
  have t0 : (0#32).toInt = 0 := rfl
  have t1 : (73728#32).toInt = 73728 := rfl
  rw [t0] at h1
  rw [t1] at h2
  rw [BitVec.toInt_eq_toNat_cond] at h1 h2
  split at h1 <;> omega

end Cert.Proof.Rows

end
-- ==== Proof.Value.lean ====
/-
  The kernel's value: what the call leaves, reshaped, is the rows `dest` names out of every plane.
-/
module

public import proofs.«01_k».proof.Proof.Launch
public import proofs.«01_k».proof.Proof.Taken

@[expose] public section

set_option maxRecDepth 65536

noncomputable section

namespace Cert.Proof.Rows

open Cert.KernelIdeal Cert.KernelIdeal.Gen

open Idealize.ShloMosaic Idealize.ShloMosaic.ValueIdx
open Idealize.ShloMosaic.StableHlo

/-! ## The numbers the call is handed -/

/-- The numbers as the program computes them: `dest` in every plane, moved on by the rows of the planes before. -/
def numbers (A : S2x32768.Idx → BitVec 32) : S1x262144.Idx → BitVec 32 :=
  shapeCast S1x262144 (shapeCast S262144 (addi
    (broadcastInDim S2x4x32768 ![0, 1, 2] bcast_S2x1x32768_S2x4x32768_0_1_2 (broadcastInDim S2x1x32768 ![0, 2] bcast_S2x32768_S2x1x32768_0_2 A))
    (broadcastInDim S2x4x32768 ![0, 1, 2] bcast_S1x4x1_S2x4x32768_0_1_2 (broadcastInDim S1x4x1 ![1] bcast_S4_S1x4x1_1
      (muli (iotaInDim S4 32 0) (broadcastInDim S4 ![] bcast_S_S4 (constantI S_ 32 73728#32))))))
    shapeCasts_S2x4x32768_S262144) shapeCasts_S262144_S1x262144

theorem plane_word (p : Fin 4) : (BitVec.ofNat 32 p.val * 73728#32).toNat = 73728 * p.val := by
  revert p; decide

theorem numbers_toNat (A : S2x32768.Idx → BitVec 32) (hA : RowsOk A) (c : Fin 2) (p : Fin 4) (t : Fin 32768) (n : S1x262144.Idx)
    (hn : (n 1).val = c.val * 131072 + p.val * 32768 + t.val) : (numbers A n).toNat = (A (ix2 c t)).toNat + 73728 * p.val := by
  have hn0 : (n 0).val < 1 := (n 0).isLt
  unfold numbers
  rw [shapeCast_apply _ _ n (ix1 (⟨(n 1).val, (n 1).isLt⟩ : Fin 262144)) (by
      rw [Shape.rowMajor_val_one, Shape.rowMajor_val_two, Nat.lt_one_iff.mp hn0, Nat.zero_mul, Nat.zero_add]),
    shapeCast_apply _ _ _ (ix3 c p t) (by
      rw [Shape.rowMajor_val_one, Shape.rowMajor_val_three]
      refine Eq.trans (?_ : _ = c.val * 131072 + p.val * 32768 + t.val) hn.symm
      show (c.val * 4 + p.val) * 32768 + t.val = _
      ring)]
  show ((_ : BitVec 32) + (_ : BitVec 32)).toNat = _
  rw [broadcastInDim_apply _ _ _ _ (ix3 c (0 : Fin 1) t) (by intro a; match a with | 0 => rfl | 1 => rfl | 2 => rfl),
    broadcastInDim_apply _ _ _ _ (ix2 c t) (by intro a; match a with | 0 => rfl | 1 => rfl),
    broadcastInDim_apply _ _ _ _ (ix3 (0 : Fin 1) p (0 : Fin 1)) (by intro a; match a with | 0 => rfl | 1 => rfl | 2 => rfl),
    broadcastInDim_apply _ _ _ _ (ix1 p) (by intro a; match a with | 0 => rfl)]
  have h1 : muli (iotaInDim S4 32 0) (broadcastInDim S4 ![] bcast_S_S4 (constantI S_ 32 73728#32)) (ix1 p) = BitVec.ofNat 32 p.val * 73728#32 := rfl
  rw [h1, BitVec.toNat_add, plane_word]
  have := hA (ix2 c t)
  have := p.isLt
  omega

theorem numbers_ok (A : S2x32768.Idx → BitVec 32) (hA : RowsOk A) (n : S1x262144.Idx) : (numbers A n).toNat < 294912 := by
  have hn : (n 1).val < 262144 := (n 1).isLt
  have h := numbers_toNat A hA ⟨(n 1).val / 131072, by omega⟩ ⟨(n 1).val / 32768 % 4, by omega⟩ ⟨(n 1).val % 32768, by omega⟩ n (by
    show (n 1).val = (n 1).val / 131072 * 131072 + (n 1).val / 32768 % 4 * 32768 + (n 1).val % 32768; omega)
  rw [h]
  have := hA (ix2 (⟨(n 1).val / 131072, by omega⟩ : Fin 2) (⟨(n 1).val % 32768, by omega⟩ : Fin 32768))
  show _ + 73728 * ((n 1).val / 32768 % 4) < _
  omega

/-! ## The kernel's result -/

theorem gathered_taken {F : FTy → Type} (Y : S4x73728x128.Idx → BitVec 32) (A : S2x32768.Idx → BitVec 32) (hA : RowsOk A)
    (hN : Names (F := F) (numbers A)) :
    shapeCast S2x4x32768x128 (gathered (F := F) (shapeCast S294912x128 Y shapeCasts_S4x73728x128_S294912x128) (numbers A) hN)
      shapeCasts_S262144x128_S2x4x32768x128 = taken Y A hA := by
  funext i
  have h0 : (i 0).val < 2 := (i 0).isLt
  have h1 : (i 1).val < 4 := (i 1).isLt
  have h2 : (i 2).val < 32768 := (i 2).isLt
  have h3 : (i 3).val < 128 := (i 3).isLt
  have hr : (i 0).val * 131072 + (i 1).val * 32768 + (i 2).val < 262144 := by omega
  refine (shapeCast_apply _ _ i (ix2 (⟨(i 0).val * 131072 + (i 1).val * 32768 + (i 2).val, hr⟩ : Fin 262144) (i 3 : Fin 128)) ?_).trans ?_
  · rw [Shape.rowMajor_val_two, Shape.rowMajor_val_four]
    show ((i 0).val * 131072 + (i 1).val * 32768 + (i 2).val) * 128 + (i 3).val = (((i 0).val * 4 + (i 1).val) * 32768 + (i 2).val) * 128 + (i 3).val
    omega
  unfold gathered taken
  refine shapeCast_apply _ _ _ _ ?_
  rw [Shape.rowMajor_val_two, Shape.rowMajor_val_three]
  have e := numbers_toNat A hA (i 0) (i 1) (i 2)
    (fun | 0 => (0 : Fin 1) | 1 => (⟨(i 0).val * 131072 + (i 1).val * 32768 + (i 2).val, hr⟩ : Fin 262144)) rfl
  show ((i 1).val * 73728 + (A (ix2 (i 0 : Fin 2) (i 2 : Fin 32768))).toNat) * 128 + (i 3).val
    = (numbers A (fun | 0 => (0 : Fin 1) | 1 => (⟨(i 0).val * 131072 + (i 1).val * 32768 + (i 2).val, hr⟩ : Fin 262144))).toNat * 128 + (i 3).val
  rw [e]
  ring

/-! ## The contents at the end of the run -/

section Ends
variable {F : FTy → Type} [FloatOps F] (m : (ℓ : Loc nD τ sig) → Buf (Elt F) ℓ) (d : Dev nD)

abbrev planesOf : S4x73728x128.Idx → BitVec 32 := m (d, bA0)
abbrev destOf : S2x32768.Idx → BitVec 32 := m (d, bA1)

theorem numsOf_eq : numsOf m d = numbers (destOf m d) := by
  unfold numsOf Val1 before
  after_results <;> rfl

theorem rowsOf_eq : rowsOf m d = shapeCast S294912x128 (planesOf m d) shapeCasts_S4x73728x128_S294912x128 := by
  unfold rowsOf Val1 before
  after_results <;> rfl

theorem in_range (hA : ∀ d, RowsOk (destOf m d)) : InRange m := fun d j => by
  rw [numsOf_eq]; exact numbers_ok _ (hA d) j

variable (hm : InRange m)

theorem Val3_planes : Val3 m hm d bA0 = m (d, bA0) := by
  have h : Val1 m d bA0 = m (d, bA0) := by
    unfold Val1 before
    after_results <;> rfl
  rw [← h, ← Val2_ne m hm d (show bA0 ≠ bO by decide)]
  unfold Val3 behind
  after_results <;> rfl

theorem Val3_dest : Val3 m hm d bA1 = m (d, bA1) := by
  have h : Val1 m d bA1 = m (d, bA1) := by
    unfold Val1 before
    after_results <;> rfl
  rw [← h, ← Val2_ne m hm d (show bA1 ≠ bO by decide)]
  unfold Val3 behind
  after_results <;> rfl

theorem Val3_result (hA : RowsOk (destOf m d)) : (Val3 m hm d bR : S2x4x32768x128.Idx → BitVec 32) = taken (planesOf m d) (destOf m d) hA := by
  have h : (Val3 m hm d bR : S2x4x32768x128.Idx → BitVec 32)
      = shapeCast S2x4x32768x128 (Val2 m hm d bO : S262144x128.Idx → BitVec 32) shapeCasts_S262144x128_S2x4x32768x128 := by
    unfold Val3 behind
    after_results <;> rfl
  rw [h, Val2_res]
  have e : ∀ (X : S294912x128.Idx → BitVec 32) (I : S1x262144.Idx → BitVec 32) (hI : Names (F := F) I)
      (_ : X = shapeCast S294912x128 (planesOf m d) shapeCasts_S4x73728x128_S294912x128) (_ : I = numbers (destOf m d)),
      shapeCast S2x4x32768x128 (gathered (F := F) X I hI) shapeCasts_S262144x128_S2x4x32768x128 = taken (planesOf m d) (destOf m d) hA := by
    intro X I hI hX hI'
    subst hX hI'
    exact gathered_taken _ _ hA hI
  exact e _ _ (hm d) (rowsOf_eq m d) (numsOf_eq m d)

/-- The whole run: every device ends with the rows `dest` names as its result, its arguments as they were, and every
    counter at zero. -/
theorem run_taken [∀ e, Nonempty (Elt F e)] (ρ : Dev nD → PrngReg) (hA : ∀ d, RowsOk (destOf m d)) :
    θ_run (Cert.KernelIdeal.defs (F := F)) (Cert.KernelIdeal.threads (F := F)) ⟨m, fun _ => 0, ρ⟩ fun r =>
      (∀ d : Dev nD, (r.2.mem (d, bR) : S2x4x32768x128.Idx → BitVec 32) = taken (planesOf m d) (destOf m d) (hA d)
        ∧ r.2.mem (d, bA0) = m (d, bA0) ∧ r.2.mem (d, bA1) = m (d, bA1)) ∧ r.2.sem = fun _ => 0 :=
  (θ_run (Cert.KernelIdeal.defs (F := F)) _ _).mono
    (fun _ h => ⟨fun d => ⟨(h.1 d).2.2.trans (Val3_result m d (in_range m hA) (hA d)),
      (h.1 d).1.trans (Val3_planes m d (in_range m hA)), (h.1 d).2.1.trans (Val3_dest m d (in_range m hA))⟩, h.2⟩)
    (run_main m ρ (in_range m hA))

end Ends

end Cert.Proof.Rows

end
-- ==== Proof.FfnCases.lean ====
/-
  What one grid point of the feed-forward call leaves behind. At the first of a block's two points the accumulator is
  cleared and receives the first half's product; at the second it receives the other half's, and the block of the
  result is the residual plus the gated accumulator.
-/
module

public import proofs.«01_k».proof.Proof.Gen.FfnIdeal.Value

@[expose] public section

noncomputable section

namespace Cert.Proof.Ffn

open Cert.FfnIdeal Cert.FfnIdeal.Gen Idealize.ShloMosaic Idealize.ShloMosaic.TcCoe Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

section
variable (c : Dev nD) (i : grid0.Coords)
  (a2 : Memref sig .tc .vmem S1024x1024 .bf16) (h2 : a2.IsWhole) (a3 : Memref sig .tc .vmem S1024x1408 .bf16) (h3 : a3.IsWhole)
  (a4 : Memref sig .tc .vmem S1024x1408 .bf16) (h4 : a4.IsWhole) (a5 : Memref sig .tc .vmem S1408x1024 .bf16) (h5 : a5.IsWhole)
  (a6 : Memref sig .tc .vmem S1024x1024 .f32) (h6 : a6.IsWhole) (a7 : Memref sig .tc .vmem S1x6x1024 .f32) (h7 : a7.IsWhole)
  (a8 : Memref sig .tc .vmem S1024x1024 .f32) (h8 : a8.IsWhole) (a9 : Memref sig .tc .vmem S1024x1024 .f32) (h9 : a9.IsWhole)
  (x0 : Vec F S1024x1024 .bf16) (x1 x2 : Vec F S1024x1408 .bf16) (x3 : Vec F S1408x1024 .bf16)
  (x4 : Vec F S1024x1024 .f32) (x5 : Vec F S1x6x1024 .f32) (xs : Vec F S1024x1024 .f32)

/-- The first point of a block: the accumulator holds the first half's product over zero. -/
theorem first_acc (hc0 : cond0_0 i) (hc1 : ¬cond0_1 i) :
    sout0_A_0 c i a2 h2 a3 h3 a4 h4 a5 h5 a6 h6 a7 h7 a8 h8 a9 h9 hc0 hc1 x0 x1 x2 x3 x4 x5
      = k0_pay2 x0 x1 x2 (k0_pay1 (F := F)) x3 := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1024x1024) zero2]
  simp only [View.readCov_unit_zero (S := S1024x1024) _ zero2, View.readAt_eq_ld, h2.read_unread, h3.read_unread,
    h4.read_unread, h5.read_unread, View.ld_unit_zero (S := S1024x1024) zero2, View.ld_unit_zero (S := S1024x1408) zero2,
    View.ld_unit_zero (S := S1408x1024) zero2]

/-- The second point: the block of the result is stored from the accumulator that gained the second half's product. -/
theorem second_out (hc0 : ¬cond0_0 i) (hc1 : cond0_1 i) :
    out0_B_6 c i a2 h2 a3 h3 a4 h4 a5 h5 a6 h6 a7 h7 a8 h8 a9 h9 hc0 hc1 x0 x1 x2 x3 x4 x5 xs
      = k0_pay3 x4 x5 (k0_pay2 x0 x1 x2 xs x3) := by
  unfold out0_B_6
  rw [View.read_writes_eq_canon _ _ _ (cover0_B_6 c i a2 h2 a3 h3 a4 h4 a5 h5 a6 h6 a7 h7 a8 h8 a9 h9 hc0 hc1 x0 x1 x2 x3 x4 x5 xs)]
  unfold kernelRun0_B
  dsimp only
  sl_unfold_words
  rw [View.canon_unit_zero (S := S1024x1024) zero2]
  simp only [View.readCov_unit_zero (S := S1024x1024) _ zero2, View.readAt_eq_ld, h2.read_unread, h3.read_unread,
    h4.read_unread, h5.read_unread, h6.read_unread, h7.read_unread, h9.read_unread, View.ld_unit_zero (S := S1024x1024) zero2,
    View.ld_unit_zero (S := S1024x1408) zero2, View.ld_unit_zero (S := S1408x1024) zero2, View.ld_unit_zero (S := S1x6x1024) zero3]

end

end Cert.Proof.Ffn

end
-- ==== Proof.FfnBlocks.lean ====
/-
  The feed-forward call's blocks at an index: rows of block `t / 2` of the activations and of the residual, and half
  `t % 2` of the hidden columns of the weights; then the arrays they are cut from, in terms of the arguments.
-/
module

public import proofs.«01_k».proof.Proof.FfnCases
public import Idealize.ShloMosaic.Lib.Pointwise

@[expose] public section

noncomputable section

namespace Cert.Proof.Ffn

open Cert.FfnIdeal Cert.FfnIdeal.Gen Idealize.ShloMosaic Idealize.ShloMosaic.TcCoe Idealize.SL.Sem

variable {F : FTy → Type} [FloatOps F] (m : (ℓ : Loc nD τ sig) → Buf (Elt F) ℓ) (c : Dev nD)

theorem index0 : ∀ t : Fin cfg0.N, win0_0.index t 0 = t.val / 2 ∧ win0_0.index t 1 = 0 := by decide +kernel
theorem index1 : ∀ t : Fin cfg0.N, win0_1.index t 0 = 0 ∧ win0_1.index t 1 = t.val % 2 := by decide +kernel
theorem index2 : ∀ t : Fin cfg0.N, win0_2.index t 0 = 0 ∧ win0_2.index t 1 = t.val % 2 + 2 := by decide +kernel
theorem index3 : ∀ t : Fin cfg0.N, win0_3.index t 0 = t.val % 2 ∧ win0_3.index t 1 = 0 := by decide +kernel
theorem index4 : ∀ t : Fin cfg0.N, win0_4.index t 0 = t.val / 2 ∧ win0_4.index t 1 = 0 := by decide +kernel
theorem index5 : ∀ t : Fin cfg0.N, win0_5.index t 0 = t.val / 8 ∧ win0_5.index t 1 = 0 ∧ win0_5.index t 2 = 0 := by
  decide +kernel

theorem point_lt (t : Fin cfg0.N) : t.val < 64 := lt_of_lt_of_eq t.isLt (show cfg0.N = 64 from N_0)

/-- A block of the activations. -/
theorem block_h (t : Fin cfg0.N) (r l : Fin 1024) :
    iblk m c 0 t (ix2 r l) = V m c main_v1 (ix2 ⟨t.val / 2 * 1024 + r.val, by have := point_lt t; omega⟩ l) := by
  refine congrArg (V m c main_v1) (funext fun a => Fin.ext ?_)
  match a with
  | 0 => show win0_0.index t 0 * 1024 + 1 * r.val = t.val / 2 * 1024 + r.val; rw [(index0 t).1]; omega
  | 1 => show win0_0.index t 1 * 1024 + 1 * l.val = l.val; rw [(index0 t).2]; omega

/-- A block of the gate's half of the first weight. -/
theorem block_gate (t : Fin cfg0.N) (k : Fin 1024) (f : Fin 1408) :
    iblk m c 1 t (ix2 k f) = V m c main_v3 (ix2 k ⟨t.val % 2 * 1408 + f.val, by omega⟩) := by
  refine congrArg (V m c main_v3) (funext fun a => Fin.ext ?_)
  match a with
  | 0 => show win0_1.index t 0 * 1024 + 1 * k.val = k.val; rw [(index1 t).1]; omega
  | 1 => show win0_1.index t 1 * 1408 + 1 * f.val = t.val % 2 * 1408 + f.val; rw [(index1 t).2]; omega

/-- A block of the other half of the first weight. -/
theorem block_up (t : Fin cfg0.N) (k : Fin 1024) (f : Fin 1408) :
    iblk m c 2 t (ix2 k f) = V m c main_v3 (ix2 k ⟨2816 + (t.val % 2 * 1408 + f.val), by omega⟩) := by
  refine congrArg (V m c main_v3) (funext fun a => Fin.ext ?_)
  match a with
  | 0 => show win0_2.index t 0 * 1024 + 1 * k.val = k.val; rw [(index2 t).1]; omega
  | 1 => show win0_2.index t 1 * 1408 + 1 * f.val = 2816 + (t.val % 2 * 1408 + f.val); rw [(index2 t).2]; omega

/-- A block of the second weight. -/
theorem block_down (t : Fin cfg0.N) (f : Fin 1408) (l : Fin 1024) :
    iblk m c 3 t (ix2 f l) = V m c main_v5 (ix2 ⟨t.val % 2 * 1408 + f.val, by omega⟩ l) := by
  refine congrArg (V m c main_v5) (funext fun a => Fin.ext ?_)
  match a with
  | 0 => show win0_3.index t 0 * 1408 + 1 * f.val = t.val % 2 * 1408 + f.val; rw [(index3 t).1]; omega
  | 1 => show win0_3.index t 1 * 1024 + 1 * l.val = l.val; rw [(index3 t).2]; omega

/-- A block of the residual. -/
theorem block_x (t : Fin cfg0.N) (r l : Fin 1024) :
    iblk m c 4 t (ix2 r l) = V m c main_v0 (ix2 ⟨t.val / 2 * 1024 + r.val, by have := point_lt t; omega⟩ l) := by
  refine congrArg (V m c main_v0) (funext fun a => Fin.ext ?_)
  match a with
  | 0 => show win0_4.index t 0 * 1024 + 1 * r.val = t.val / 2 * 1024 + r.val; rw [(index4 t).1]; omega
  | 1 => show win0_4.index t 1 * 1024 + 1 * l.val = l.val; rw [(index4 t).2]; omega

/-- The modulation of the block's batch. -/
theorem block_mod (t : Fin cfg0.N) (q : Fin 6) (l : Fin 1024) :
    iblk m c 5 t (ix3 (0 : Fin 1) q l)
      = m ((c : Thread nD τ).loc main_arg4) (ix3 (⟨t.val / 8, by have := point_lt t; omega⟩ : Fin 8) q l) := by
  rw [← V_main_arg4 m c]
  refine congrArg (V m c main_arg4) (funext fun a => Fin.ext ?_)
  match a with
  | 0 => show win0_5.index t 0 * 1 + 1 * 0 = t.val / 8; rw [(index5 t).1]; omega
  | 1 => show win0_5.index t 1 * 6 + 1 * q.val = q.val; rw [(index5 t).2.1]; omega
  | 2 => show win0_5.index t 2 * 1024 + 1 * l.val = l.val; rw [(index5 t).2.2]; omega

/-! ## The arrays the blocks are cut from -/

theorem array_x : V m c main_v0 = shapeCast S32768x1024 (m ((c : Thread nD τ).loc main_arg3)) shapeCasts_S8x4096x1024_S32768x1024 := by
  show StableHlo.after hostOps0 _ _ = _
  simp only [hostOps0]; after_results <;> rfl

theorem array_h : V m c main_v1 = shapeCast S32768x1024 (m ((c : Thread nD τ).loc main_arg0)) shapeCasts_S8x4096x1024_S32768x1024 := by
  show StableHlo.after hostOps0 _ _ = _
  simp only [hostOps0]; after_results <;> rfl

theorem array_in : V m c main_v3 = truncf .bf16 (shapeCast S1024x5632 (m ((c : Thread nD τ).loc main_arg1)) shapeCasts_S1x1024x5632_S1024x5632) bitsLt_bf16_f32 := by
  show StableHlo.after hostOps0 _ _ = _
  simp only [hostOps0]; after_results <;> rfl

theorem array_out : V m c main_v5 = truncf .bf16 (shapeCast S2816x1024 (m ((c : Thread nD τ).loc main_arg2)) shapeCasts_S1x2816x1024_S2816x1024) bitsLt_bf16_f32 := by
  show StableHlo.after hostOps0 _ _ = _
  simp only [hostOps0]; after_results <;> rfl

end Cert.Proof.Ffn

end
-- ==== Proof.FfnPoint.lean ====
/-
  The values of one grid point of the feed-forward call read at an index, over the extended reals.
-/
module

public import proofs.«01_k».proof.Proof.Gen.FfnIdeal.Skeleton
public import Idealize.ShloMosaic.Lib.Pointwise

@[expose] public section

set_option maxRecDepth 16384

noncomputable section

namespace Cert.Proof.Ffn

open Cert.FfnIdeal Cert.FfnIdeal.Gen Idealize.ShloMosaic

/-- One hidden unit: the sigmoid-weighted gate times the other half's value. -/
def hidden (g u : EReal) : EReal := g * Ideal.div 1 (1 + Ideal.exp (0 - g)) * u

theorem clear_apply (r l : Fin 1024) : k0_pay1 (F := Ideal) (ix2 r l) = 0 := by
  pointwise [k0_pay1]

theorem product_apply (h : Vec Ideal S1024x1024 .bf16) (wg wu : Vec Ideal S1024x1408 .bf16) (acc : Vec Ideal S1024x1024 .f32)
    (wo : Vec Ideal S1408x1024 .bf16) (r l : Fin 1024) :
    k0_pay2 (F := Ideal) h wg wu acc wo (ix2 r l)
      = acc (ix2 r l) + ∑ f : Fin 1408, hidden (∑ k : Fin 1024, h (ix2 r k) * wg (ix2 k f)) (∑ k : Fin 1024, h (ix2 r k) * wu (ix2 k f))
          * wo (ix2 f l) := by
  unfold hidden
  pointwise [k0_pay2]

theorem result_apply (x : Vec Ideal S1024x1024 .f32) (md : Vec Ideal S1x6x1024 .f32) (acc : Vec Ideal S1024x1024 .f32) (r l : Fin 1024) :
    k0_pay3 (F := Ideal) x md acc (ix2 r l) = x (ix2 r l) + md (ix3 (0 : Fin 1) (5 : Fin 6) l) * acc (ix2 r l) := by
  pointwise [k0_pay3]

/-- The call's result at row `n`, column `l`: the residual plus the gate times the feed-forward sum over all hidden
    units. -/
def feed (h : Vec Ideal S8x4096x1024 .bf16) (w1 : Vec Ideal S1x1024x5632 .f32) (w2 : Vec Ideal S1x2816x1024 .f32)
    (x : Vec Ideal S8x4096x1024 .f32) (md : Vec Ideal S8x6x1024 .f32) (n : Fin 32768) (l : Fin 1024) : EReal :=
  x (ix3 (⟨n.val / 4096, by omega⟩ : Fin 8) (⟨n.val % 4096, by omega⟩ : Fin 4096) l)
    + md (ix3 (⟨n.val / 4096, by omega⟩ : Fin 8) (5 : Fin 6) l)
      * ∑ f : Fin 2816,
          hidden (∑ k : Fin 1024, h (ix3 (⟨n.val / 4096, by omega⟩ : Fin 8) (⟨n.val % 4096, by omega⟩ : Fin 4096) k) * w1 (ix3 (0 : Fin 1) k (⟨f.val, by omega⟩ : Fin 5632)))
            (∑ k : Fin 1024, h (ix3 (⟨n.val / 4096, by omega⟩ : Fin 8) (⟨n.val % 4096, by omega⟩ : Fin 4096) k) * w1 (ix3 (0 : Fin 1) k (⟨2816 + f.val, by omega⟩ : Fin 5632)))
          * w2 (ix3 (0 : Fin 1) f l)

end Cert.Proof.Ffn

end
-- ==== Proof.FfnValue.lean ====
/-
  The feed-forward call's result at an index, over the extended reals: a block's two points add the two halves of the
  hidden units' sum, so the result is the whole sum, gated and added to the residual.
-/
module

public import proofs.«01_k».proof.Proof.FfnBlocks
public import proofs.«01_k».proof.Proof.FfnPoint

@[expose] public section

set_option maxRecDepth 16384

noncomputable section

namespace Cert.Proof.Ffn

open Cert.FfnIdeal Cert.FfnIdeal.Gen Cert.FfnIdeal.Value Idealize.ShloMosaic Idealize.ShloMosaic.TcCoe Idealize.SL.Sem

section
variable {F : FTy → Type} [FloatOps F] (m : (ℓ : Loc nD τ sig) → Buf (Elt F) ℓ) (c : Dev nD)

/-- The block stored at the second of a block's two points `a`, `b`. -/
theorem stored_block (a b : Fin cfg0.N) (hb : b.val % 2 = 1) (ha : a.val = b.val - 1) :
    (outsAt0 m c b.val b.isLt).1
      = k0_pay3 (iblk m c 4 b) (iblk m c 5 b)
          (k0_pay2 (iblk m c 0 b) (iblk m c 1 b) (iblk m c 2 b)
            (k0_pay2 (iblk m c 0 a) (iblk m c 1 a) (iblk m c 2 a) (k0_pay1 (F := F)) (iblk m c 3 a)) (iblk m c 3 b)) := by
  have hprev : (outsAt0 m c (b.val - 1) (Nat.lt_of_le_of_lt (Nat.sub_le _ _) b.isLt)) = outsAt0 m c a.val a.isLt := by
    congr 1; exact ha.symm
  rw [outsAt0_B m c b (by omega) hb, hprev, outsAt0_A m c a (by omega) (by omega)]
  dsimp only
  rw [second_out, first_acc]

end

section
variable (m : (ℓ : Loc nD τ sig) → Buf (Elt Ideal) ℓ) (c : Dev nD)

theorem rows_apply {e : EltTy} (x : Vec Ideal S8x4096x1024 e) (n : Fin 32768) (l : Fin 1024) :
    shapeCast S32768x1024 x shapeCasts_S8x4096x1024_S32768x1024 (ix2 n l)
      = x (ix3 (⟨n.val / 4096, by omega⟩ : Fin 8) (⟨n.val % 4096, by omega⟩ : Fin 4096) l) := by
  pointwise

theorem in_cast_apply (w : Vec Ideal S1x1024x5632 .f32) (k : Fin 1024) (f : Fin 5632) :
    (truncf .bf16 (shapeCast S1024x5632 w shapeCasts_S1x1024x5632_S1024x5632 : FVec Ideal S1024x5632 .f32) bitsLt_bf16_f32) (ix2 k f)
      = w (ix3 (0 : Fin 1) k f) := by
  pointwise

theorem out_cast_apply (w : Vec Ideal S1x2816x1024 .f32) (f : Fin 2816) (l : Fin 1024) :
    (truncf .bf16 (shapeCast S2816x1024 w shapeCasts_S1x2816x1024_S2816x1024 : FVec Ideal S2816x1024 .f32) bitsLt_bf16_f32) (ix2 f l)
      = w (ix3 (0 : Fin 1) f l) := by
  pointwise

theorem x_apply (t : Fin cfg0.N) (r l : Fin 1024) :
    iblk m c 4 t (ix2 r l) = m ((c : Thread nD τ).loc main_arg3)
      (ix3 (⟨(t.val / 2 * 1024 + r.val) / 4096, by have := point_lt t; omega⟩ : Fin 8) (⟨(t.val / 2 * 1024 + r.val) % 4096, by omega⟩ : Fin 4096) l) := by
  rw [block_x, array_x]; exact rows_apply _ _ l

theorem h_apply (t : Fin cfg0.N) (r l : Fin 1024) :
    iblk m c 0 t (ix2 r l) = m ((c : Thread nD τ).loc main_arg0)
      (ix3 (⟨(t.val / 2 * 1024 + r.val) / 4096, by have := point_lt t; omega⟩ : Fin 8) (⟨(t.val / 2 * 1024 + r.val) % 4096, by omega⟩ : Fin 4096) l) := by
  rw [block_h, array_h]; exact rows_apply _ _ l

theorem gate_apply (t : Fin cfg0.N) (k : Fin 1024) (f : Fin 1408) :
    iblk m c 1 t (ix2 k f) = m ((c : Thread nD τ).loc main_arg1) (ix3 (0 : Fin 1) k ⟨t.val % 2 * 1408 + f.val, by omega⟩) := by
  rw [block_gate, array_in]; exact in_cast_apply _ k _

theorem up_apply (t : Fin cfg0.N) (k : Fin 1024) (f : Fin 1408) :
    iblk m c 2 t (ix2 k f) = m ((c : Thread nD τ).loc main_arg1) (ix3 (0 : Fin 1) k ⟨2816 + (t.val % 2 * 1408 + f.val), by omega⟩) := by
  rw [block_up, array_in]; exact in_cast_apply _ k _

theorem down_apply (t : Fin cfg0.N) (f : Fin 1408) (l : Fin 1024) :
    iblk m c 3 t (ix2 f l) = m ((c : Thread nD τ).loc main_arg2) (ix3 (0 : Fin 1) ⟨t.val % 2 * 1408 + f.val, by omega⟩ l) := by
  rw [block_down, array_out]; exact out_cast_apply _ _ l

/-- The call's result at row `n`, column `l`. -/
theorem G6_apply (n : Fin 32768) (l : Fin 1024) :
    G6 m c (ix2 n l) = feed (m ((c : Thread nD τ).loc main_arg0)) (m ((c : Thread nD τ).loc main_arg1)) (m ((c : Thread nD τ).loc main_arg2))
      (m ((c : Thread nD τ).loc main_arg3)) (m ((c : Thread nD τ).loc main_arg4)) n l := by
  have hp : pt6Of (ix2 n l) = 2 * (n.val / 1024) + 1 := by
    show 2 * (1 * (n.val / 1024 - 0) + 1 * (l.val / 1024 - 0)) + 1 = _
    omega
  have hlt : 2 * (n.val / 1024) + 1 < cfg0.N := by rw [show cfg0.N = 64 from N_0]; omega
  have hl : loc6Of (ix2 n l) = ix2 (⟨n.val % 1024, by omega⟩ : Fin 1024) l := by
    funext a
    match a with
    | 0 => rfl
    | 1 => exact Fin.ext (Nat.mod_eq_of_lt l.isLt)
  unfold G6
  rw [dif_pos (hp.symm ▸ hlt), fold0_congr m c _ _ _ (by omega) hp, ← outsAt0_sweep m c _ hlt, hl]
  have hs := stored_block m c ⟨2 * (n.val / 1024), by omega⟩ ⟨2 * (n.val / 1024) + 1, hlt⟩ (by dsimp only; omega) rfl
  dsimp only at hs
  rw [hs, result_apply, product_apply, product_apply, clear_apply]
  simp only [x_apply, block_mod, h_apply, gate_apply, up_apply, down_apply]
  have hq : (2 * (n.val / 1024) + 1) / 2 = n.val / 1024 := by omega
  have hq' : 2 * (n.val / 1024) / 2 = n.val / 1024 := by omega
  have hr : (2 * (n.val / 1024) + 1) % 2 = 1 := by omega
  have hr' : 2 * (n.val / 1024) % 2 = 0 := by omega
  have hb : (2 * (n.val / 1024) + 1) / 8 = n.val / 4096 := by omega
  have hn : n.val / 1024 * 1024 + n.val % 1024 = n.val := by omega
  simp only [hq, hq', hr, hr', hb, hn, Nat.zero_mul, Nat.one_mul, Nat.zero_add]
  unfold feed
  rw [Fin.sum_univ_two_halves 1408 1408 rfl, zero_add]

end

end Cert.Proof.Ffn

end
-- ==== Proof.FfnReference.lean ====
/-
  The feed-forward reference's result read at an index, over the extended reals.
-/
module

public import proofs.«01_k».proof.Proof.FfnPoint
public import proofs.«01_k».proof.Proof.Gen.FfnReferenceIdeal.Run
public import Idealize.ShloMosaic.Lib.Pointwise

@[expose] public section

set_option maxRecDepth 16384

noncomputable section

namespace Cert.Proof.Ffn

open Cert.FfnReferenceIdeal Cert.FfnReferenceIdeal.Gen Idealize.ShloMosaic

/-- The reference's result, operation by operation. -/
def referenceTerm {F : FTy → Type} [FloatOps F] (h : FVec F S8x4096x1024 .bf16) (w1 : FVec F S1x1024x5632 .f32) (w2 : FVec F S1x2816x1024 .f32)
    (x : FVec F S8x4096x1024 .f32) (md : FVec F S8x6x1024 .f32) : FVec F S32768x1024 .f32 :=
  shapeCast S32768x1024 (addf x (mulf (broadcastInDim S8x4096x1024 ![0, 1, 2] bcast_S8x1x1024_S8x4096x1024_0_1_2 (shapeCast _ (extractStridedSlice S8x1x1x1024 ![0, 5, 0, 0] (shapeCast _ md shapeCasts_S8x6x1024_S8x6x1x1024) slices_S8x6x1x1024_S8x1x1x1024_0_5_0_0) shapeCasts_S8x1x1x1024_S8x1x1024)) (Host.dotGeneral dot_S8x4096x2816_S2816x1024_S8x4096x1024_2_0_01_1_n_n none (mulf (mulf (extractStridedSlice S8x4096x2816 ![0, 0, 0] (Host.dotGeneral dot_S8x4096x1024_S1024x5632_S8x4096x5632_2_0_01_1_n_n none (extf .f32 h bitsLt_bf16_f32) (shapeCast _ w1 shapeCasts_S1x1024x5632_S1024x5632)) slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] (Host.dotGeneral dot_S8x4096x1024_S1024x5632_S8x4096x5632_2_0_01_1_n_n none (extf .f32 h bitsLt_bf16_f32) (shapeCast _ w1 shapeCasts_S1x1024x5632_S1024x5632)) slices_S8x4096x5632_S8x4096x2816_0_0_0)))))) (extractStridedSlice S8x4096x2816 ![0, 0, 2816] (Host.dotGeneral dot_S8x4096x1024_S1024x5632_S8x4096x5632_2_0_01_1_n_n none (extf .f32 h bitsLt_bf16_f32) (shapeCast _ w1 shapeCasts_S1x1024x5632_S1024x5632)) slices_S8x4096x5632_S8x4096x2816_0_0_2816)) (shapeCast _ w2 shapeCasts_S1x2816x1024_S2816x1024)))) shapeCasts_S8x4096x1024_S32768x1024

theorem reference_apply (h : Vec Ideal S8x4096x1024 .bf16) (w1 : Vec Ideal S1x1024x5632 .f32) (w2 : Vec Ideal S1x2816x1024 .f32)
    (x : Vec Ideal S8x4096x1024 .f32) (md : Vec Ideal S8x6x1024 .f32) (n : Fin 32768) (l : Fin 1024) :
    referenceTerm (F := Ideal) h w1 w2 x md (ix2 n l) = feed h w1 w2 x md n l := by
  unfold feed hidden
  pointwise [referenceTerm]
  simp only [zero_sub]

end Cert.Proof.Ffn

end
-- ==== Proof.ExpertsStep.lean ====
/- One grid point of the experts' kernel: what it reads, what it leaves. -/
module

public import proofs.«01_k».proof.Proof.Gen.ExpertsIdeal.Launch
public import proofs.«01_k».proof.Proof.Gen.ExpertsIdeal.Skeleton
public import Idealize.ShloMosaic.Lib.Pipeline.Frame
public import Idealize.ShloMosaic.Lib.Pipeline.TableIdle
public import Idealize.ShloMosaic.Lib.Pipeline.Value
public import Idealize.ShloMosaic.Lib.VecWindow
public import Idealize.ShloMosaic.Lib.Ring
public import Idealize.ShloMosaic.Lib.Tactic

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The step -/

/-- The running sums as a point finds them once its block has been opened: zero at the block's first chunk. -/
def openedSums (i : grid0.Coords) (A : Vec F S1024x1024 .f32) : Vec F S1024x1024 .f32 :=
  if k0_cond2 i = 1#1 then k0_pay1 else A

/-- The block's rows, unpacked and with those past the count of valid rows zero, from its first chunk on. -/
def openedRows (i : grid0.Coords) (nv : BitVec 32) (X : Vec F S4x1024x128 .i32) (M : Vec F S1024x1024 .bf16) :
    Vec F S1024x1024 .bf16 :=
  if k0_cond2 i = 1#1 then
    k0_pay2 (VecWindow.window (s := S4x1024x128) X ![0, 0, 0] S1x1024x128.size inb_S4x1024x128_S1x1024x128_0_0_0)
      (VecWindow.window (s := S4x1024x128) X ![1, 0, 0] S1x1024x128.size inb_S4x1024x128_S1x1024x128_1_0_0)
      (VecWindow.window (s := S4x1024x128) X ![2, 0, 0] S1x1024x128.size inb_S4x1024x128_S1x1024x128_2_0_0)
      (VecWindow.window (s := S4x1024x128) X ![3, 0, 0] S1x1024x128.size inb_S4x1024x128_S1x1024x128_3_0_0) nv
  else M

/-- Whether the block has more than half of its rows valid, as the kernel asks it. -/
def manyRows (nv : BitVec 32) : BitVec 1 := Scalar.cmpi .ne (Scalar.extui (Scalar.cmpi .sgt nv 512#32)) 0#32
/-- Whether it has at most half of them, as the kernel asks it. -/
def fewRows (nv : BitVec 32) : BitVec 1 := Scalar.cmpi .ne (Scalar.extui (Scalar.cmpi .sle nv 512#32)) 0#32

/-- Of the two questions exactly one is answered yes. -/
theorem fewRows_iff (nv : BitVec 32) : fewRows nv = 1#1 ↔ ¬ manyRows nv = 1#1 := by
  have h : ∀ b : Bool, (Scalar.cmpi .ne (Scalar.extui (BitVec.ofBool b) : BitVec 32) 0#32 = 1#1) ↔ b = true := by
    intro b; cases b <;> decide
  show (Scalar.cmpi .ne (Scalar.extui (BitVec.ofBool (decide (nv.toInt ≤ (512#32).toInt))) : BitVec 32) 0#32 = 1#1)
    ↔ ¬ (Scalar.cmpi .ne (Scalar.extui (BitVec.ofBool (decide ((512#32).toInt < nv.toInt))) : BitVec 32) 0#32 = 1#1)
  rw [h, h]
  simp

/-- The sums with the chunk's terms added: to all the rows, or to the first half of them. -/
def addedChunk (nv : BitVec 32) (M : Vec F S1024x1024 .bf16) (G U : Vec F S1x1024x512 .f32) (O : Vec F S1x512x1024 .f32)
    (A : Vec F S1024x1024 .f32) : Vec F S1024x1024 .f32 :=
  if manyRows nv = 1#1 then k0_pay3 M G U A O
  else VecWindow.put (s := S1024x1024) A ![0, 0] S512x1024.size
    (k0_pay4 (VecWindow.window (s := S1024x1024) M ![0, 0] S512x1024.size inb_S1024x1024_S512x1024_0_0) G U
      (VecWindow.window (s := S1024x1024) A ![0, 0] S512x1024.size inb_S1024x1024_S512x1024_0_0) O)

/-- The finished sums as the eight column groups of the output block: the low and the high half of each lane's word. -/
def packedSums (A : Vec F S1024x1024 .f32) : Vec F S4x2x1024x128 .bf16 :=
  View.canon (Val := Elt F) (s := S4x2x1024x128) (e := .bf16)
    [⟨Rect.unit ![3, 1, 0, 0] S1x1x1024x128.size inb_S4x2x1024x128_S1x1x1024x128_3_1_0_0, k0_pay6 (k0_pay7 A)⟩,
     ⟨Rect.unit ![3, 0, 0, 0] S1x1x1024x128.size inb_S4x2x1024x128_S1x1x1024x128_3_0_0_0, k0_pay5 (k0_pay14 A)⟩,
     ⟨Rect.unit ![2, 1, 0, 0] S1x1x1024x128.size inb_S4x2x1024x128_S1x1x1024x128_2_1_0_0, k0_pay13 A⟩,
     ⟨Rect.unit ![2, 0, 0, 0] S1x1x1024x128.size inb_S4x2x1024x128_S1x1x1024x128_2_0_0_0, k0_pay12 A⟩,
     ⟨Rect.unit ![1, 1, 0, 0] S1x1x1024x128.size inb_S4x2x1024x128_S1x1x1024x128_1_1_0_0, k0_pay11 A⟩,
     ⟨Rect.unit ![1, 0, 0, 0] S1x1x1024x128.size inb_S4x2x1024x128_S1x1x1024x128_1_0_0_0, k0_pay10 A⟩,
     ⟨Rect.unit ![0, 1, 0, 0] S1x1x1024x128.size inb_S4x2x1024x128_S1x1x1024x128_0_1_0_0, k0_pay9 A⟩,
     ⟨Rect.unit ![0, 0, 0, 0] S1x1x1024x128.size inb_S4x2x1024x128_S1x1x1024x128_0_0_0_0, k0_pay8 A⟩]

/-- The output block after a point: packed at the block's last chunk, else as it was. -/
def packedOut (i : grid0.Coords) (A : Vec F S1024x1024 .f32) (Y : Vec F S4x2x1024x128 .bf16) : Vec F S4x2x1024x128 .bf16 :=
  if k0_cond5 i = 1#1 then packedSums A else Y

/-! ## The words read from the tables -/

/-- The number of the last block with a valid row. -/
def lastWord {c : Dev nD} (L : Buf (Elt F) ((Memref.whole main_arg5).view.loc (c : Thread nD τ))) : BitVec 32 :=
  View.readAt (Elt F) (Memref.whole main_arg5).view (Rect.unit (s := S1) ![0] S1.size inb_S1_S1_0).toLoadRect L (Shape.Idx.first (numel1_S1.symm ▸ Nat.one_pos))

/-- The block's count of valid rows. -/
def validWord {c : Dev nD} (N : Buf (Elt F) ((Memref.whole main_arg4).view.loc (c : Thread nD τ))) (i : grid0.Coords) : BitVec 32 :=
  View.readAt (Elt F) (Memref.whole main_arg4).view (Rect.unit (s := S72) (k0_off3 i) S1.size (k0_off3_inb i)).toLoadRect N (Shape.Idx.first (numel1_S1.symm ▸ Nat.one_pos))

/-! ## Loads and stores at the kernel's rectangles -/

section
variable {κ : Kind} {sp : Space} {e : EltTy}

/-- A load of a whole square. -/
theorem read_full2 (v : View sig κ sp S1024x1024 e) (f : v.ty.Contents (Elt F)) (inb) :
    v.readAt (Elt F) (Rect.unit (s := S1024x1024) ![0, 0] ![1024, 1024] inb).toLoadRect f = v.read (Elt F) f :=
  View.readAt_full v f _
/-- A load of a square's first half. -/
theorem read_half2 (v : View sig κ sp S1024x1024 e) (f : v.ty.Contents (Elt F)) (inb) :
    v.readAt (Elt F) (Rect.unit (s := S1024x1024) ![0, 0] ![512, 1024] inb).toLoadRect f
      = VecWindow.window (s := S1024x1024) (v.read (Elt F) f) ![0, 0] S512x1024.size inb_S1024x1024_S512x1024_0_0 :=
  View.readAt_unit v f _ rfl _
/-- A load of a block of the first weights. -/
theorem read_weight (v : View sig κ sp S1x1024x512 e) (f : v.ty.Contents (Elt F)) (inb) :
    v.readAt (Elt F) (Rect.unit (s := S1x1024x512) ![0, 0, 0] ![1, 1024, 512] inb).toLoadRect f = v.read (Elt F) f :=
  View.readAt_full v f _
/-- A load of a block of the second weights. -/
theorem read_outWeight (v : View sig κ sp S1x512x1024 e) (f : v.ty.Contents (Elt F)) (inb) :
    v.readAt (Elt F) (Rect.unit (s := S1x512x1024) ![0, 0, 0] ![1, 512, 1024] inb).toLoadRect f = v.read (Elt F) f :=
  View.readAt_full v f _
/-- A load of one column group of the packed rows. -/
theorem read_chunk (v : View sig κ sp S4x1024x128 e) (f : v.ty.Contents (Elt F)) (off : Fin 3 → ℕ) (inb) :
    v.readAt (Elt F) (Rect.unit (s := S4x1024x128) off ![1, 1024, 128] inb).toLoadRect f
      = VecWindow.window (s := S4x1024x128) (v.read (Elt F) f) off S1x1024x128.size inb :=
  View.readAt_unit v f _ rfl _
/-- A store of a whole square leaves what it stored. -/
theorem read_stored (v : View sig κ sp S1024x1024 e) (f : v.ty.Contents (Elt F)) (inb) (w) (L : List (View.Piece (Elt F) S1024x1024 e)) :
    v.read (Elt F) (v.writes (Elt F) f (⟨Rect.unit (s := S1024x1024) ![0, 0] ![1024, 1024] inb, w⟩ :: L)) = w :=
  View.read_writes_full v f _ w L
/-- A store of a square's first half puts it there. -/
theorem read_storedHalf (v : View sig κ sp S1024x1024 e) (f : v.ty.Contents (Elt F)) (inb) (w) (L : List (View.Piece (Elt F) S1024x1024 e)) :
    v.read (Elt F) (v.writes (Elt F) f (⟨Rect.unit (s := S1024x1024) ![0, 0] ![512, 1024] inb, w⟩ :: L))
      = VecWindow.put (s := S1024x1024) (v.read (Elt F) (v.writes (Elt F) f L)) ![0, 0] S512x1024.size w :=
  View.read_writes_cons_put v f _ w L rfl

end

/-! ## The body's run -/

/-- Holding a memref's elements at contents that read `X` is owning it at `X`. -/
theorem owns_of_read (c : Thread nD τ) {sp : Space} {s : Shape} {e : EltTy} (m : Memref sig c.2.kind sp s e) (q : PosShare TreeShare)
    (f : Buf (Elt F) (m.view.loc c)) (X : Vec F s e) (h : m.view.read (Elt F) f = X) :
    (m.view.loc c ↦[m.view.set]{q} f : sProp 𝕄) ⊢ owns c m q X := by
  unfold owns
  iintro H
  iexists f
  isplitr
  · ipureintro; exact h
  · iexact H

set_option maxHeartbeats 4000000 in
/-- A point past the last block with a valid row: nothing changes. -/
theorem run_idle (c : Dev nD) (i : grid0.Coords) (arg5 : Memref sig .tc .vmem S4x1024x128 .i32) (harg5 : arg5.IsWhole)
    (arg6 : Memref sig .tc .vmem S1x1024x512 .f32) (harg6 : arg6.IsWhole) (arg7 : Memref sig .tc .vmem S1x1024x512 .f32) (harg7 : arg7.IsWhole)
    (arg8 : Memref sig .tc .vmem S1x512x1024 .f32) (harg8 : arg8.IsWhole) (arg9 : Memref sig .tc .vmem S4x2x1024x128 .bf16) (harg9 : arg9.IsWhole)
    (arg10 : Memref sig .tc .vmem S1024x1024 .f32) (harg10 : arg10.IsWhole) (arg11 : Memref sig .tc .vmem S1024x1024 .bf16) (harg11 : arg11.IsWhole)
    (q : PosShare TreeShare)
    (N : Buf (Elt F) ((Memref.whole main_arg4).view.loc (c : Thread nD τ))) (L : Buf (Elt F) ((Memref.whole main_arg5).view.loc (c : Thread nD τ)))
    (X : Vec F S4x1024x128 .i32) (G U : Vec F S1x1024x512 .f32) (O : Vec F S1x512x1024 .f32) (Y : Vec F S4x2x1024x128 .bf16)
    (A : Vec F S1024x1024 .f32) (M : Vec F S1024x1024 .bf16) (E : Set ℕ) (K : PUnit → sProp 𝕄)
    (h1 : ¬ k0_cond1 i (lastWord L) = 1#1) :
    iprop(((Memref.whole main_arg4).view.loc (c : Thread nD τ) ↦{q} N) ∗ ((Memref.whole main_arg5).view.loc (c : Thread nD τ) ↦{q} L)
        ∗ owns (c : Thread nD τ) arg5 fullShare X ∗ owns (c : Thread nD τ) arg6 fullShare G ∗ owns (c : Thread nD τ) arg7 fullShare U
        ∗ owns (c : Thread nD τ) arg8 fullShare O ∗ owns (c : Thread nD τ) arg9 fullShare Y
        ∗ owns (c : Thread nD τ) arg10 fullShare A ∗ owns (c : Thread nD τ) arg11 fullShare M
        ∗ (((Memref.whole main_arg4).view.loc (c : Thread nD τ) ↦{q} N) ∗ ((Memref.whole main_arg5).view.loc (c : Thread nD τ) ↦{q} L)
          ∗ owns (c : Thread nD τ) arg5 fullShare X ∗ owns (c : Thread nD τ) arg6 fullShare G ∗ owns (c : Thread nD τ) arg7 fullShare U
          ∗ owns (c : Thread nD τ) arg8 fullShare O
          ∗ owns (c : Thread nD τ) arg9 fullShare Y
          ∗ owns (c : Thread nD τ) arg10 fullShare A
          ∗ owns (c : Thread nD τ) arg11 fullShare M -∗ K ⟨⟩))
      ⊢ wp frame (wpE (defs₀ (F := F)) Variants.none c none) E
          (cc0__moe_kernel i (Memref.whole main_v10) (Memref.isWhole_whole _) (Memref.whole main_arg4) (Memref.isWhole_whole _)
            (Memref.whole main_arg5) (Memref.isWhole_whole _) arg5 harg5 arg6 harg6 arg7 harg7 arg8 harg8 arg9 harg9 arg10 harg10 arg11 harg11) K := by
  rw [owns_eq_rep (c : Thread nD τ) arg5 fullShare X, owns_eq_rep (c : Thread nD τ) arg6 fullShare G, owns_eq_rep (c : Thread nD τ) arg7 fullShare U,
    owns_eq_rep (c : Thread nD τ) arg8 fullShare O, owns_eq_rep (c : Thread nD τ) arg9 fullShare Y, owns_eq_rep (c : Thread nD τ) arg10 fullShare A,
    owns_eq_rep (c : Thread nD τ) arg11 fullShare M]
  simp only [cc0__moe_kernel_eq_skeleton]; unfold cc0__moe_kernel_skel
  simp only [k0_part1_eq_skeleton, smemLoad, smemLoadElt, Prog.lift, Prog.bind_op, Prog.bind_ret, Prog.pure_eq_ret, Prog.bind_assoc]
  iintro ⟨HN, HL, H5, H6, H7, H8, H9, H10, H11, Hk⟩
  sl_step
  sl_exec (disch := exact h1)
  sl_step
  iapply Hk
  isplitl [HN]; · iexact HN
  isplitl [HL]; · iexact HL
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
/-- A point at a block with a valid row: the block is opened at its first chunk, the chunk's terms added, and the sums packed at the last. -/
theorem run_live (c : Dev nD) (i : grid0.Coords) (arg5 : Memref sig .tc .vmem S4x1024x128 .i32) (harg5 : arg5.IsWhole)
    (arg6 : Memref sig .tc .vmem S1x1024x512 .f32) (harg6 : arg6.IsWhole) (arg7 : Memref sig .tc .vmem S1x1024x512 .f32) (harg7 : arg7.IsWhole)
    (arg8 : Memref sig .tc .vmem S1x512x1024 .f32) (harg8 : arg8.IsWhole) (arg9 : Memref sig .tc .vmem S4x2x1024x128 .bf16) (harg9 : arg9.IsWhole)
    (arg10 : Memref sig .tc .vmem S1024x1024 .f32) (harg10 : arg10.IsWhole) (arg11 : Memref sig .tc .vmem S1024x1024 .bf16) (harg11 : arg11.IsWhole)
    (q : PosShare TreeShare)
    (N : Buf (Elt F) ((Memref.whole main_arg4).view.loc (c : Thread nD τ))) (L : Buf (Elt F) ((Memref.whole main_arg5).view.loc (c : Thread nD τ)))
    (X : Vec F S4x1024x128 .i32) (G U : Vec F S1x1024x512 .f32) (O : Vec F S1x512x1024 .f32) (Y : Vec F S4x2x1024x128 .bf16)
    (A : Vec F S1024x1024 .f32) (M : Vec F S1024x1024 .bf16) (E : Set ℕ) (K : PUnit → sProp 𝕄)
    (h1 : k0_cond1 i (lastWord L) = 1#1) :
    iprop(((Memref.whole main_arg4).view.loc (c : Thread nD τ) ↦{q} N) ∗ ((Memref.whole main_arg5).view.loc (c : Thread nD τ) ↦{q} L)
        ∗ owns (c : Thread nD τ) arg5 fullShare X ∗ owns (c : Thread nD τ) arg6 fullShare G ∗ owns (c : Thread nD τ) arg7 fullShare U
        ∗ owns (c : Thread nD τ) arg8 fullShare O ∗ owns (c : Thread nD τ) arg9 fullShare Y
        ∗ owns (c : Thread nD τ) arg10 fullShare A ∗ owns (c : Thread nD τ) arg11 fullShare M
        ∗ (((Memref.whole main_arg4).view.loc (c : Thread nD τ) ↦{q} N) ∗ ((Memref.whole main_arg5).view.loc (c : Thread nD τ) ↦{q} L)
          ∗ owns (c : Thread nD τ) arg5 fullShare X ∗ owns (c : Thread nD τ) arg6 fullShare G ∗ owns (c : Thread nD τ) arg7 fullShare U
          ∗ owns (c : Thread nD τ) arg8 fullShare O
          ∗ owns (c : Thread nD τ) arg9 fullShare (packedOut i (addedChunk (validWord N i) (openedRows i (validWord N i) X M) G U O (openedSums i A)) Y)
          ∗ owns (c : Thread nD τ) arg10 fullShare (addedChunk (validWord N i) (openedRows i (validWord N i) X M) G U O (openedSums i A))
          ∗ owns (c : Thread nD τ) arg11 fullShare (openedRows i (validWord N i) X M) -∗ K ⟨⟩))
      ⊢ wp frame (wpE (defs₀ (F := F)) Variants.none c none) E
          (cc0__moe_kernel i (Memref.whole main_v10) (Memref.isWhole_whole _) (Memref.whole main_arg4) (Memref.isWhole_whole _)
            (Memref.whole main_arg5) (Memref.isWhole_whole _) arg5 harg5 arg6 harg6 arg7 harg7 arg8 harg8 arg9 harg9 arg10 harg10 arg11 harg11) K := by
  rw [owns_eq_rep (c : Thread nD τ) arg5 fullShare X, owns_eq_rep (c : Thread nD τ) arg6 fullShare G, owns_eq_rep (c : Thread nD τ) arg7 fullShare U,
    owns_eq_rep (c : Thread nD τ) arg8 fullShare O, owns_eq_rep (c : Thread nD τ) arg9 fullShare Y, owns_eq_rep (c : Thread nD τ) arg10 fullShare A,
    owns_eq_rep (c : Thread nD τ) arg11 fullShare M]
  simp only [cc0__moe_kernel_eq_skeleton]; unfold cc0__moe_kernel_skel
  simp only [k0_part1_eq_skeleton, smemLoad, smemLoadElt, Prog.lift, Prog.bind_op, Prog.bind_ret, Prog.pure_eq_ret, Prog.bind_assoc]
  have many : manyRows (validWord N i) = 1#1 → Scalar.cmpi .ne (Scalar.extui (Scalar.cmpi .sgt (View.readAt (Elt F) (Memref.whole main_arg4).view (Rect.unit (s := S72) (k0_off3 i) S1.size (k0_off3_inb i)).toLoadRect N (Shape.Idx.first (numel1_S1.symm ▸ Nat.one_pos))) 512#32)) 0#32 = 1#1 := id
  have notMany : ¬ manyRows (validWord N i) = 1#1 → ¬ Scalar.cmpi .ne (Scalar.extui (Scalar.cmpi .sgt (View.readAt (Elt F) (Memref.whole main_arg4).view (Rect.unit (s := S72) (k0_off3 i) S1.size (k0_off3_inb i)).toLoadRect N (Shape.Idx.first (numel1_S1.symm ▸ Nat.one_pos))) 512#32)) 0#32 = 1#1 := id
  have few : ¬ manyRows (validWord N i) = 1#1 → Scalar.cmpi .ne (Scalar.extui (Scalar.cmpi .sle (View.readAt (Elt F) (Memref.whole main_arg4).view (Rect.unit (s := S72) (k0_off4 i) S1.size (k0_off4_inb i)).toLoadRect N (Shape.Idx.first (numel1_S1.symm ▸ Nat.one_pos))) 512#32)) 0#32 = 1#1 := (fewRows_iff _).mpr
  have notFew : manyRows (validWord N i) = 1#1 → ¬ Scalar.cmpi .ne (Scalar.extui (Scalar.cmpi .sle (View.readAt (Elt F) (Memref.whole main_arg4).view (Rect.unit (s := S72) (k0_off4 i) S1.size (k0_off4_inb i)).toLoadRect N (Shape.Idx.first (numel1_S1.symm ▸ Nat.one_pos))) 512#32)) 0#32 = 1#1 := fun h h' => (fewRows_iff _).mp h' h
  by_cases h2 : k0_cond2 i = 1#1 <;> by_cases hn : manyRows (validWord N i) = 1#1 <;> by_cases h5 : k0_cond5 i = 1#1
  all_goals
    first
      | have hm := many hn
        have hf := notFew hn
      | have hm := notMany hn
        have hf := few hn
    iintro ⟨HN, HL, H5, H6, H7, H8, H9, H10, H11, Hk⟩
    sl_step
    sl_exec (disch := first | sl_exact h1 | sl_exact h2)
    sl_step
    sl_exec (disch := first | sl_exact h5 | sl_exact hf | sl_exact hm)
    sl_step
    iapply Hk
    isplitl [HN]; · iexact HN
    isplitl [HL]; · iexact HL
    isplitl [H5]; · iexact H5
    isplitl [H6]; · iexact H6
    isplitl [H7]; · iexact H7
    isplitl [H8]; · iexact H8
    isplitl [H9]
    · iapply owns_of_read (c : Thread nD τ) arg9 fullShare _ _ ?_ $$ H9
      simp only [packedOut, addedChunk, openedRows, openedSums, h2, hn, h5, if_true, if_false]
      sl_unfold_words
      simp only [View.readCov, read_full2, read_half2, read_weight, read_outWeight, read_chunk, read_stored, read_storedHalf, View.writes_nil, View.read_rep]
      first
        | done
        | exact View.read_writes_eq_canon _ _ _ (View.cover_of_tiledL _ S1x1x1024x128.size (by sl_kernel_rfl))
    isplitl [H10]
    · iapply owns_of_read (c : Thread nD τ) arg10 fullShare _ _ ?_ $$ H10
      simp only [addedChunk, openedRows, openedSums, h2, hn, if_true, if_false]
      sl_unfold_words
      simp only [View.readCov, read_full2, read_half2, read_weight, read_outWeight, read_chunk, read_stored, read_storedHalf, View.writes_nil, View.read_rep]
      first
        | done
        | rfl
    iapply owns_of_read (c : Thread nD τ) arg11 fullShare _ _ ?_ $$ H11
    simp only [openedRows, h2, if_true, if_false]
    sl_unfold_words
    simp only [View.readCov, read_full2, read_half2, read_weight, read_outWeight, read_chunk, read_stored, read_storedHalf, View.writes_nil, View.read_rep]
    first
      | done
      | rfl

end Cert.ExpertsIdeal.Hand

end
-- ==== Proof.ExpertsPoints.lean ====
/- The grid of the experts' kernel: its points, its conditions, the blocks its windows name. -/
module

public import proofs.«01_k».proof.Proof.ExpertsStep
public import Idealize.ShloMosaic.Lib.Pointwise

@[expose] public section

set_option maxRecDepth 16384

noncomputable section

namespace Cert.ExpertsIdeal.Hand

open Cert.ExpertsIdeal Cert.ExpertsIdeal.Gen
open Idealize.ShloMosaic Idealize.ShloMosaic.TcCoe
open Idealize.ShloMosaic.Pipeline (Dat Cfg Window)

variable {F : FTy → Type} [FloatOps F]

/-! ## Points -/

theorem coord0 (t : Fin grid0.N) : (grid0.coords t 0).val = t.val / 7 := by
  have h := Pipeline.Grid.coords_val (G := grid0) t 0 (S := 7) (B := 72) (by decide) rfl
  have hN : t.val < 504 := lt_of_lt_of_eq t.isLt N_0
  rw [h]; omega

theorem coord1 (t : Fin grid0.N) : (grid0.coords t 1).val = t.val % 7 := by
  have h := Pipeline.Grid.coords_val (G := grid0) t 1 (S := 1) (B := 7) (by decide) rfl
  rw [h]; omega

/-! ## Conditions -/

theorem asked (b : Bool) : (Scalar.cmpi .ne (Scalar.extui (BitVec.ofBool b) : BitVec 32) 0#32 = 1#1) ↔ b = true := by
  cases b <;> decide

theorem small_toInt (n : ℕ) (h : n < 1000) : (BitVec.ofNat 32 n).toInt = n := by
  rw [BitVec.toInt_eq_toNat_cond, BitVec.toNat_ofNat]
  split <;> omega

/-- The block's number is at most the last one's. -/
theorem cond1_iff (i : grid0.Coords) (w : BitVec 32) : k0_cond1 i w = 1#1 ↔ ((i 0).val : ℤ) ≤ w.toInt := by
  have h0 : (i 0).val < 72 := (i 0).isLt
  show Scalar.cmpi .ne (Scalar.extui (BitVec.ofBool (decide ((BitVec.ofNat 32 (i 0).val).toInt ≤ w.toInt))) : BitVec 32) 0#32 = 1#1 ↔ _
  rw [asked, decide_eq_true_iff, small_toInt _ (by omega)]

theorem ofNat_beq (n k : ℕ) (hn : n < 1000) (hk : k < 1000) : (BitVec.ofNat 32 n == BitVec.ofNat 32 k) = true ↔ n = k := by
  rw [beq_iff_eq]
  constructor
  · intro h
    have := congrArg BitVec.toNat h
    simp only [BitVec.toNat_ofNat] at this
    omega
  · rintro rfl; rfl

/-- The chunk is the first. -/
theorem cond2_iff (i : grid0.Coords) : k0_cond2 i = 1#1 ↔ (i 1).val = 0 := by
  have h0 : (i 1).val < 7 := (i 1).isLt
  show Scalar.cmpi .ne (Scalar.extui (BitVec.ofBool (BitVec.ofNat 32 (i 1).val == BitVec.ofNat 32 0)) : BitVec 32) 0#32 = 1#1 ↔ _
  rw [asked, ofNat_beq _ _ (by omega) (by omega)]

/-- The chunk is the last. -/
theorem cond5_iff (i : grid0.Coords) : k0_cond5 i = 1#1 ↔ (i 1).val = 6 := by
  have h0 : (i 1).val < 7 := (i 1).isLt
  show Scalar.cmpi .ne (Scalar.extui (BitVec.ofBool (BitVec.ofNat 32 (i 1).val == BitVec.ofNat 32 6)) : BitVec 32) 0#32 = 1#1 ↔ _
  rw [asked, ofNat_beq _ _ (by omega) (by omega)]

/-! ## The tables' words -/

/-- A point's block. -/
def blockOf (i : grid0.Coords) : Fin 72 := i 0

/-- The last block with a valid row, read off the tables. -/
def lastOf (pf : pre0.Contents (Elt F)) : BitVec 32 := (pf 2 : Vec F S1 .i32) (ix1 (0 : Fin 1))
/-- The expert of a block, read off the tables. -/
def expertOf (pf : pre0.Contents (Elt F)) (b : Fin 72) : BitVec 32 := (pf 0 : Vec F S72 .i32) (ix1 b)
/-- The count of valid rows of a block, read off the tables. -/
def validOf (pf : pre0.Contents (Elt F)) (b : Fin 72) : BitVec 32 := (pf 1 : Vec F S72 .i32) (ix1 b)

theorem atD_last (pf : pre0.Contents (Elt F)) : pf.atD 2 ![0] = lastOf pf := by
  have h : ∀ a, (![0] : Fin 1 → ℕ) a + 1 ≤ S1.size a := by decide
  refine (dif_pos h).trans (congrArg (pf 2 : Vec F S1 .i32) (funext fun (a : Fin 1) => Fin.ext ?_))
  match a with | 0 => rfl

theorem at_last (pf : pre0.Contents (Elt F)) (inb) :
    pf.at 2 (Rect.unit (s := S1) ![0] S1.size inb) numel1_S1 = lastOf pf := by
  refine congrArg (pf 2 : Vec F S1 .i32) (funext fun (a : Fin 1) => Fin.ext ?_)
  match a with | 0 => rfl

theorem index_toNat (i : grid0.Coords) : (Scalar.indexCast (BitVec.ofNat 32 (i 0).val) : Index).toNat = (i 0).val := by
  have h0 : (i 0).val < 72 := (i 0).isLt
  show (BitVec.ofNat 32 (i 0).val).toNat = _
  rw [BitVec.toNat_ofNat]; omega

theorem at_expert (pf : pre0.Contents (Elt F)) (i : grid0.Coords) (inb) :
    pf.at 0 (Rect.unit (s := S72) (k0_off1 i) S1.size inb) numel1_S1 = expertOf pf (blockOf i) := by
  refine congrArg (pf 0 : Vec F S72 .i32) (funext fun (a : Fin 1) => Fin.ext ?_)
  match a with
  | 0 => show (Scalar.indexCast (BitVec.ofNat 32 (i 0).val) : Index).toNat + 1 * 0 = (i 0).val
         rw [index_toNat]; omega

theorem lastWord_eq {c : Dev nD} (pf : pre0.Contents (Elt F)) : lastWord (c := c) (pf 2) = lastOf pf := by
  refine congrArg (pf 2 : Vec F S1 .i32) (funext fun (a : Fin 1) => Fin.ext ?_)
  match a with | 0 => rfl

theorem validWord_eq {c : Dev nD} (pf : pre0.Contents (Elt F)) (i : grid0.Coords) : validWord (c := c) (pf 1) i = validOf pf (blockOf i) := by
  refine congrArg (pf 1 : Vec F S72 .i32) (funext fun (a : Fin 1) => Fin.ext ?_)
  match a with
  | 0 => show (Scalar.indexCast (BitVec.ofNat 32 (i 0).val) : Index).toNat + 1 * 0 = (i 0).val
         rw [index_toNat]; omega

/-! ## The blocks -/

/-- The smaller of a block's number and the last block's. -/
theorem minsi_toNat (n : ℕ) (hn : n < 1000) (w : BitVec 32) (hw : 0 ≤ w.toInt) : (Scalar.minsi (BitVec.ofNat 32 n) w).toNat = min n w.toNat := by
  have hi := small_toInt n hn
  have hw' : w.toInt = w.toNat := by
    rw [BitVec.toInt_eq_toNat_cond] at hw ⊢; split <;> rename_i h
    · rfl
    · rw [if_neg h] at hw; have := w.isLt; omega
  show (if (BitVec.ofNat 32 n).slt w then BitVec.ofNat 32 n else w).toNat = _
  by_cases h : (BitVec.ofNat 32 n).slt w = true
  · rw [if_pos h]
    rw [BitVec.slt_iff_toInt_lt, hi, hw'] at h
    rw [BitVec.toNat_ofNat]; omega
  · rw [if_neg h]
    rw [BitVec.slt_iff_toInt_lt, hi, hw'] at h
    omega

/-- The chunk a weight's window names: the point's own while the block has a valid row, else the last. -/
def chunkOf (pf : pre0.Contents (Elt F)) (i : grid0.Coords) : ℕ := if ((i 0).val : ℤ) ≤ (lastOf pf).toInt then (i 1).val else 6

theorem select_toNat (pf : pre0.Contents (Elt F)) (i : grid0.Coords) :
    (Scalar.select (Scalar.cmpi .sle (BitVec.ofNat 32 (i 0).val) (lastOf pf)) (BitVec.ofNat 32 (i 1).val) 6#32).toNat = chunkOf pf i := by
  have h0 : (i 0).val < 72 := (i 0).isLt
  have h1 : (i 1).val < 7 := (i 1).isLt
  show (if BitVec.ofBool (decide ((BitVec.ofNat 32 (i 0).val).toInt ≤ (lastOf pf).toInt)) = 1#1 then BitVec.ofNat 32 (i 1).val else 6#32).toNat = _
  rw [small_toInt _ (by omega)]
  unfold chunkOf
  by_cases h : ((i 0).val : ℤ) ≤ (lastOf pf).toInt
  · rw [if_pos h, decide_eq_true h]
    show (BitVec.ofNat 32 (i 1).val).toNat = _
    rw [BitVec.toNat_ofNat]; omega
  · rw [if_neg h, decide_eq_false h]; rfl

theorem chunkOf_lt (pf : pre0.Contents (Elt F)) (i : grid0.Coords) : chunkOf pf i < 7 := by
  have h1 : (i 1).val < 7 := (i 1).isLt
  unfold chunkOf; split <;> omega

variable (pf : pre0.Contents (Elt F)) (i : grid0.Coords)

theorem transform_0 (hl : 0 ≤ (lastOf pf).toInt) :
    cc0_transform_0 inb_S1_S1_0 numel1_S1 pf i = ![0, min (i 0).val (lastOf pf).toNat, 0] := by
  have h0 : (i 0).val < 72 := (i 0).isLt
  show ![_, (Scalar.minsi (BitVec.ofNat 32 (i 0).val) (pf.at 2 (Rect.unit (s := S1) ![0] S1.size inb_S1_S1_0) numel1_S1)).toNat, _] = _
  rw [at_last, minsi_toNat _ (by omega) _ hl]; rfl

theorem transform_4 (hl : 0 ≤ (lastOf pf).toInt) :
    cc0_transform_4 inb_S1_S1_0 numel1_S1 pf i = ![0, 0, min (i 0).val (lastOf pf).toNat, 0] := by
  have h0 : (i 0).val < 72 := (i 0).isLt
  show ![_, _, (Scalar.minsi (BitVec.ofNat 32 (i 0).val) (pf.at 2 (Rect.unit (s := S1) ![0] S1.size inb_S1_S1_0) numel1_S1)).toNat, _] = _
  rw [at_last, minsi_toNat _ (by omega) _ hl]; rfl

theorem transform_1 :
    cc0_transform_1 k0_off1_inb numel1_S1 inb_S1_S1_0 pf i = ![(expertOf pf (blockOf i)).toNat, 0, chunkOf pf i] := by
  show ![(pf.at 0 (Rect.unit (s := S72) (k0_off1 i) S1.size (k0_off1_inb i)) numel1_S1).toNat, _,
    (Scalar.select (Scalar.cmpi .sle (BitVec.ofNat 32 (i 0).val) (pf.at 2 (Rect.unit (s := S1) ![0] S1.size inb_S1_S1_0) numel1_S1)) (BitVec.ofNat 32 (i 1).val) 6#32).toNat] = _
  rw [at_last, at_expert, select_toNat]; rfl

theorem transform_3 :
    cc0_transform_3 k0_off1_inb numel1_S1 inb_S1_S1_0 pf i = ![(expertOf pf (blockOf i)).toNat, chunkOf pf i, 0] := by
  show ![(pf.at 0 (Rect.unit (s := S72) (k0_off1 i) S1.size (k0_off1_inb i)) numel1_S1).toNat,
    (Scalar.select (Scalar.cmpi .sle (BitVec.ofNat 32 (i 0).val) (pf.at 2 (Rect.unit (s := S1) ![0] S1.size inb_S1_S1_0) numel1_S1)) (BitVec.ofNat 32 (i 1).val) 6#32).toNat, _] = _
  rw [at_last, at_expert, select_toNat]; rfl

theorem transform_2 :
    cc0_transform_2 k0_off1_inb numel1_S1 inb_S1_S1_0 pf i = ![(expertOf pf (blockOf i)).toNat, 0, chunkOf pf i + 7] := by
  have h : (Scalar.addi (Scalar.select (Scalar.cmpi .sle (BitVec.ofNat 32 (i 0).val) (lastOf pf)) (BitVec.ofNat 32 (i 1).val) 6#32) 7#32).toNat = chunkOf pf i + 7 := by
    have hc := chunkOf_lt pf i
    show (_ + 7#32 : BitVec 32).toNat = _
    rw [BitVec.toNat_add, select_toNat, BitVec.toNat_ofNat]; omega
  show ![(pf.at 0 (Rect.unit (s := S72) (k0_off1 i) S1.size (k0_off1_inb i)) numel1_S1).toNat, _,
    (Scalar.addi (Scalar.select (Scalar.cmpi .sle (BitVec.ofNat 32 (i 0).val) (pf.at 2 (Rect.unit (s := S1) ![0] S1.size inb_S1_S1_0) numel1_S1)) (BitVec.ofNat 32 (i 1).val) 6#32) 7#32).toNat] = _
  rw [at_last, at_expert, h]; rfl

/-- Every block the windows name lies in its array when the last block's number is not negative and every expert is one of the eight. -/
theorem ok_of (pf : pre0.Contents (Elt F)) (hl : 0 ≤ (lastOf pf).toInt) (he : ∀ b, (expertOf pf b).toNat < 8) : ok0 pf := by
  refine ⟨fun i => ⟨fun a => ?_, .inl rfl⟩, fun i => ⟨fun a => ?_, .inl rfl⟩, fun i => ⟨fun a => ?_, .inl rfl⟩, fun i => ⟨fun a => ?_, .inl rfl⟩, fun i => ?_⟩
  · have h0 : (i 0).val < 72 := (i 0).isLt
    rw [transform_0 pf i hl]
    match a with
    | 0 => show (0 + 1) * 4 ≤ 4; omega
    | 1 => show (min (i 0).val (lastOf pf).toNat + 1) * 1024 ≤ 73728; omega
    | 2 => show (0 + 1) * 128 ≤ 128; omega
  · have := he (blockOf i); have := chunkOf_lt pf i
    rw [transform_1 pf i]
    match a with
    | 0 => show ((expertOf pf (blockOf i)).toNat + 1) * 1 ≤ 8; omega
    | 1 => show (0 + 1) * 1024 ≤ 1024; omega
    | 2 => show (chunkOf pf i + 1) * 512 ≤ 7168; omega
  · have := he (blockOf i); have := chunkOf_lt pf i
    rw [transform_2 pf i]
    match a with
    | 0 => show ((expertOf pf (blockOf i)).toNat + 1) * 1 ≤ 8; omega
    | 1 => show (0 + 1) * 1024 ≤ 1024; omega
    | 2 => show (chunkOf pf i + 7 + 1) * 512 ≤ 7168; omega
  · have := he (blockOf i); have := chunkOf_lt pf i
    rw [transform_3 pf i]
    match a with
    | 0 => show ((expertOf pf (blockOf i)).toNat + 1) * 1 ≤ 8; omega
    | 1 => show (chunkOf pf i + 1) * 512 ≤ 3584; omega
    | 2 => show (0 + 1) * 1024 ≤ 1024; omega
  · have h0 : (i 0).val < 72 := (i 0).isLt
    have hb : ∀ a, (cc0_transform_4 inb_S1_S1_0 numel1_S1 pf i a + 1) * S4x2x1024x128.size a ≤ S4x2x73728x128.size a := fun a => by
      rw [transform_4 pf i hl]
      match a with
      | 0 => show (0 + 1) * 4 ≤ 4; omega
      | 1 => show (0 + 1) * 2 ≤ 2; omega
      | 2 => show (min (i 0).val (lastOf pf).toNat + 1) * 1024 ≤ 73728; omega
      | 3 => show (0 + 1) * 128 ≤ 128; omega
    have h2 : 2 ≤ S4x2x73728x128.rank := by decide
    exact ⟨hb, .inr (.inl (.inr ⟨h2, rfl, .inl ⟨Dvd.dvd.mul_left (show 2 ∣ 1024 by decide) _, show 2 ∣ 1024 by decide⟩⟩))⟩

end Cert.ExpertsIdeal.Hand

end
-- ==== Proof.ExpertsFrame.lean ====
/- What the experts' kernel leaves point by point. -/
module

public import proofs.«01_k».proof.Proof.ExpertsPoints
public import Idealize.ShloMosaic.Lib.Pipeline.FrameBody
public import Idealize.ShloMosaic.Lib.Claim

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (T : (pcfg0 (F := F)).Adm)

/-! ## Before the kernel -/

/-- A core's buffers when the kernel starts: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

/-! ## Point by point -/

/-- A window's block at a point, read off its array. -/
def iblk (c : Dev nD) (w : Fin (cfg0 T).W) (t : Fin (cfg0 T).N) : ((win0 T w).xblock ((cfg0 T).grid.coords t)).Idx → Elt F (win0 T w).elt :=
  ((win0 T w).blk t).view.read (Elt F) (V m c (Pipeline.arrRef spec0 w))

/-- The sums and the rows kept between points, and the output's buffer. -/
abbrev Held (F : FTy → Type) := Vec F S1024x1024 .f32 × Vec F S1024x1024 .bf16 × Vec F S4x2x1024x128 .bf16

/-- One point's change of them. -/
def stepAt (c : Dev nD) (t : Fin (cfg0 T).N) (s : Held F) : Held F :=
  if k0_cond1 (grid0.coords t) (lastOf T.1) = 1#1 then
    (addedChunk (validOf T.1 (blockOf (grid0.coords t))) (openedRows (grid0.coords t) (validOf T.1 (blockOf (grid0.coords t))) (iblk m T c 0 t) s.2.1)
        (iblk m T c 1 t) (iblk m T c 2 t) (iblk m T c 3 t) (openedSums (grid0.coords t) s.1),
      openedRows (grid0.coords t) (validOf T.1 (blockOf (grid0.coords t))) (iblk m T c 0 t) s.2.1,
      packedOut (grid0.coords t) (addedChunk (validOf T.1 (blockOf (grid0.coords t))) (openedRows (grid0.coords t) (validOf T.1 (blockOf (grid0.coords t))) (iblk m T c 0 t) s.2.1)
        (iblk m T c 1 t) (iblk m T c 2 t) (iblk m T c 3 t) (openedSums (grid0.coords t) s.1)) s.2.2)
  else s

/-- What they are before each point. -/
def held (c : Dev nD) : ℕ → Held F
  | 0 => (m ((c : Thread nD τ).loc cc0_scratch0), m ((c : Thread nD τ).loc cc0_scratch1), m ((c : Thread nD τ).loc cc0_stg4_0))
  | n + 1 => if h : n < (cfg0 T).N then stepAt m T c ⟨n, h⟩ (held c n) else held c n

theorem held_succ (c : Dev nD) (t : Fin (cfg0 T).N) : held m T c (t.val + 1) = stepAt m T c t (held m T c t.val) := by
  rw [held, dif_pos t.isLt]

abbrev sums : Memref sig .tc .vmem S1024x1024 .f32 := Memref.whole cc0_scratch0
abbrev rows : Memref sig .tc .vmem S1024x1024 .bf16 := Memref.whole cc0_scratch1

theorem PhiA0_eq (c : Dev nD) :
    (Pipeline.ΦA spec0 c : sProp 𝕄)
      = iprop(((∃ d, owns (c : Thread nD τ) sums fullShare d) ∗ (∃ d, owns (c : Thread nD τ) rows fullShare d)) ∗ (∃ r, prngReg c r)) := by
  unfold Pipeline.ΦA; rw [scopedRest0_eq]; simp only [sums, rows, owns_whole]; try rfl

theorem PhiT0_eq (c : Dev nD) :
    (Pipeline.ΦT pre0 T.1 c : sProp 𝕄)
      = iprop((((c : Thread nD τ).loc main_v10) ↦{fullShare.right} T.1 0) ∗ (((c : Thread nD τ).loc main_arg4) ↦{fullShare.right} T.1 1)
          ∗ (((c : Thread nD τ).loc main_arg5) ↦{fullShare.right} T.1 2)) := by
  unfold Pipeline.ΦT Pipeline.prefHeld
  exact bigSep_univ_eq_bigSepL [(0 : Fin 3), (1 : Fin 3), (2 : Fin 3)] (by decide) (by decide) _

/-- What is kept between points: before the first, anything. -/
def PhiS (c : Dev nD) : ℕ → sProp 𝕄
  | 0 => iprop(Pipeline.ΦA spec0 c ∗ Pipeline.ΦT pre0 T.1 c)
  | n + 1 => iprop(((owns (c : Thread nD τ) sums fullShare (held m T c (n + 1)).1 ∗ owns (c : Thread nD τ) rows fullShare (held m T c (n + 1)).2.1)
      ∗ (∃ r, prngReg c r)) ∗ Pipeline.ΦT pre0 T.1 c)

/-- The pipeline's proof data. -/
def dats (_ : Fin 1) (c : Dev nD) : Dat τ (Elt F) Unit ℕ (UR sig nD τ) ℕ (cfg0 T) c where
  A w := V m c (Pipeline.arrRef spec0 w)
  after w t := match w with
    | ⟨0, _⟩ => iblk m T c 0 t
    | ⟨1, _⟩ => iblk m T c 1 t
    | ⟨2, _⟩ => iblk m T c 2 t
    | ⟨3, _⟩ => iblk m T c 3 t
    | ⟨4, _⟩ => (held m T c (t.val + 1)).2.2
  Φ t := PhiS m T c t.val
  q w := Pipeline.shareOf spec0 w
  owed _ := 0

theorem A_eq (c : Dev nD) (w : Fin (cfg0 T).W) : (dats m T 0 c).A w = V m c (Pipeline.arrRef spec0 w) := by
  dsimp only [dats]

theorem after0 (c : Dev nD) (t : Fin (cfg0 T).N) : (dats m T 0 c).after 0 t = iblk m T c 0 t := by dsimp only [dats]; rfl
theorem after1 (c : Dev nD) (t : Fin (cfg0 T).N) : (dats m T 0 c).after 1 t = iblk m T c 1 t := by dsimp only [dats]; rfl
theorem after2 (c : Dev nD) (t : Fin (cfg0 T).N) : (dats m T 0 c).after 2 t = iblk m T c 2 t := by dsimp only [dats]; rfl
theorem after3 (c : Dev nD) (t : Fin (cfg0 T).N) : (dats m T 0 c).after 3 t = iblk m T c 3 t := by dsimp only [dats]; rfl
theorem after4 (c : Dev nD) (t : Fin (cfg0 T).N) : (dats m T 0 c).after 4 t = (held m T c (t.val + 1)).2.2 := by dsimp only [dats]; rfl

theorem before0 (c : Dev nD) (t : Fin (cfg0 T).N) (d) : (dats m T 0 c).before 0 t d = iblk m T c 0 t :=
  ((dats m T 0 c).before_in_eq_fetched 0 rfl (fun _ => rfl) (fun _ _ _ => rfl) (fun t => by rw [after0]; unfold Dat.blockOf iblk; rw [A_eq]) t d).trans
    (by unfold Dat.fetched Dat.blockOf iblk; rw [A_eq]; try rfl)
theorem before1 (c : Dev nD) (t : Fin (cfg0 T).N) (d) : (dats m T 0 c).before 1 t d = iblk m T c 1 t :=
  ((dats m T 0 c).before_in_eq_fetched 1 rfl (fun _ => rfl) (fun _ _ _ => rfl) (fun t => by rw [after1]; unfold Dat.blockOf iblk; rw [A_eq]) t d).trans
    (by unfold Dat.fetched Dat.blockOf iblk; rw [A_eq]; try rfl)
theorem before2 (c : Dev nD) (t : Fin (cfg0 T).N) (d) : (dats m T 0 c).before 2 t d = iblk m T c 2 t :=
  ((dats m T 0 c).before_in_eq_fetched 2 rfl (fun _ => rfl) (fun _ _ _ => rfl) (fun t => by rw [after2]; unfold Dat.blockOf iblk; rw [A_eq]) t d).trans
    (by unfold Dat.fetched Dat.blockOf iblk; rw [A_eq]; try rfl)
theorem before3 (c : Dev nD) (t : Fin (cfg0 T).N) (d) : (dats m T 0 c).before 3 t d = iblk m T c 3 t :=
  ((dats m T 0 c).before_in_eq_fetched 3 rfl (fun _ => rfl) (fun _ _ _ => rfl) (fun t => by rw [after3]; unfold Dat.blockOf iblk; rw [A_eq]) t d).trans
    (by unfold Dat.fetched Dat.blockOf iblk; rw [A_eq]; try rfl)

/-! ## The output's buffer after the last block -/

theorem cond1_at (t : Fin (cfg0 T).N) : k0_cond1 (grid0.coords t) (lastOf T.1) = 1#1 ↔ ((t.val / 7 : ℕ) : ℤ) ≤ (lastOf T.1).toInt := by
  rw [cond1_iff, coord0]
theorem cond2_at (t : Fin (cfg0 T).N) : k0_cond2 (grid0.coords t) = 1#1 ↔ t.val % 7 = 0 := by rw [cond2_iff, coord1]
theorem cond5_at (t : Fin (cfg0 T).N) : k0_cond5 (grid0.coords t) = 1#1 ↔ t.val % 7 = 6 := by rw [cond5_iff, coord1]

theorem idle4 (t : Fin (cfg0 T).N) : (cfg0 T).idle 4 ((cfg0 T).grid.coords t) = true ↔ ¬ (k0_cond1 (grid0.coords t) (lastOf T.1) = 1#1 ∧ k0_cond5 (grid0.coords t) = 1#1) := by
  show (!(k0_cond1 (grid0.coords t) (T.1.atD 2 ![0]) == 1#1 && k0_cond5 (grid0.coords t) == 1#1)) = true ↔ _
  rw [atD_last]
  simp only [Bool.not_eq_true', Bool.and_eq_false_iff, beq_eq_false_iff_ne, ne_eq]
  tauto

theorem index4 (hl : 0 ≤ (lastOf T.1).toInt) (t : Fin (cfg0 T).N) : (win0 T 4).index t = ![0, 0, min (t.val / 7) (lastOf T.1).toNat, 0] := by
  show cc0_transform_4 inb_S1_S1_0 numel1_S1 T.1 (grid0.coords t) = _
  rw [transform_4 _ _ hl, coord0]

theorem toInt_toNat (w : BitVec 32) (h : 0 ≤ w.toInt) : w.toInt = w.toNat := by
  rw [BitVec.toInt_eq_toNat_cond] at h ⊢; split <;> rename_i h'
  · rfl
  · rw [if_neg h'] at h; have := w.isLt; omega

theorem flush4 (hl : 0 ≤ (lastOf T.1).toInt) (t : Fin (cfg0 T).N) :
    (win0 T 4).flush t = true ↔ t.val = 503 ∨ (t.val % 7 = 6 ∧ t.val / 7 < (lastOf T.1).toNat) := by
  have hN : (cfg0 T).N = 504 := N_0
  have ht : t.val < 504 := lt_of_lt_of_eq t.isLt hN
  unfold Window.flush
  rw [Bool.and_eq_true, Bool.or_eq_true, decide_eq_true_iff, decide_eq_true_iff]
  constructor
  · rintro ⟨-, h | ⟨h, hne⟩⟩
    · left; have : t.val + 1 = (cfg0 T).N := h; omega
    · right
      rw [index4 T hl, index4 T hl] at hne
      have hne' : ¬ min ((t.val + 1) / 7) (lastOf T.1).toNat = min (t.val / 7) (lastOf T.1).toNat := fun h => hne (by
        show ![0, 0, min ((t.val + 1) / 7) (lastOf T.1).toNat, 0] = _
        rw [h])
      omega
  · rintro (h | ⟨h6, hlt⟩)
    · exact ⟨rfl, .inl (by show t.val + 1 = (cfg0 T).N; omega)⟩
    · refine ⟨rfl, ?_⟩
      by_cases h : t.val = 503
      · exact .inl (by show t.val + 1 = (cfg0 T).N; omega)
      · refine .inr ⟨by show t.val + 1 < (cfg0 T).N; omega, ?_⟩
        rw [index4 T hl, index4 T hl]
        intro he
        have := congrFun he (2 : Fin 4)
        have : min ((t.val + 1) / 7) (lastOf T.1).toNat = min (t.val / 7) (lastOf T.1).toNat := this
        omega

theorem stepAt_idle (c : Dev nD) (t : Fin (cfg0 T).N) (s : Held F) (h : ¬ k0_cond1 (grid0.coords t) (lastOf T.1) = 1#1) : stepAt m T c t s = s := by
  unfold stepAt; rw [if_neg h]

/-- Past the last block the output's buffer keeps that block's rows. -/
theorem before_tail (hl : 0 ≤ (lastOf T.1).toInt) (c : Dev nD) (d) : ∀ (n : ℕ) (h : n < (cfg0 T).N), 7 * (lastOf T.1).toNat + 6 < n →
    (dats m T 0 c).before 4 ⟨n, h⟩ d = (held m T c n).2.2
  | 0, h, hn => absurd hn (by omega)
  | n + 1, h, hn => by
    have hw := toInt_toNat _ hl
    have hN : (cfg0 T).N = 504 := N_0
    have hn' : n < (cfg0 T).N := Nat.lt_of_succ_lt h
    rw [Dat.before_of_pos (dats m T 0 c) 4 ⟨n + 1, h⟩ (Nat.succ_ne_zero n) rfl d]
    have hf : (win0 T 4).flush ⟨n, hn'⟩ = false := by
      rw [← Bool.not_eq_true, flush4 T hl]; dsimp only; omega
    show (if (win0 T 4).flush ⟨n, hn'⟩ = true then d else (dats m T 0 c).left 4 ⟨n, hn'⟩ d) = _
    rw [if_neg (by rw [hf]; decide)]
    unfold Dat.left
    by_cases he : n = 7 * (lastOf T.1).toNat + 6
    · have hi : (cfg0 T).idle 4 ((cfg0 T).grid.coords ⟨n, hn'⟩) = false := by
        rw [← Bool.not_eq_true, idle4, cond1_at, cond5_at]; dsimp only; omega
      rw [hi]
      exact after4 m T c ⟨n, hn'⟩
    · have hi : (cfg0 T).idle 4 ((cfg0 T).grid.coords ⟨n, hn'⟩) = true := by
        rw [idle4, cond1_at, cond5_at]; dsimp only; omega
      rw [hi]
      refine (before_tail hl c d n hn' (by omega)).trans ?_
      rw [held_succ m T c ⟨n, hn'⟩, stepAt_idle m T c _ _ (by rw [cond1_at]; dsimp only; omega)]

/-! ## The body at every point -/

abbrev ms0 (t : Fin (cfg0 T).N) : Memref sig .tc .vmem S4x1024x128 .i32 := spec0_0.stage ((cfg0 T).slots t 0)
abbrev hs0 (t : Fin (cfg0 T).N) : (ms0 T t).IsWhole := hstage0_0 (((cfg0 T).slots t 0).cast nbuf0_0)
abbrev ms1 (t : Fin (cfg0 T).N) : Memref sig .tc .vmem S1x1024x512 .f32 := spec0_1.stage ((cfg0 T).slots t 1)
abbrev hs1 (t : Fin (cfg0 T).N) : (ms1 T t).IsWhole := hstage0_1 (((cfg0 T).slots t 1).cast nbuf0_1)
abbrev ms2 (t : Fin (cfg0 T).N) : Memref sig .tc .vmem S1x1024x512 .f32 := spec0_2.stage ((cfg0 T).slots t 2)
abbrev hs2 (t : Fin (cfg0 T).N) : (ms2 T t).IsWhole := hstage0_2 (((cfg0 T).slots t 2).cast nbuf0_2)
abbrev ms3 (t : Fin (cfg0 T).N) : Memref sig .tc .vmem S1x512x1024 .f32 := spec0_3.stage ((cfg0 T).slots t 3)
abbrev hs3 (t : Fin (cfg0 T).N) : (ms3 T t).IsWhole := hstage0_3 (((cfg0 T).slots t 3).cast nbuf0_3)
abbrev ms4 (t : Fin (cfg0 T).N) : Memref sig .tc .vmem S4x2x1024x128 .bf16 := spec0_4.stage ((cfg0 T).slots t 4)
abbrev hs4 (t : Fin (cfg0 T).N) : (ms4 T t).IsWhole := hstage0_4 (((cfg0 T).slots t 4).cast nbuf0_4)

abbrev bodyAt (t : Fin (cfg0 T).N) : Prog (TpuEff nD τ sig (Elt F) Λ₀ .tc) PUnit :=
  cc0__moe_kernel (grid0.coords t) (Memref.whole main_v10) (Memref.isWhole_whole _) (Memref.whole main_arg4) (Memref.isWhole_whole _)
    (Memref.whole main_arg5) (Memref.isWhole_whole _) (ms0 T t) (hs0 T t) (ms1 T t) (hs1 T t) (ms2 T t) (hs2 T t) (ms3 T t) (hs3 T t)
    (ms4 T t) (hs4 T t) sums (Memref.isWhole_whole _) rows (Memref.isWhole_whole _)

theorem defs₀_row (t : Fin (cfg0 T).N) :
    defs₀ (F := F) .tc (cfg0 T).body ((cfg0 T).bodyArgs t ((cfg0 T).slots t)) = bodyAt T t := by
  unfold defs₀; rw [Defs.onTc_tc]

/-- What the body is called with, the scratches at `A` and `M`, -/
def bodyPre (c : Dev nD) (t : Fin (cfg0 T).N) (A : Vec F S1024x1024 .f32) (M : Vec F S1024x1024 .bf16) : sProp 𝕄 :=
  iprop((((owns (c : Thread nD τ) sums fullShare A ∗ owns (c : Thread nD τ) rows fullShare M) ∗ (∃ r, prngReg c r)) ∗ Pipeline.ΦT pre0 T.1 c)
    ∗ (dats m T 0 c).owesAt () t.castSucc
    ∗ (∃ d, owns (c : Thread nD τ) (ms0 T t) fullShare ((dats m T 0 c).before 0 t d))
    ∗ (∃ d, owns (c : Thread nD τ) (ms1 T t) fullShare ((dats m T 0 c).before 1 t d))
    ∗ (∃ d, owns (c : Thread nD τ) (ms2 T t) fullShare ((dats m T 0 c).before 2 t d))
    ∗ (∃ d, owns (c : Thread nD τ) (ms3 T t) fullShare ((dats m T 0 c).before 3 t d))
    ∗ (∃ d, owns (c : Thread nD τ) (ms4 T t) fullShare ((dats m T 0 c).before 4 t d)))

/-- and what it returns. -/
def bodyPost (c : Dev nD) (t : Fin (cfg0 T).N) : sProp 𝕄 :=
  iprop((dats m T 0 c).Φ t.succ ∗ (dats m T 0 c).owesAt () t.succ
    ∗ (dats m T 0 c).leavesExact 0 t ∗ (dats m T 0 c).leavesExact 1 t ∗ (dats m T 0 c).leavesExact 2 t
    ∗ (dats m T 0 c).leavesExact 3 t ∗ (dats m T 0 c).leavesExact 4 t)

theorem leaves0 (c : Dev nD) (t : Fin (cfg0 T).N) : (dats m T 0 c).leavesExact 0 t = owns (c : Thread nD τ) (ms0 T t) fullShare (iblk m T c 0 t) := by
  rw [show (dats m T 0 c).leavesExact 0 t = owns (c : Thread nD τ) (ms0 T t) fullShare ((dats m T 0 c).after 0 t) from by
    unfold Dat.leavesExact; rw [show (cfg0 T).idle 0 ((cfg0 T).grid.coords t) = false from rfl]; rfl, after0]
theorem leaves1 (c : Dev nD) (t : Fin (cfg0 T).N) : (dats m T 0 c).leavesExact 1 t = owns (c : Thread nD τ) (ms1 T t) fullShare (iblk m T c 1 t) := by
  rw [show (dats m T 0 c).leavesExact 1 t = owns (c : Thread nD τ) (ms1 T t) fullShare ((dats m T 0 c).after 1 t) from by
    unfold Dat.leavesExact; rw [show (cfg0 T).idle 1 ((cfg0 T).grid.coords t) = false from rfl]; rfl, after1]
theorem leaves2 (c : Dev nD) (t : Fin (cfg0 T).N) : (dats m T 0 c).leavesExact 2 t = owns (c : Thread nD τ) (ms2 T t) fullShare (iblk m T c 2 t) := by
  rw [show (dats m T 0 c).leavesExact 2 t = owns (c : Thread nD τ) (ms2 T t) fullShare ((dats m T 0 c).after 2 t) from by
    unfold Dat.leavesExact; rw [show (cfg0 T).idle 2 ((cfg0 T).grid.coords t) = false from rfl]; rfl, after2]
theorem leaves3 (c : Dev nD) (t : Fin (cfg0 T).N) : (dats m T 0 c).leavesExact 3 t = owns (c : Thread nD τ) (ms3 T t) fullShare (iblk m T c 3 t) := by
  rw [show (dats m T 0 c).leavesExact 3 t = owns (c : Thread nD τ) (ms3 T t) fullShare ((dats m T 0 c).after 3 t) from by
    unfold Dat.leavesExact; rw [show (cfg0 T).idle 3 ((cfg0 T).grid.coords t) = false from rfl]; rfl, after3]

/-- The output's buffer as the body leaves it is what the pipeline asks for. -/
theorem leaves4_live (c : Dev nD) (t : Fin (cfg0 T).N) (hi : k0_cond1 (grid0.coords t) (lastOf T.1) = 1#1 ∧ k0_cond5 (grid0.coords t) = 1#1) :
    (dats m T 0 c).leavesExact 4 t = owns (c : Thread nD τ) (ms4 T t) fullShare (held m T c (t.val + 1)).2.2 := by
  have h : (cfg0 T).idle 4 ((cfg0 T).grid.coords t) = false := by rw [← Bool.not_eq_true, idle4]; exact not_not.mpr hi
  rw [show (dats m T 0 c).leavesExact 4 t = owns (c : Thread nD τ) (ms4 T t) fullShare ((dats m T 0 c).after 4 t) from by
    unfold Dat.leavesExact; rw [h]; rfl, after4]

theorem leaves4_idle (hl : 0 ≤ (lastOf T.1).toInt) (c : Dev nD) (t : Fin (cfg0 T).N) (d)
    (hi : ¬ (k0_cond1 (grid0.coords t) (lastOf T.1) = 1#1 ∧ k0_cond5 (grid0.coords t) = 1#1)) :
    owns (c : Thread nD τ) (ms4 T t) fullShare ((dats m T 0 c).before 4 t d) ⊢ (dats m T 0 c).leavesExact 4 t := by
  have h : (cfg0 T).idle 4 ((cfg0 T).grid.coords t) = true := by rw [idle4]; exact hi
  have hw := toInt_toNat _ hl
  have hN : (cfg0 T).N = 504 := N_0
  have ht : t.val < 504 := lt_of_lt_of_eq t.isLt hN
  by_cases hf : (win0 T 4).flush t = true
  · rw [show (dats m T 0 c).leavesExact 4 t = owns (c : Thread nD τ) (ms4 T t) fullShare ((dats m T 0 c).after 4 t) from by
      unfold Dat.leavesExact; rw [h, show ((cfg0 T).win 4).flush t = true from hf]; rfl, after4]
    rw [flush4 T hl] at hf
    rw [cond1_at, cond5_at] at hi
    rw [show (dats m T 0 c).before 4 t d = _ from before_tail m T hl c d t.val t.isLt (by omega), held_succ,
      stepAt_idle m T c t _ (by rw [cond1_at]; omega)]
  · rw [Dat.leavesExact_idle (dats m T 0 c) 4 t h (Bool.not_eq_true _ ▸ hf)]
    iintro H; iexists d; iexact H

theorem packedOut_last (i : grid0.Coords) (A : Vec F S1024x1024 .f32) (Y : Vec F S4x2x1024x128 .bf16) (h : k0_cond5 i = 1#1) :
    packedOut i A Y = packedSums A := if_pos h
theorem packedOut_other (i : grid0.Coords) (A : Vec F S1024x1024 .f32) (Y : Vec F S4x2x1024x128 .bf16) (h : ¬ k0_cond5 i = 1#1) :
    packedOut i A Y = Y := if_neg h

theorem leaves4_of (hl : 0 ≤ (lastOf T.1).toInt) (c : Dev nD) (t : Fin (cfg0 T).N) (d) (h1 : k0_cond1 (grid0.coords t) (lastOf T.1) = 1#1)
    (A : Vec F S1024x1024 .f32) (Y : Vec F S4x2x1024x128 .bf16) (hY : Y = (dats m T 0 c).before 4 t d)
    (hs : (held m T c (t.val + 1)).2.2 = packedOut (grid0.coords t) A (held m T c t.val).2.2) :
    owns (c : Thread nD τ) (ms4 T t) fullShare (packedOut (grid0.coords t) A Y) ⊢ (dats m T 0 c).leavesExact 4 t := by
  by_cases h5 : k0_cond5 (grid0.coords t) = 1#1
  · rw [leaves4_live m T c t ⟨h1, h5⟩, hs, packedOut_last _ _ _ h5, packedOut_last _ _ _ h5]
  · rw [packedOut_other _ _ _ h5, hY]
    exact leaves4_idle m T hl c t d (fun h => h5 h.2)

set_option maxHeartbeats 1600000 in
theorem sound_body (hl : 0 ≤ (lastOf T.1).toInt) (c : Dev nD) (t : Fin (cfg0 T).N) (A : Vec F S1024x1024 .f32) (M : Vec F S1024x1024 .bf16)
    (hAM : t.val = 0 ∨ (A = (held m T c t.val).1 ∧ M = (held m T c t.val).2.1)) :
    bodyPre m T c t A M ⊢ wp frame (wpE (defs₀ (F := F)) Variants.none c none) Set.univ (bodyAt T t) (fun _ => bodyPost m T c t) := by
  unfold bodyPre bodyPost bodyAt
  simp only [before0, before1, before2, before3]
  rw [show (dats m T 0 c).owesAt () t.succ = (dats m T 0 c).owesAt () t.castSucc from rfl]
  rw [show (dats m T 0 c).Φ t.succ = PhiS m T c (t.val + 1) from rfl, PhiS, PhiT0_eq, leaves0, leaves1, leaves2, leaves3]
  have hw := toInt_toNat _ hl
  by_cases h1 : k0_cond1 (grid0.coords t) (lastOf T.1) = 1#1
  · have hA : openedSums (grid0.coords t) A = openedSums (grid0.coords t) (held m T c t.val).1 := by
      rcases hAM with h | h
      · unfold openedSums; rw [if_pos ((cond2_at T t).mpr (by omega)), if_pos ((cond2_at T t).mpr (by omega))]
      · rw [h.1]
    have hM : openedRows (grid0.coords t) (validOf T.1 (blockOf (grid0.coords t))) (iblk m T c 0 t) M
        = openedRows (grid0.coords t) (validOf T.1 (blockOf (grid0.coords t))) (iblk m T c 0 t) (held m T c t.val).2.1 := by
      rcases hAM with h | h
      · unfold openedRows; rw [if_pos ((cond2_at T t).mpr (by omega)), if_pos ((cond2_at T t).mpr (by omega))]
      · rw [h.2]
    have hs := held_succ m T c t
    unfold stepAt at hs
    rw [if_pos h1] at hs
    iintro ⟨⟨⟨⟨HA, HM⟩, Hg⟩, ⟨HT0, HT1, HT2⟩⟩, Ho, ⟨%d0, H0⟩, ⟨%d1, H1⟩, ⟨%d2, H2⟩, ⟨%d3, H3⟩, ⟨%d4, H4⟩⟩
    iapply (run_live c (grid0.coords t) (ms0 T t) (hs0 T t) (ms1 T t) (hs1 T t) (ms2 T t) (hs2 T t) (ms3 T t) (hs3 T t) (ms4 T t) (hs4 T t)
      sums (Memref.isWhole_whole _) rows (Memref.isWhole_whole _) fullShare.right (T.1 1) (T.1 2)
      (iblk m T c 0 t) (iblk m T c 1 t) (iblk m T c 2 t) (iblk m T c 3 t) ((dats m T 0 c).before 4 t d4) A M Set.univ _
      (by rw [lastWord_eq]; exact h1))
    rw [validWord_eq, hA, hM]
    isplitl [HT1]; · iexact HT1
    isplitl [HT2]; · iexact HT2
    isplitl [H0]; · iexact H0
    isplitl [H1]; · iexact H1
    isplitl [H2]; · iexact H2
    isplitl [H3]; · iexact H3
    isplitl [H4]; · iexact H4
    isplitl [HA]; · iexact HA
    isplitl [HM]; · iexact HM
    iintro ⟨HT1, HT2, H0, H1, H2, H3, H4, HA, HM⟩
    rw [hs]
    isplitl [HA HM Hg HT0 HT1 HT2]
    · isplitl [HA HM Hg]
      · isplitl [HA HM]
        · isplitl [HA]
          · iexact HA
          · iexact HM
        · iexact Hg
      · isplitl [HT0]; · iexact HT0
        isplitl [HT1]; · iexact HT1
        iexact HT2
    isplitl [Ho]; · iexact Ho
    isplitl [H0]; · iexact H0
    isplitl [H1]; · iexact H1
    isplitl [H2]; · iexact H2
    isplitl [H3]; · iexact H3
    iapply (leaves4_of m T hl c t d4 h1 _ _ rfl (congrArg (fun s => s.2.2) hs))
    iexact H4
  · have h0 : t.val ≠ 0 := fun h => h1 ((cond1_at T t).mpr (by rw [h]; exact hl))
    obtain ⟨rfl, rfl⟩ := hAM.resolve_left h0
    have hs := (held_succ m T c t).trans (stepAt_idle m T c t _ h1)
    iintro ⟨⟨⟨⟨HA, HM⟩, Hg⟩, ⟨HT0, HT1, HT2⟩⟩, Ho, ⟨%d0, H0⟩, ⟨%d1, H1⟩, ⟨%d2, H2⟩, ⟨%d3, H3⟩, ⟨%d4, H4⟩⟩
    iapply (run_idle c (grid0.coords t) (ms0 T t) (hs0 T t) (ms1 T t) (hs1 T t) (ms2 T t) (hs2 T t) (ms3 T t) (hs3 T t) (ms4 T t) (hs4 T t)
      sums (Memref.isWhole_whole _) rows (Memref.isWhole_whole _) fullShare.right (T.1 1) (T.1 2)
      (iblk m T c 0 t) (iblk m T c 1 t) (iblk m T c 2 t) (iblk m T c 3 t) ((dats m T 0 c).before 4 t d4) _ _ Set.univ _
      (by rw [lastWord_eq]; exact h1))
    isplitl [HT1]; · iexact HT1
    isplitl [HT2]; · iexact HT2
    isplitl [H0]; · iexact H0
    isplitl [H1]; · iexact H1
    isplitl [H2]; · iexact H2
    isplitl [H3]; · iexact H3
    isplitl [H4]; · iexact H4
    isplitl [HA]; · iexact HA
    isplitl [HM]; · iexact HM
    iintro ⟨HT1, HT2, H0, H1, H2, H3, H4, HA, HM⟩
    rw [hs]
    isplitl [HA HM Hg HT0 HT1 HT2]
    · isplitl [HA HM Hg]
      · isplitl [HA HM]
        · isplitl [HA]
          · iexact HA
          · iexact HM
        · iexact Hg
      · isplitl [HT0]; · iexact HT0
        isplitl [HT1]; · iexact HT1
        iexact HT2
    isplitl [Ho]; · iexact Ho
    isplitl [H0]; · iexact H0
    isplitl [H1]; · iexact H1
    isplitl [H2]; · iexact H2
    isplitl [H3]; · iexact H3
    iapply (leaves4_idle m T hl c t d4 (fun h => h1 h.1))
    iexact H4

theorem body_obligation (hl : 0 ≤ (lastOf T.1).toInt) (c : Dev nD) : BodyObligation (dats (F := F) m T 0 c) (defs₀ (F := F)) Variants.none () Set.univ := fun t => by
  rw [bigSep_W0, bigSep_W0, defs₀_row]
  refine triple_restated (P := iprop((dats m T 0 c).Φ t.castSucc ∗ (dats m T 0 c).owesAt () t.castSucc
    ∗ (∃ d, owns (c : Thread nD τ) (ms0 T t) fullShare ((dats m T 0 c).before 0 t d))
    ∗ (∃ d, owns (c : Thread nD τ) (ms1 T t) fullShare ((dats m T 0 c).before 1 t d))
    ∗ (∃ d, owns (c : Thread nD τ) (ms2 T t) fullShare ((dats m T 0 c).before 2 t d))
    ∗ (∃ d, owns (c : Thread nD τ) (ms3 T t) fullShare ((dats m T 0 c).before 3 t d))
    ∗ (∃ d, owns (c : Thread nD τ) (ms4 T t) fullShare ((dats m T 0 c).before 4 t d)))) (Q := fun _ => bodyPost m T c t) ?_ rfl .rfl fun _ => .rfl
  rw [show (dats m T 0 c).Φ t.castSucc = PhiS m T c t.val from rfl]
  by_cases hz : t.val = 0
  · rw [hz, PhiS, PhiA0_eq]
    iintro ⟨⟨⟨⟨⟨%A, HA⟩, ⟨%M, HM⟩⟩, Hg⟩, HT⟩, H⟩
    iapply (sound_body m T hl c t A M (.inl hz))
    unfold bodyPre
    isplitr [H]
    · isplitr [HT]
      · isplitr [Hg]
        · isplitl [HA]
          · iexact HA
          · iexact HM
        · iexact Hg
      · iexact HT
    · iexact H
  · obtain ⟨n, hn⟩ := Nat.exists_eq_succ_of_ne_zero hz
    have h := sound_body m T hl c t (held m T c t.val).1 (held m T c t.val).2.1 (.inr ⟨rfl, rfl⟩)
    unfold bodyPre at h
    rw [hn] at h ⊢
    rw [PhiS]
    exact h

end Cert.ExpertsIdeal.Hand

end
-- ==== Proof.ExpertsRun.lean ====
/- The experts' call run: its arguments end as they were. -/
module

public import proofs.«01_k».proof.Proof.ExpertsFrame

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables the kernel prefetches. -/
def tables : pre0.Contents (Elt F) := fun k => V m 0 (pre0.ref k)

theorem tables_eq (c : Dev nD) (k) : V m c (pre0.ref k) = tables m k := by
  obtain rfl : c = 0 := Subsingleton.elim _ _
  rfl

variable (T : (pcfg0 (F := F)).Adm)

theorem hin (c : Dev nD) : iprop(Pipeline.ΦA spec0 c ∗ Pipeline.ΦT pre0 T.1 c) ⊢ (dats m T 0 c).Φ 0 := by
  rw [show (dats m T 0 c).Φ 0 = PhiS m T c 0 from rfl, PhiS]

theorem hout (c : Dev nD) : (dats m T 0 c).Φ (Fin.last (cfg0 T).N) ⊢ Pipeline.ΦA spec0 c := by
  rw [show (dats m T 0 c).Φ (Fin.last (cfg0 T).N) = PhiS m T c (Fin.last (cfg0 T).N).val from rfl, Fin.val_last,
    show (cfg0 T).N = 503 + 1 from N_0, PhiS, PhiA0_eq]
  iintro ⟨⟨⟨HA, HM⟩, Hg⟩, HT⟩
  isplitr [Hg]
  · isplitl [HA]
    · iexists _; iexact HA
    · iexists _; iexact HM
  · iexact Hg

set_option backward.isDefEq.respectTransparency.types false in
/-- Every run ends, with every array at what the pipeline's data say. -/
theorem run_main (hT : T.1 = tables m) (hl : 0 ≤ (lastOf T.1).toInt) :
    θ_run defs (onTc (τ := τ) (main (F := F))) (s₀ m ρ)
      (fun r => Pipeline.FramePost (Pipeline.pin pcfgs fun _ => T) (dats m T) 0 (V m) r ∧ r.2.sem = fun _ => 0) :=
  Pipeline.θ_run_frameP_track_shared (Q' := _) pcfgs (fun _ => T) (dats m T) (0 : Fin 1) launch₀0 defs₀ Variants.none m ρ main
    (hbody := fun c => (body_obligation m T hl c).loose) (hq := fun _ _ _ => rfl) (howed := fun _ _ => rfl) (V := V m) (hmain := hmain m)
    (hA := A_eq m T) (hpf := fun c k => (tables_eq m c k).trans (congrFun hT.symm k)) (hin := hin m T) (hout := hout m T)

/-! ## The arguments -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem notArray3 : ∀ w : Fin 5, (spec0 w).arr.view.ref ≠ main_arg3 := by decide
theorem notArray4 : ∀ w : Fin 5, (spec0 w).arr.view.ref ≠ main_arg4 := by decide
theorem notArray5 : ∀ w : Fin 5, (spec0 w).arr.view.ref ≠ main_arg5 := by decide

theorem frame (hT : T.1 = tables m) (hl : 0 ≤ (lastOf T.1).toInt) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).1 0).trans (((dats m T 0 c).arrAt_in 0 rfl _).trans ((A_eq m T c 0).trans (V_main_arg0 m c))),
      ((h.1 c).1 1).trans (((dats m T 0 c).arrAt_in 1 rfl _).trans ((A_eq m T c 1).trans (V_main_arg1 m c))),
      ((h.1 c).1 3).trans (((dats m T 0 c).arrAt_in 3 rfl _).trans ((A_eq m T c 3).trans (V_main_arg2 m c))),
      ((h.1 c).2 main_arg3 (Pipeline.mem_restRefs_of main_arg3 (by decide) notArray3)).trans (V_main_arg3 m c),
      ((h.1 c).2 main_arg4 (Pipeline.mem_restRefs_of main_arg4 (by decide) notArray4)).trans (V_main_arg4 m c),
      ((h.1 c).2 main_arg5 (Pipeline.mem_restRefs_of main_arg5 (by decide) notArray5)).trans (V_main_arg5 m c)⟩, h.2⟩)
    (run_main m ρ T hT hl)

end Cert.ExpertsIdeal.Hand

end
-- ==== Proof.ExpertsTables.lean ====
/-
  What the precondition says of the experts' tables, and what the host leaves in the table the kernel reads.
-/
module

public import proofs.«01_k».proof.Proof.ExpertsRun
public import proofs.«01_k».proof.Proof.Gen.Pre_blocks_in_range
public import proofs.«01_k».proof.Proof.Gen.On_rows_of_blocks
public import Idealize.ShloMosaic.Lib.Pointwise

@[expose] public section

set_option maxRecDepth 16384

noncomputable section

namespace Cert.Proof.Experts

open Cert.ExpertsIdeal Cert.ExpertsIdeal.Gen Cert.ExpertsIdeal.Hand Idealize.ShloMosaic Idealize.ShloMosaic.TcCoe Idealize.SL.Sem

variable {F : FTy → Type} [FloatOps F]

/-- What the precondition says: the last block's number is not negative, and every block up to it names an expert. -/
def InRange (E : IVec S72 32) (L : IVec S1 32) : Prop :=
  0 ≤ (L (ix1 (0 : Fin 1))).toInt
    ∧ ∀ b : Fin 72, (b.val : ℤ) ≤ (L (ix1 (0 : Fin 1))).toInt → 0 ≤ (E (ix1 b)).toInt ∧ (E (ix1 b)).toInt < 8

theorem pre_apply (X : IVec S4x73728x128 32) (W1 : FVec F S8x1024x7168 .f32) (W2 : FVec F S8x3584x1024 .f32) (E N : IVec S72 32) (L : IVec S1 32) (b : Fin 72) :
    Cert.Pre_blocks_in_range.fn (F := F) X W1 W2 E N L (ix1 b)
      = IntOp.andi (IntOp.cmpi .sge (L (ix1 (0 : Fin 1))) 0#32)
          (IntOp.ori (IntOp.cmpi .sgt (BitVec.ofNat 32 b.val) (L (ix1 (0 : Fin 1))))
            (IntOp.andi (IntOp.cmpi .sge (E (ix1 b)) 0#32) (IntOp.cmpi .slt (E (ix1 b)) 8#32))) := by
  pointwise [Cert.Pre_blocks_in_range.fn]

theorem on_apply (X : IVec S4x73728x128 32) (W1 : FVec F S8x1024x7168 .f32) (W2 : FVec F S8x3584x1024 .f32) (E N : IVec S72 32) (L : IVec S1 32)
    (g : Fin 4) (p : Fin 2) (n : Fin 73728) (l : Fin 128) :
    Cert.On_rows_of_blocks.fn (F := F) X W1 W2 E N L (ix4 g p n l)
      = IntOp.cmpi .sle (IntOp.shrsi .host (BitVec.ofNat 32 n.val) 10#32) (L (ix1 (0 : Fin 1))) := by
  pointwise [Cert.On_rows_of_blocks.fn]

theorem ofNat_toInt (n : ℕ) (h : n < 2147483648) : (BitVec.ofNat 32 n).toInt = n := by
  rw [BitVec.toInt_eq_toNat_cond, BitVec.toNat_ofNat, if_pos (by omega)]
  omega

theorem in_range_of_pre (X : IVec S4x73728x128 32) (W1 : FVec F S8x1024x7168 .f32) (W2 : FVec F S8x3584x1024 .f32) (E N : IVec S72 32) (L : IVec S1 32)
    (h : Cert.Pre_blocks_in_range.fn (F := F) X W1 W2 E N L = fun _ => 1#1) : InRange E L := by
  have key : ∀ p q r s : Bool, IntOp.andi (BitVec.ofBool p) (IntOp.ori (BitVec.ofBool q) (IntOp.andi (BitVec.ofBool r) (BitVec.ofBool s))) = 1#1 →
      p = true ∧ (q = false → r = true ∧ s = true) := by decide
  have at_b : ∀ b : Fin 72, _ := fun b => key _ _ _ _ ((pre_apply X W1 W2 E N L b).symm.trans (congrFun h (ix1 b)))
  have at_b : ∀ b : Fin 72, ((0#32).sle (L (ix1 (0 : Fin 1))) = true)
      ∧ ((L (ix1 (0 : Fin 1))).slt (BitVec.ofNat 32 b.val) = false → (0#32).sle (E (ix1 b)) = true ∧ (E (ix1 b)).slt 8#32 = true) := at_b
  have z : (0#32).toInt = 0 := rfl
  have e : (8#32).toInt = 8 := rfl
  refine ⟨?_, fun b hb => ?_⟩
  · have h0 := (at_b 0).1
    rw [BitVec.sle_eq_decide, decide_eq_true_eq, z] at h0
    exact h0
  · have h1 := (at_b b).2 (by
      rw [BitVec.slt_eq_decide, decide_eq_false_iff_not, ofNat_toInt _ (by have := b.isLt; omega)]
      omega)
    rw [BitVec.sle_eq_decide, decide_eq_true_eq, z, BitVec.slt_eq_decide, decide_eq_true_eq, e] at h1
    exact h1

theorem block_of_on (X : IVec S4x73728x128 32) (W1 : FVec F S8x1024x7168 .f32) (W2 : FVec F S8x3584x1024 .f32) (E N : IVec S72 32) (L : IVec S1 32)
    (g : Fin 4) (p : Fin 2) (n : Fin 73728) (l : Fin 128) (h : Cert.On_rows_of_blocks.fn (F := F) X W1 W2 E N L (ix4 g p n l) = 1#1) :
    ((n.val / 1024 : ℕ) : ℤ) ≤ (L (ix1 (0 : Fin 1))).toInt := by
  have h' := (on_apply X W1 W2 E N L g p n l).symm.trans h
  have hs : IntOp.shrsi .host (BitVec.ofNat 32 n.val) 10#32 = BitVec.ofNat 32 (n.val / 1024) := by
    have hn := n.isLt
    unfold IntOp.shrsi
    rw [if_pos (by decide)]
    refine BitVec.eq_of_toInt_eq ?_
    rw [BitVec.sshiftRight', BitVec.toInt_sshiftRight, ofNat_toInt _ (by omega), ofNat_toInt _ (by omega)]
    show ((n.val : ℤ) >>> (10 : ℕ)) = _
    rw [Int.shiftRight_eq_div_pow]
    omega
  rw [hs] at h'
  have h2 : BitVec.ofBool (decide ((BitVec.ofNat 32 (n.val / 1024)).toInt ≤ (L (ix1 (0 : Fin 1))).toInt)) = 1#1 := h'
  rw [ofNat_toInt _ (by have := n.isLt; omega)] at h2
  by_contra hc
  rw [decide_eq_false hc] at h2
  exact absurd h2 (by decide)

/-! ## The table the host prepares -/

/-- A one-axis gather, read at an index: the entry its number names. -/
theorem gather_word_apply (E : IVec S72 32) (N : IVec S72x1 32) (b e : Fin 72) (h : (N (ix2 b (0 : Fin 1))).toInt.toNat = e.val) :
    Host.gather gather_S72_S72x1_S72_n_0_n_n_0_1_1 E N (ix1 b) = E (ix1 e) := by
  unfold Host.gather
  congr 1
  funext a
  refine Fin.ext ?_
  show GatherDims.start _ (ix1 b) N a + GatherDims.batchCoord _ (ix1 b) a + GatherDims.offCoord _ (ix1 b) a = _
  rw [GatherDims.batchCoord_eq_zero _ _ _ List.not_mem_nil]
  have hsi : ∀ j : Fin 1, GatherDims.siIdx gather_S72_S72x1_S72_n_0_n_n_0_1_1 (ix1 b) j = ix2 b j := by
    intro j
    funext d
    refine Fin.ext ?_
    match d with
    | 0 => rfl
    | 1 => rfl
  match a with
  | 0 =>
    rw [GatherDims.offCoord_eq_zero _ _ _ (by decide)]
    unfold GatherDims.start
    rw [dif_pos (by decide)]
    refine (congrArg (fun i => min (N i).toInt.toNat _ + 0 + 0) (hsi 0)).trans ?_
    rw [h]
    have := e.isLt
    show min e.val (72 - 1) = e.val
    omega

/-- The numbers the host gathers the table at: each block's own, held back at the last one's. -/
def heldBack (L : IVec S1 32) : IVec S72x1 32 :=
  broadcastInDim S72x1 ![0] bcast_S72_S72x1_0
    (select (cmpi .slt (minsi (iotaInDim S72 32 0) (broadcastInDim S72 ![] bcast_S_S72 (shapeCast S_ L shapeCasts_S1_S_))) (broadcastInDim S72 ![] bcast_S_S72 (constantI S_ 32 0#32)))
      (addi (minsi (iotaInDim S72 32 0) (broadcastInDim S72 ![] bcast_S_S72 (shapeCast S_ L shapeCasts_S1_S_))) (broadcastInDim S72 ![] bcast_S_S72 (constantI S_ 32 72#32)))
      (minsi (iotaInDim S72 32 0) (broadcastInDim S72 ![] bcast_S_S72 (shapeCast S_ L shapeCasts_S1_S_))))

theorem heldBack_apply (L : IVec S1 32) (b : Fin 72) (h : 0 ≤ (L (ix1 (0 : Fin 1))).toInt) :
    (heldBack L (ix2 b (0 : Fin 1))).toInt.toNat = min b.val (L (ix1 (0 : Fin 1))).toInt.toNat := by
  have e : heldBack L (ix2 b (0 : Fin 1)) = Scalar.select (IntOp.cmpi .slt (IntOp.minsi (BitVec.ofNat 32 b.val) (L (ix1 (0 : Fin 1)))) 0#32)
      (IntOp.addi (IntOp.minsi (BitVec.ofNat 32 b.val) (L (ix1 (0 : Fin 1)))) 72#32) (IntOp.minsi (BitVec.ofNat 32 b.val) (L (ix1 (0 : Fin 1)))) := by
    pointwise [heldBack]
  rw [e]
  have hb := ofNat_toInt b.val (by have := b.isLt; omega)
  have hm : (IntOp.minsi (BitVec.ofNat 32 b.val) (L (ix1 (0 : Fin 1)))).toInt = min (b.val : ℤ) (L (ix1 (0 : Fin 1))).toInt := by
    unfold IntOp.minsi
    rw [BitVec.slt_eq_decide, hb]
    by_cases hlt : (b.val : ℤ) < (L (ix1 (0 : Fin 1))).toInt
    · rw [decide_eq_true hlt, if_pos rfl, hb]; omega
    · rw [decide_eq_false hlt, if_neg (by decide)]; omega
  have hs : IntOp.cmpi .slt (IntOp.minsi (BitVec.ofNat 32 b.val) (L (ix1 (0 : Fin 1)))) 0#32 = 0#1 := by
    show BitVec.ofBool (decide ((IntOp.minsi (BitVec.ofNat 32 b.val) (L (ix1 (0 : Fin 1)))).toInt < (0#32).toInt)) = 0#1
    rw [hm, decide_eq_false (by have : (0#32).toInt = 0 := rfl; omega)]
    rfl
  rw [hs]
  show (IntOp.minsi (BitVec.ofNat 32 b.val) (L (ix1 (0 : Fin 1)))).toInt.toNat = _
  rw [hm]
  omega

theorem table_eq (m : (ℓ : Loc nD τ sig) → Buf (Elt F) ℓ) (c : Dev nD) :
    V m c main_v10 = Host.gather gather_S72_S72x1_S72_n_0_n_n_0_1_1 (m ((c : Thread nD τ).loc main_arg3)) (heldBack (m ((c : Thread nD τ).loc main_arg5))) := by
  show StableHlo.after hostOps0 _ _ = _
  simp only [hostOps0]
  after_results <;> rfl

/-! ## The tables -/

variable (m : (ℓ : Loc nD τ sig) → Buf (Elt F) ℓ)

theorem last_tables : lastOf (tables m) = (m (((0 : Dev nD).tc : Thread nD τ).loc main_arg5) : IVec S1 32) (ix1 (0 : Fin 1)) :=
  congrFun (V_main_arg5 m 0) (ix1 (0 : Fin 1))

theorem valid_tables (b : Fin 72) : validOf (tables m) b = (m (((0 : Dev nD).tc : Thread nD τ).loc main_arg4) : IVec S72 32) (ix1 b) :=
  congrFun (V_main_arg4 m 0) (ix1 b)

theorem expert_tables (b e : Fin 72) (hl : 0 ≤ (lastOf (tables m)).toInt) (he : min b.val (lastOf (tables m)).toNat = e.val) :
    expertOf (tables m) b = (m (((0 : Dev nD).tc : Thread nD τ).loc main_arg3) : IVec S72 32) (ix1 e) := by
  have hw := toInt_toNat _ hl
  rw [last_tables] at hl hw he
  refine (congrFun (table_eq m 0) (ix1 b)).trans (gather_word_apply _ _ b e ((heldBack_apply _ b hl).trans ?_))
  omega

/-- The tables of a memory whose blocks are in range are fit for the launch. -/
theorem tables_ok (h : InRange (m (((0 : Dev nD).tc : Thread nD τ).loc main_arg3) : IVec S72 32) (m (((0 : Dev nD).tc : Thread nD τ).loc main_arg5))) :
    0 ≤ (lastOf (tables m)).toInt ∧ ok0 (tables m) := by
  have hl : 0 ≤ (lastOf (tables m)).toInt := by rw [last_tables]; exact h.1
  refine ⟨hl, ok_of _ hl fun b => ?_⟩
  have hw := toInt_toNat _ hl
  have hb := b.isLt
  have e := expert_tables m b ⟨min b.val (lastOf (tables m)).toNat, by omega⟩ hl rfl
  have hr := h.2 ⟨min b.val (lastOf (tables m)).toNat, by omega⟩ ((show ((min b.val (lastOf (tables m)).toNat : ℕ) : ℤ) ≤ (lastOf (tables m)).toInt by omega).trans (le_of_eq (congrArg BitVec.toInt (last_tables m))))
  rw [e]
  have := toInt_toNat _ hr.1
  omega

/-- The memory's own tables, fit for the launch. -/
def admitted (h : InRange (m (((0 : Dev nD).tc : Thread nD τ).loc main_arg3) : IVec S72 32) (m (((0 : Dev nD).tc : Thread nD τ).loc main_arg5))) :
    (pcfg0 (F := F)).Adm := ⟨tables m, (tables_ok m h).2⟩

/-- The call's frame, of any memory whose blocks are in range. -/
theorem frame (ρ : Dev nD → PrngReg)
    (h : InRange (m (((0 : Dev nD).tc : Thread nD τ).loc main_arg3) : IVec S72 32) (m (((0 : Dev nD).tc : Thread nD τ).loc main_arg5))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Hand.frame m ρ (admitted m h) rfl (tables_ok m h).1

end Cert.Proof.Experts

end
-- ==== Proof.ExpertsSums.lean ====
/-
  The values of one grid point of the expert call read at an index, over the extended reals.
-/
module

public import proofs.«01_k».proof.Proof.ExpertsStep
public import Idealize.ShloMosaic.Lib.Pointwise

@[expose] public section

set_option maxRecDepth 16384

noncomputable section

namespace Cert.Proof.Experts

open Cert.ExpertsIdeal Cert.ExpertsIdeal.Gen Idealize.ShloMosaic

/-- One hidden unit: the sigmoid-weighted gate times the other half's value. -/
def hidden (g u : EReal) : EReal := g * Ideal.div 1 (1 + Ideal.exp (0 - g)) * u

theorem clear_apply (r l : Fin 1024) : k0_pay1 (F := Ideal) (ix2 r l) = 0 := by
  pointwise [k0_pay1]

theorem many_apply (M : Vec Ideal S1024x1024 .bf16) (G U : Vec Ideal S1x1024x512 .f32) (A : Vec Ideal S1024x1024 .f32)
    (O : Vec Ideal S1x512x1024 .f32) (r l : Fin 1024) :
    k0_pay3 (F := Ideal) M G U A O (ix2 r l)
      = A (ix2 r l) + ∑ f : Fin 512, hidden (∑ k : Fin 1024, M (ix2 r k) * G (ix3 (0 : Fin 1) k f)) (∑ k : Fin 1024, M (ix2 r k) * U (ix3 (0 : Fin 1) k f))
          * O (ix3 (0 : Fin 1) f l) := by
  unfold hidden
  pointwise [k0_pay3]

theorem few_apply (M : Vec Ideal S512x1024 .bf16) (G U : Vec Ideal S1x1024x512 .f32) (A : Vec Ideal S512x1024 .f32)
    (O : Vec Ideal S1x512x1024 .f32) (r : Fin 512) (l : Fin 1024) :
    k0_pay4 (F := Ideal) M G U A O (ix2 r l)
      = A (ix2 r l) + ∑ f : Fin 512, hidden (∑ k : Fin 1024, M (ix2 r k) * G (ix3 (0 : Fin 1) k f)) (∑ k : Fin 1024, M (ix2 r k) * U (ix3 (0 : Fin 1) k f))
          * O (ix3 (0 : Fin 1) f l) := by
  unfold hidden
  pointwise [k0_pay4]

/-! ## A row's entries, out of its words -/

/-- Entry `k` of a row whose word at lane `l` of group `g` is `w g l`: the low halves first, then the high ones. -/
def element (w : Fin 4 → Fin 128 → BitVec 32) (k : Fin 1024) : EReal :=
  if h : k.val < 512 then Ideal.ofBits .f32 (w ⟨k.val / 128, by omega⟩ ⟨k.val % 128, by omega⟩ <<< 16)
  else Ideal.ofBits .f32 (w ⟨(k.val - 512) / 128, by omega⟩ ⟨k.val % 128, by omega⟩ &&& 4294901760#32)

/-- The entry as the experts take it: zero in a row past the block's count `nv` of valid rows. -/
def entry (nv : BitVec 32) (r : Fin 1024) (w : Fin 4 → Fin 128 → BitVec 32) (k : Fin 1024) : EReal :=
  if IntOp.cmpi .slt (BitVec.ofNat 32 r.val) nv = 1#1 then element w k else 0

theorem shifted (u : ArithUnit) (x : BitVec 32) : IntOp.shli u x 16#32 = x <<< 16 := by
  unfold IntOp.shli
  rw [if_pos (by decide)]
  rfl

theorem four (f : Fin 4 → Fin 128 → BitVec 32) (j : ℕ) (hj : j < 512) :
    (if h1 : j < 128 then f 0 ⟨j, h1⟩
      else if h2 : j - 128 < 128 then f 1 ⟨j - 128, h2⟩
      else if h3 : j - 128 - 128 < 128 then f 2 ⟨j - 128 - 128, h3⟩
      else f 3 ⟨j - 128 - 128 - 128, by omega⟩) = f ⟨j / 128, by omega⟩ ⟨j % 128, by omega⟩ := by
  have key : ∀ (g : Fin 4) (a : Fin 128), j / 128 = g.val → a.val = j % 128 → f g a = f ⟨j / 128, by omega⟩ ⟨j % 128, by omega⟩ := by
    intro g a hg ha
    have e1 : (⟨j / 128, by omega⟩ : Fin 4) = g := Fin.ext hg
    have e2 : (⟨j % 128, by omega⟩ : Fin 128) = a := Fin.ext ha.symm
    rw [e1, e2]
  split
  · exact key 0 _ (by show j / 128 = 0; omega) (by show j = j % 128; omega)
  · split
    · exact key 1 _ (by show j / 128 = 1; omega) (by show j - 128 = j % 128; omega)
    · split
      · exact key 2 _ (by show j / 128 = 2; omega) (by show j - 128 - 128 = j % 128; omega)
      · exact key 3 _ (by show j / 128 = 3; omega) (by show j - 128 - 128 - 128 = j % 128; omega)

theorem unpack_apply (a b c d : Vec Ideal S1x1024x128 .i32) (nv : BitVec 32) (r k : Fin 1024) :
    k0_pay2 (F := Ideal) a b c d nv (ix2 r k)
      = entry nv r (fun g l => (![a, b, c, d] g) (ix3 (0 : Fin 1) r l)) k := by
  have e := fun (j : ℕ) (hj : j < 512) => four (fun g l => (![a, b, c, d] g) (ix3 (0 : Fin 1) r l)) j hj
  unfold entry element
  pointwise [k0_pay2]
  by_cases hk : k.val < 512
  · rw [dif_pos hk, dif_pos hk, shifted]
    by_cases hv : IntOp.cmpi .slt (BitVec.ofNat 32 r.val) nv = 1#1
    · rw [if_pos hv]
      refine congrArg (fun w : BitVec 32 => Ideal.ofBits .f32 (w <<< 16)) ?_
      refine (if_pos hv).trans ?_
      exact e k.val hk
    · rw [if_neg hv]
      refine (congrArg (fun w : BitVec 32 => Ideal.ofBits .f32 (w <<< 16)) (if_neg hv)).trans ?_
      exact Ideal.ofBits_zero_f32
  · rw [dif_neg hk, dif_neg hk]
    by_cases hv : IntOp.cmpi .slt (BitVec.ofNat 32 r.val) nv = 1#1
    · rw [if_pos hv]
      refine congrArg (fun w : BitVec 32 => Ideal.ofBits .f32 (w &&& 4294901760#32)) ?_
      refine (if_pos hv).trans ((e (k.val - 512) (by omega)).trans ?_)
      exact congrArg (fun l : Fin 128 => (![a, b, c, d] ⟨(k.val - 512) / 128, by omega⟩) (ix3 (0 : Fin 1) r l)) (Fin.ext (by show (k.val - 512) % 128 = k.val % 128; omega))
    · rw [if_neg hv]
      refine (congrArg (fun w : BitVec 32 => Ideal.ofBits .f32 (w &&& 4294901760#32)) (if_neg hv)).trans ?_
      exact Ideal.ofBits_zero_f32

/-! ## The finished sums, packed -/

theorem canon_of_all {s : Shape} {e : EltTy} (f : s.Idx → Elt Ideal e) (y : s.Idx) :
    ∀ L : List (View.Piece (Elt Ideal) s e), (∀ p ∈ L, ∀ x, p.2 x = f (p.1.emb x)) → (∃ p ∈ L, ∃ x, p.1.emb x = y) →
      View.canon (Val := Elt Ideal) L y = f y
  | [], _, h => by obtain ⟨_, hm, _⟩ := h; exact absurd hm List.not_mem_nil
  | p :: L, hf, h => by
    by_cases hy : y ∈ p.1.set
    · obtain ⟨r, w⟩ := p
      obtain ⟨x, rfl⟩ : ∃ x, r.emb x = y := r.exists_idx_of_mem hy
      rw [View.canon_cons_emb]
      exact hf _ List.mem_cons_self x
    · rw [View.canon_cons_of_not_mem _ _ hy]
      refine canon_of_all f y L (fun q hq => hf q (List.mem_cons_of_mem _ hq)) ?_
      obtain ⟨q, hq, x, hx⟩ := h
      rcases List.mem_cons.1 hq with rfl | hq
      · exact absurd (hx ▸ (LoadRect.mem_set _).2 fun a => ⟨(x a).val, (x a).isLt, rfl⟩) hy
      · exact ⟨q, hq, x, hx⟩

/-- The column of the sums that an entry of the packed block holds. -/
def column (g : Fin 4) (p : Fin 2) (l : Fin 128) : Fin 1024 := ⟨512 * p.val + 128 * g.val + l.val, by omega⟩

/-- The packed block, entry by entry. -/
def packedAt (A : Vec Ideal S1024x1024 .f32) : S4x2x1024x128.Idx → EReal := fun y => A (ix2 (y 2 : Fin 1024) (column (y 0) (y 1) (y 3)))

theorem group_apply (A : Vec Ideal S1024x1024 .f32) (g : Fin 4) (p : Fin 2) (inb : ∀ a, ![g.val, p.val, 0, 0] a + S1x1x1024x128.size a ≤ S4x2x1024x128.size a)
    (r : Fin 1024) (l : Fin 128) :
    packedAt A ((Rect.unit (s := S4x2x1024x128) ![g.val, p.val, 0, 0] S1x1x1024x128.size inb).emb (ix4 (0 : Fin 1) (0 : Fin 1) r l)) = A (ix2 r (column g p l)) := by
  have e : (Rect.unit (s := S4x2x1024x128) ![g.val, p.val, 0, 0] S1x1x1024x128.size inb).emb (ix4 (0 : Fin 1) (0 : Fin 1) r l) = ix4 g p r l := by
    funext a
    refine Fin.ext ?_
    match a with
    | 0 => rfl
    | 1 => rfl
    | 2 => show 0 + 1 * r.val = r.val; omega
    | 3 => show 0 + 1 * l.val = l.val; omega
  rw [e]
  rfl

theorem whole_group (P : S1x1x1024x128.Idx → Prop) (h : ∀ (r : Fin 1024) (l : Fin 128), P (ix4 (0 : Fin 1) (0 : Fin 1) r l)) (x : S1x1x1024x128.Idx) : P x := by
  have e : x = ix4 (0 : Fin 1) (0 : Fin 1) (x 2 : Fin 1024) (x 3 : Fin 128) := by
    funext a
    match a with
    | 0 => exact Subsingleton.elim (α := Fin 1) _ _
    | 1 => exact Subsingleton.elim (α := Fin 1) _ _
    | 2 => rfl
    | 3 => rfl
  rw [e]
  exact h _ _

theorem group00 (A : Vec Ideal S1024x1024 .f32) (r : Fin 1024) (l : Fin 128) : k0_pay8 (F := Ideal) A (ix4 (0 : Fin 1) (0 : Fin 1) r l) = A (ix2 r (column 0 0 l)) := by
  pointwise [k0_pay8, k0_pay7]
  exact congrArg (fun j : Fin 1024 => A (ix2 r j)) (Fin.ext (by show l.val = 512 * 0 + 128 * 0 + l.val; omega))
theorem group01 (A : Vec Ideal S1024x1024 .f32) (r : Fin 1024) (l : Fin 128) : k0_pay9 (F := Ideal) A (ix4 (0 : Fin 1) (0 : Fin 1) r l) = A (ix2 r (column 0 1 l)) := by
  pointwise [k0_pay9, k0_pay7]; rfl
theorem group10 (A : Vec Ideal S1024x1024 .f32) (r : Fin 1024) (l : Fin 128) : k0_pay10 (F := Ideal) A (ix4 (0 : Fin 1) (0 : Fin 1) r l) = A (ix2 r (column 1 0 l)) := by
  pointwise [k0_pay10, k0_pay7]; rfl
theorem group11 (A : Vec Ideal S1024x1024 .f32) (r : Fin 1024) (l : Fin 128) : k0_pay11 (F := Ideal) A (ix4 (0 : Fin 1) (0 : Fin 1) r l) = A (ix2 r (column 1 1 l)) := by
  pointwise [k0_pay11, k0_pay7]; rfl
theorem group20 (A : Vec Ideal S1024x1024 .f32) (r : Fin 1024) (l : Fin 128) : k0_pay12 (F := Ideal) A (ix4 (0 : Fin 1) (0 : Fin 1) r l) = A (ix2 r (column 2 0 l)) := by
  pointwise [k0_pay12, k0_pay7]; rfl
theorem group21 (A : Vec Ideal S1024x1024 .f32) (r : Fin 1024) (l : Fin 128) : k0_pay13 (F := Ideal) A (ix4 (0 : Fin 1) (0 : Fin 1) r l) = A (ix2 r (column 2 1 l)) := by
  pointwise [k0_pay13, k0_pay7]; rfl
theorem group30 (A : Vec Ideal S1024x1024 .f32) (r : Fin 1024) (l : Fin 128) : k0_pay5 (F := Ideal) (k0_pay14 A) (ix4 (0 : Fin 1) (0 : Fin 1) r l) = A (ix2 r (column 3 0 l)) := by
  pointwise [k0_pay5, k0_pay14, k0_pay7]; rfl
theorem group31 (A : Vec Ideal S1024x1024 .f32) (r : Fin 1024) (l : Fin 128) : k0_pay6 (F := Ideal) (k0_pay7 A) (ix4 (0 : Fin 1) (0 : Fin 1) r l) = A (ix2 r (column 3 1 l)) := by
  pointwise [k0_pay6, k0_pay7]; rfl

theorem pack_apply (A : Vec Ideal S1024x1024 .f32) (g : Fin 4) (p : Fin 2) (r : Fin 1024) (l : Fin 128) :
    Hand.packedSums (F := Ideal) A (ix4 g p r l) = A (ix2 r (column g p l)) := by
  refine canon_of_all (s := S4x2x1024x128) (e := .bf16) (packedAt A) (ix4 g p r l) _ ?_ ?_
  · intro q hq
    simp only [List.mem_cons, List.not_mem_nil, or_false] at hq
    rcases hq with rfl | rfl | rfl | rfl | rfl | rfl | rfl | rfl
    · exact whole_group _ fun r l => (group31 A r l).trans (group_apply A 3 1 inb_S4x2x1024x128_S1x1x1024x128_3_1_0_0 r l).symm
    · exact whole_group _ fun r l => (group30 A r l).trans (group_apply A 3 0 inb_S4x2x1024x128_S1x1x1024x128_3_0_0_0 r l).symm
    · exact whole_group _ fun r l => (group21 A r l).trans (group_apply A 2 1 inb_S4x2x1024x128_S1x1x1024x128_2_1_0_0 r l).symm
    · exact whole_group _ fun r l => (group20 A r l).trans (group_apply A 2 0 inb_S4x2x1024x128_S1x1x1024x128_2_0_0_0 r l).symm
    · exact whole_group _ fun r l => (group11 A r l).trans (group_apply A 1 1 inb_S4x2x1024x128_S1x1x1024x128_1_1_0_0 r l).symm
    · exact whole_group _ fun r l => (group10 A r l).trans (group_apply A 1 0 inb_S4x2x1024x128_S1x1x1024x128_1_0_0_0 r l).symm
    · exact whole_group _ fun r l => (group01 A r l).trans (group_apply A 0 1 inb_S4x2x1024x128_S1x1x1024x128_0_1_0_0 r l).symm
    · exact whole_group _ fun r l => (group00 A r l).trans (group_apply A 0 0 inb_S4x2x1024x128_S1x1x1024x128_0_0_0_0 r l).symm
  · have e : ∀ inb, (Rect.unit (s := S4x2x1024x128) ![g.val, p.val, 0, 0] S1x1x1024x128.size inb).emb (ix4 (0 : Fin 1) (0 : Fin 1) r l) = ix4 g p r l := by
      intro inb
      funext a
      refine Fin.ext ?_
      match a with
      | 0 => rfl
      | 1 => rfl
      | 2 => show 0 + 1 * r.val = r.val; omega
      | 3 => show 0 + 1 * l.val = l.val; omega
    match g, p with
    | 0, 0 => exact ⟨_, .tail _ (.tail _ (.tail _ (.tail _ (.tail _ (.tail _ (.tail _ (.head _))))))), _, e inb_S4x2x1024x128_S1x1x1024x128_0_0_0_0⟩
    | 0, 1 => exact ⟨_, .tail _ (.tail _ (.tail _ (.tail _ (.tail _ (.tail _ (.head _)))))), _, e inb_S4x2x1024x128_S1x1x1024x128_0_1_0_0⟩
    | 1, 0 => exact ⟨_, .tail _ (.tail _ (.tail _ (.tail _ (.tail _ (.head _))))), _, e inb_S4x2x1024x128_S1x1x1024x128_1_0_0_0⟩
    | 1, 1 => exact ⟨_, .tail _ (.tail _ (.tail _ (.tail _ (.head _)))), _, e inb_S4x2x1024x128_S1x1x1024x128_1_1_0_0⟩
    | 2, 0 => exact ⟨_, .tail _ (.tail _ (.tail _ (.head _))), _, e inb_S4x2x1024x128_S1x1x1024x128_2_0_0_0⟩
    | 2, 1 => exact ⟨_, .tail _ (.tail _ (.head _)), _, e inb_S4x2x1024x128_S1x1x1024x128_2_1_0_0⟩
    | 3, 0 => exact ⟨_, .tail _ (.head _), _, e inb_S4x2x1024x128_S1x1x1024x128_3_0_0_0⟩
    | 3, 1 => exact ⟨_, .head _, _, e inb_S4x2x1024x128_S1x1x1024x128_3_1_0_0⟩

/-! ## The steps of a grid point -/

theorem opened_rows_apply (i : grid0.Coords) (nv : BitVec 32) (X : Vec Ideal S4x1024x128 .i32) (M : Vec Ideal S1024x1024 .bf16) (r k : Fin 1024)
    (h : k0_cond2 i = 1#1) :
    Hand.openedRows (F := Ideal) i nv X M (ix2 r k) = entry nv r (fun g l => X (ix3 g r l)) k := by
  unfold Hand.openedRows
  rw [if_pos h]
  refine (unpack_apply _ _ _ _ nv r k).trans (congrArg (fun w => entry nv r w k) (funext fun g => funext fun l => ?_))
  have e : ∀ (g : Fin 4) (inb : ∀ a, ![g.val, 0, 0] a + S1x1024x128.size a ≤ S4x1024x128.size a),
      VecWindow.window (s := S4x1024x128) X ![g.val, 0, 0] S1x1024x128.size inb (ix3 (0 : Fin 1) r l) = X (ix3 g r l) := by
    intro g inb
    refine congrArg X (funext fun a => Fin.ext ?_)
    match a with
    | 0 => rfl
    | 1 => show 0 + 1 * r.val = r.val; omega
    | 2 => show 0 + 1 * l.val = l.val; omega
  match g with
  | 0 => exact e 0 inb_S4x1024x128_S1x1024x128_0_0_0
  | 1 => exact e 1 inb_S4x1024x128_S1x1024x128_1_0_0
  | 2 => exact e 2 inb_S4x1024x128_S1x1024x128_2_0_0
  | 3 => exact e 3 inb_S4x1024x128_S1x1024x128_3_0_0

/-- One row's terms of one chunk of hidden units. -/
def chunkTerms (M : Vec Ideal S1024x1024 .bf16) (G U : Vec Ideal S1x1024x512 .f32) (O : Vec Ideal S1x512x1024 .f32) (r l : Fin 1024) : EReal :=
  ∑ f : Fin 512, hidden (∑ k : Fin 1024, M (ix2 r k) * G (ix3 (0 : Fin 1) k f)) (∑ k : Fin 1024, M (ix2 r k) * U (ix3 (0 : Fin 1) k f))
    * O (ix3 (0 : Fin 1) f l)

/-- A row of zeros adds nothing. -/
theorem chunkTerms_zero (M : Vec Ideal S1024x1024 .bf16) (G U : Vec Ideal S1x1024x512 .f32) (O : Vec Ideal S1x512x1024 .f32) (r l : Fin 1024)
    (h : ∀ k : Fin 1024, M (ix2 r k) = 0) : chunkTerms M G U O r l = 0 := by
  unfold chunkTerms hidden
  simp only [h, zero_mul, Finset.sum_const_zero]

/-- A chunk's terms are added to every row: past the first half of a block with few rows they are zero. -/
theorem added_apply (nv : BitVec 32) (M : Vec Ideal S1024x1024 .bf16) (G U : Vec Ideal S1x1024x512 .f32) (O : Vec Ideal S1x512x1024 .f32)
    (A : Vec Ideal S1024x1024 .f32) (r l : Fin 1024)
    (h : ¬ Hand.manyRows nv = 1#1 → 512 ≤ r.val → ∀ k : Fin 1024, M (ix2 r k) = 0) :
    Hand.addedChunk (F := Ideal) nv M G U O A (ix2 r l) = A (ix2 r l) + chunkTerms M G U O r l := by
  unfold Hand.addedChunk
  by_cases hm : Hand.manyRows nv = 1#1
  · rw [if_pos hm]
    exact many_apply M G U A O r l
  · rw [if_neg hm]
    by_cases hr : r.val < 512
    · have hin : ∀ a : Fin 2, ![0, 0] a ≤ ((ix2 r l : S1024x1024.Idx) a).val ∧ ((ix2 r l : S1024x1024.Idx) a).val < ![0, 0] a + S512x1024.size a := by
        intro a
        match a with
        | 0 => exact ⟨Nat.zero_le _, by show r.val < 0 + 512; omega⟩
        | 1 => exact ⟨Nat.zero_le _, by show l.val < 0 + 1024; omega⟩
      refine (dif_pos hin).trans ?_
      have e : Rect.unitLocal (s := S1024x1024) (off := ![0, 0]) (size := S512x1024.size) (ix2 r l) hin = ix2 (⟨r.val, hr⟩ : Fin 512) l := by
        funext a
        refine Fin.ext ?_
        match a with
        | 0 => rfl
        | 1 => rfl
      have w : ∀ {e : EltTy} (Z : S1024x1024.Idx → Elt Ideal e) (j : Fin 1024),
          VecWindow.window (s := S1024x1024) Z ![0, 0] S512x1024.size inb_S1024x1024_S512x1024_0_0 (ix2 (⟨r.val, hr⟩ : Fin 512) j) = Z (ix2 r j) := by
        intro e Z j
        refine congrArg Z (funext fun a => Fin.ext ?_)
        match a with
        | 0 => show 0 + 1 * r.val = r.val; omega
        | 1 => show 0 + 1 * j.val = j.val; omega
      rw [e]
      refine (few_apply _ G U _ O ⟨r.val, hr⟩ l).trans ?_
      unfold chunkTerms
      refine congrArg₂ (· + ·) (w A l) ?_
      refine Finset.sum_congr rfl fun f _ => ?_
      have e1 : ∀ Z : Vec Ideal S1x1024x512 .f32, (∑ k : Fin 1024, VecWindow.window (s := S1024x1024) M ![0, 0] S512x1024.size inb_S1024x1024_S512x1024_0_0 (ix2 (⟨r.val, hr⟩ : Fin 512) k) * Z (ix3 (0 : Fin 1) k f))
          = ∑ k : Fin 1024, M (ix2 r k) * Z (ix3 (0 : Fin 1) k f) :=
        fun Z => Finset.sum_congr rfl fun k _ => congrArg (· * Z (ix3 (0 : Fin 1) k f)) (w M k)
      exact congrArg₂ (fun a b => hidden a b * O (ix3 (0 : Fin 1) f l)) (e1 G) (e1 U)
    · rw [chunkTerms_zero M G U O r l (h hm (by omega)), add_zero]
      refine dif_neg fun hall => hr ?_
      have := (hall 0).2
      exact lt_of_lt_of_eq this rfl

end Cert.Proof.Experts

end
-- ==== Proof.ExpertsReference.lean ====
/-
  What the experts' reference returns, read at an index over the extended reals.
-/
module

public import proofs.«01_k».proof.Proof.Gen.ExpertsReferenceIdeal.Run
public import proofs.«01_k».proof.Proof.ExpertsSums

@[expose] public section

set_option maxRecDepth 16384

noncomputable section

namespace Cert.Proof.Experts

open Cert.ExpertsReferenceIdeal Cert.ExpertsReferenceIdeal.Gen Idealize.ShloMosaic

variable {F : FTy → Type} [FloatOps F]

/-- The rows the reference gives the experts: unpacked, and zero past their block's count of valid rows. -/
def rowsTerm (X : IVec S4x73728x128 32) (N : IVec S72 32) : FVec F S72x1024x1024 .f32 :=
  select (broadcastInDim S72x1024x1024 ![0, 1, 2] bcast_S72x1024x1_S72x1024x1024_0_1_2 (cmpi .slt (iotaInDim S72x1024x1 32 1) (broadcastInDim S72x1024x1 ![0, 1, 2] bcast_S72x1x1_S72x1024x1_0_1_2 (broadcastInDim S72x1x1 ![0] bcast_S72_S72x1x1_0 N)))) (shapeCast S72x1024x1024 (transpose S73728x2x4x128 [2, 0, 1, 3] (concatenate S2x4x73728x128 0 [⟨S1x4x73728x128, (broadcastInDim S1x4x73728x128 ![1, 2, 3] bcast_S4x73728x128_S1x4x73728x128_1_2_3 (bitcastToFloat (F := F) .f32 (Host.shli X (broadcastInDim S4x73728x128 ![] bcast_S_S4x73728x128 (constantI S_ 32 16#32)))))⟩, ⟨S1x4x73728x128, (broadcastInDim S1x4x73728x128 ![1, 2, 3] bcast_S4x73728x128_S1x4x73728x128_1_2_3 (bitcastToFloat (F := F) .f32 (andi X (broadcastInDim S4x73728x128 ![] bcast_S_S4x73728x128 (constantI S_ 32 4294901760#32)))))⟩] concatenates_S1x4x73728x128_S1x4x73728x128_S2x4x73728x128_d0) transposes_S2x4x73728x128_S73728x2x4x128_2_0_1_3) shapeCasts_S73728x2x4x128_S72x1024x1024) (broadcastInDim S72x1024x1024 ![] bcast_S_S72x1024x1024 (id (constant S_ .f32 0x00000000#32)))

/-- The rows times each block's first weight matrix. -/
def projected (R : FVec F S72x1024x1024 .f32) (W1 : FVec F S72x1x1024x7168 .f32) : FVec F S72x1024x7168 .f32 :=
  Host.dotGeneral dot_S72x1024x1024_S72x1024x7168_S72x1024x7168_2_1_1_2_0_0 none R (shapeCast S72x1024x7168 W1 shapeCasts_S72x1x1024x7168_S72x1024x7168)

/-- The reference's result out of the rows and of the weights gathered for every block. -/
def resultTerm (R : FVec F S72x1024x1024 .f32) (W1 : FVec F S72x1x1024x7168 .f32) (W2 : FVec F S72x1x3584x1024 .f32) : FVec F S4x2x73728x128 .bf16 :=
  truncf .bf16 (transpose S4x2x73728x128 [2, 1, 0, 3] (shapeCast S73728x2x4x128 (Host.dotGeneral dot_S72x1024x3584_S72x3584x1024_S72x1024x1024_2_1_1_2_0_0 none (mulf (mulf (extractStridedSlice S72x1024x3584 ![0, 0, 0] (projected R W1) slices_S72x1024x7168_S72x1024x3584_0_0_0) (Host.divf (broadcastInDim S72x1024x3584 ![] bcast_S_S72x1024x3584 (constant S_ .f32 0x3F800000#32)) (addf (broadcastInDim S72x1024x3584 ![] bcast_S_S72x1024x3584 (constant S_ .f32 0x3F800000#32)) (Host.exp (Host.negf (extractStridedSlice S72x1024x3584 ![0, 0, 0] (projected R W1) slices_S72x1024x7168_S72x1024x3584_0_0_0)))))) (extractStridedSlice S72x1024x3584 ![0, 0, 3584] (projected R W1) slices_S72x1024x7168_S72x1024x3584_0_0_3584)) (shapeCast S72x3584x1024 W2 shapeCasts_S72x1x3584x1024_S72x3584x1024)) shapeCasts_S72x1024x1024_S73728x2x4x128) transposes_S73728x2x4x128_S4x2x73728x128_2_1_0_3) bitsLt_bf16_f32

/-- Where each block's first weight matrix starts. -/
def starts1 (E : IVec S72 32) : IVec S72x3 32 :=
  (concatenate S72x3 1 [⟨S72x1, ((broadcastInDim S72x1 ![0] bcast_S72_S72x1_0 (select (cmpi .slt E (broadcastInDim S72 ![] bcast_S_S72 (constantI S_ 32 0#32))) (addi E (broadcastInDim S72 ![] bcast_S_S72 (constantI S_ 32 8#32))) E)) : IVec S72x1 32)⟩, ⟨S72x1, ((broadcastInDim S72x1 ![] bcast_S_S72x1 (select (cmpi .slt (constantI S_ 32 0#32) (constantI S_ 32 0#32)) (addi (constantI S_ 32 0#32) (constantI S_ 32 1024#32)) (constantI S_ 32 0#32))) : IVec S72x1 32)⟩, ⟨S72x1, ((broadcastInDim S72x1 ![] bcast_S_S72x1 (select (cmpi .slt (constantI S_ 32 0#32) (constantI S_ 32 0#32)) (addi (constantI S_ 32 0#32) (constantI S_ 32 7168#32)) (constantI S_ 32 0#32))) : IVec S72x1 32)⟩] concatenates_S72x1_S72x1_S72x1_S72x3_d1 : IVec S72x3 32)

/-- Where each block's second weight matrix starts. -/
def starts2 (E : IVec S72 32) : IVec S72x3 32 :=
  (concatenate S72x3 1 [⟨S72x1, ((broadcastInDim S72x1 ![0] bcast_S72_S72x1_0 (select (cmpi .slt E (broadcastInDim S72 ![] bcast_S_S72 (constantI S_ 32 0#32))) (addi E (broadcastInDim S72 ![] bcast_S_S72 (constantI S_ 32 8#32))) E)) : IVec S72x1 32)⟩, ⟨S72x1, ((broadcastInDim S72x1 ![] bcast_S_S72x1 (select (cmpi .slt (constantI S_ 32 0#32) (constantI S_ 32 0#32)) (addi (constantI S_ 32 0#32) (constantI S_ 32 3584#32)) (constantI S_ 32 0#32))) : IVec S72x1 32)⟩, ⟨S72x1, ((broadcastInDim S72x1 ![] bcast_S_S72x1 (select (cmpi .slt (constantI S_ 32 0#32) (constantI S_ 32 0#32)) (addi (constantI S_ 32 0#32) (constantI S_ 32 1024#32)) (constantI S_ 32 0#32))) : IVec S72x1 32)⟩] concatenates_S72x1_S72x1_S72x1_S72x3_d1 : IVec S72x3 32)

theorem result_eq (m : (ℓ : Loc nD τ sig) → Buf (Elt F) ℓ) (c : Dev nD) :
    Value.res_main_v58 m c
      = resultTerm (rowsTerm (m ((c.tc : Thread nD τ).loc main_arg0)) (m ((c.tc : Thread nD τ).loc main_arg4)))
          (Host.gather gather_S8x1024x7168_S72x3_S72x1x1024x7168_123_n_n_n_012_1_110247168 (m ((c.tc : Thread nD τ).loc main_arg1)) (starts1 (m ((c.tc : Thread nD τ).loc main_arg3))))
          (Host.gather gather_S8x3584x1024_S72x3_S72x1x3584x1024_123_n_n_n_012_1_135841024 (m ((c.tc : Thread nD τ).loc main_arg2)) (starts2 (m ((c.tc : Thread nD τ).loc main_arg3)))) := rfl

theorem resultTerm_apply (R : Vec Ideal S72x1024x1024 .f32) (W1 : Vec Ideal S72x1x1024x7168 .f32) (W2 : Vec Ideal S72x1x3584x1024 .f32)
    (g : Fin 4) (p : Fin 2) (n : Fin 73728) (l : Fin 128) :
    resultTerm (F := Ideal) R W1 W2 (ix4 g p n l)
      = ∑ f : Fin 3584, hidden (∑ k : Fin 1024, R (ix3 (⟨n.val / 1024, by omega⟩ : Fin 72) (⟨n.val % 1024, by omega⟩ : Fin 1024) k) * W1 (ix4 (⟨n.val / 1024, by omega⟩ : Fin 72) (0 : Fin 1) k (⟨f.val, by omega⟩ : Fin 7168)))
          (∑ k : Fin 1024, R (ix3 (⟨n.val / 1024, by omega⟩ : Fin 72) (⟨n.val % 1024, by omega⟩ : Fin 1024) k) * W1 (ix4 (⟨n.val / 1024, by omega⟩ : Fin 72) (0 : Fin 1) k (⟨3584 + f.val, by omega⟩ : Fin 7168)))
          * W2 (ix4 (⟨n.val / 1024, by omega⟩ : Fin 72) (0 : Fin 1) f (⟨p.val * 512 + g.val * 128 + l.val, by omega⟩ : Fin 1024)) := by
  unfold hidden
  pointwise [resultTerm, projected]
  simp only [zero_sub]

theorem chosen (c : BitVec 1) {p q : Prop} [Decidable p] [Decidable q] (a : p → EReal) (b : ¬ p → EReal) (z : EReal) (a' : q → EReal) (b' : ¬ q → EReal)
    (hpq : p ↔ q) (ha : ∀ h h', a h = a' h') (hb : ∀ h h', b h = b' h') (hz : z = 0) :
    Scalar.select c (if h : p then a h else b h) z = if c = 1#1 then (if h : q then a' h else b' h) else 0 := by
  show (if c = 1#1 then (if h : p then a h else b h) else z) = _
  by_cases hc : c = 1#1
  · rw [if_pos hc, if_pos hc]
    by_cases hq : q
    · rw [dif_pos hq, dif_pos (hpq.2 hq)]
      exact ha _ _
    · rw [dif_neg hq, dif_neg (fun h => hq (hpq.1 h))]
      exact hb _ _
  · rw [if_neg hc, if_neg hc]
    exact hz

theorem rowsTerm_apply (X : IVec S4x73728x128 32) (N : IVec S72 32) (b : Fin 72) (r k : Fin 1024) :
    rowsTerm (F := Ideal) X N (ix3 b r k)
      = entry (N (ix1 b)) r (fun g l => X (ix3 g (⟨b.val * 1024 + r.val, by omega⟩ : Fin 73728) l)) k := by
  have low : ∀ (g g' : Fin 4) (w : Fin 4 → BitVec 32), g = g' → Ideal.ofBits .f32 (IntOp.shli .host (w g) 16#32) = Ideal.ofBits .f32 (w g' <<< 16) := by
    intro g g' w h; rw [h, shifted]
  have high : ∀ (g g' : Fin 4) (w : Fin 4 → BitVec 32), g = g' → Ideal.ofBits .f32 (IntOp.andi (w g) 4294901760#32) = Ideal.ofBits .f32 (w g' &&& 4294901760#32) := by
    intro g g' w h; rw [h]; rfl
  unfold entry element
  pointwise [rowsTerm]
  refine chosen _ _ _ _ _ _ (show k.val / 512 < 1 ↔ k.val < 512 by omega) (fun h h' => ?_) (fun h h' => ?_) ?_
  · exact low _ _ (fun g => X (ix3 g (⟨b.val * 1024 + r.val, by omega⟩ : Fin 73728) (⟨k.val % 128, by omega⟩ : Fin 128))) (Fin.ext (by show k.val / 128 % 4 = k.val / 128; omega))
  · exact high _ _ (fun g => X (ix3 g (⟨b.val * 1024 + r.val, by omega⟩ : Fin 73728) (⟨k.val % 128, by omega⟩ : Fin 128))) (Fin.ext (by show k.val / 128 % 4 = (k.val - 512) / 128; omega))
  · exact Ideal.ofBits_zero_f32

/-! ## The weights gathered for every block -/

theorem starts1_expert (E : IVec S72 32) (b : Fin 72) (h : 0 ≤ (E (ix1 b)).toInt) : starts1 E (ix2 b (0 : Fin 3)) = E (ix1 b) := by
  have hs : IntOp.cmpi .slt (E (ix1 b)) 0#32 = 0#1 := by
    show BitVec.ofBool (decide ((E (ix1 b)).toInt < (0#32).toInt)) = 0#1
    rw [decide_eq_false (by have : (0#32).toInt = 0 := rfl; omega)]
    rfl
  pointwise [starts1]
  exact if_neg (by rw [hs]; decide)

theorem starts1_row (E : IVec S72 32) (b : Fin 72) : starts1 E (ix2 b (1 : Fin 3)) = 0#32 := by
  pointwise [starts1]
  rfl

theorem starts1_column (E : IVec S72 32) (b : Fin 72) : starts1 E (ix2 b (2 : Fin 3)) = 0#32 := by
  pointwise [starts1]
  rfl

theorem starts2_expert (E : IVec S72 32) (b : Fin 72) (h : 0 ≤ (E (ix1 b)).toInt) : starts2 E (ix2 b (0 : Fin 3)) = E (ix1 b) := by
  have hs : IntOp.cmpi .slt (E (ix1 b)) 0#32 = 0#1 := by
    show BitVec.ofBool (decide ((E (ix1 b)).toInt < (0#32).toInt)) = 0#1
    rw [decide_eq_false (by have : (0#32).toInt = 0 := rfl; omega)]
    rfl
  pointwise [starts2]
  exact if_neg (by rw [hs]; decide)

theorem starts2_row (E : IVec S72 32) (b : Fin 72) : starts2 E (ix2 b (1 : Fin 3)) = 0#32 := by
  pointwise [starts2]
  rfl

theorem starts2_column (E : IVec S72 32) (b : Fin 72) : starts2 E (ix2 b (2 : Fin 3)) = 0#32 := by
  pointwise [starts2]
  rfl

/-- The first weight matrix gathered for block `b` is its expert's. -/
theorem gather1_apply (W : Vec Ideal S8x1024x7168 .f32) (N : IVec S72x3 32) (b : Fin 72) (k : Fin 1024) (f : Fin 7168) (e : Fin 8)
    (he : (N (ix2 b (0 : Fin 3))).toInt.toNat = e.val) (h1 : N (ix2 b (1 : Fin 3)) = 0#32) (h2 : N (ix2 b (2 : Fin 3)) = 0#32) :
    Host.gather gather_S8x1024x7168_S72x3_S72x1x1024x7168_123_n_n_n_012_1_110247168 W N (ix4 b (0 : Fin 1) k f) = W (ix3 e k f) := by
  unfold Host.gather
  congr 1
  funext a
  refine Fin.ext ?_
  show GatherDims.start _ (ix4 b (0 : Fin 1) k f) N a + GatherDims.batchCoord _ (ix4 b (0 : Fin 1) k f) a + GatherDims.offCoord _ (ix4 b (0 : Fin 1) k f) a = _
  rw [GatherDims.batchCoord_eq_zero _ _ _ List.not_mem_nil]
  have hsi : ∀ j : Fin 3, GatherDims.siIdx gather_S8x1024x7168_S72x3_S72x1x1024x7168_123_n_n_n_012_1_110247168 (ix4 b (0 : Fin 1) k f) j = ix2 b j := by
    intro j
    funext d
    refine Fin.ext ?_
    match d with
    | 0 => rfl
    | 1 => rfl
  match a with
  | 0 =>
    unfold GatherDims.start
    rw [dif_pos (by decide)]
    unfold GatherDims.offCoord
    rw [dif_pos (by decide)]
    refine (congrArg (fun i => min (N i).toInt.toNat _ + 0 + 0) (hsi 0)).trans ?_
    rw [he]
    have := e.isLt
    show min e.val (8 - 1) = e.val
    omega
  | 1 =>
    unfold GatherDims.start
    rw [dif_pos (by decide)]
    unfold GatherDims.offCoord
    rw [dif_pos (by decide)]
    refine (congrArg (fun i => min (N i).toInt.toNat _ + 0 + k.val) (hsi 1)).trans ?_
    rw [h1]
    show min 0 _ + 0 + k.val = k.val
    omega
  | 2 =>
    unfold GatherDims.start
    rw [dif_pos (by decide)]
    unfold GatherDims.offCoord
    rw [dif_pos (by decide)]
    refine (congrArg (fun i => min (N i).toInt.toNat _ + 0 + f.val) (hsi 2)).trans ?_
    rw [h2]
    show min 0 _ + 0 + f.val = f.val
    omega

/-- The second weight matrix gathered for block `b` is its expert's. -/
theorem gather2_apply (W : Vec Ideal S8x3584x1024 .f32) (N : IVec S72x3 32) (b : Fin 72) (k : Fin 3584) (f : Fin 1024) (e : Fin 8)
    (he : (N (ix2 b (0 : Fin 3))).toInt.toNat = e.val) (h1 : N (ix2 b (1 : Fin 3)) = 0#32) (h2 : N (ix2 b (2 : Fin 3)) = 0#32) :
    Host.gather gather_S8x3584x1024_S72x3_S72x1x3584x1024_123_n_n_n_012_1_135841024 W N (ix4 b (0 : Fin 1) k f) = W (ix3 e k f) := by
  unfold Host.gather
  congr 1
  funext a
  refine Fin.ext ?_
  show GatherDims.start _ (ix4 b (0 : Fin 1) k f) N a + GatherDims.batchCoord _ (ix4 b (0 : Fin 1) k f) a + GatherDims.offCoord _ (ix4 b (0 : Fin 1) k f) a = _
  rw [GatherDims.batchCoord_eq_zero _ _ _ List.not_mem_nil]
  have hsi : ∀ j : Fin 3, GatherDims.siIdx gather_S8x3584x1024_S72x3_S72x1x3584x1024_123_n_n_n_012_1_135841024 (ix4 b (0 : Fin 1) k f) j = ix2 b j := by
    intro j
    funext d
    refine Fin.ext ?_
    match d with
    | 0 => rfl
    | 1 => rfl
  match a with
  | 0 =>
    unfold GatherDims.start
    rw [dif_pos (by decide)]
    unfold GatherDims.offCoord
    rw [dif_pos (by decide)]
    refine (congrArg (fun i => min (N i).toInt.toNat _ + 0 + 0) (hsi 0)).trans ?_
    rw [he]
    have := e.isLt
    show min e.val (8 - 1) = e.val
    omega
  | 1 =>
    unfold GatherDims.start
    rw [dif_pos (by decide)]
    unfold GatherDims.offCoord
    rw [dif_pos (by decide)]
    refine (congrArg (fun i => min (N i).toInt.toNat _ + 0 + k.val) (hsi 1)).trans ?_
    rw [h1]
    show min 0 _ + 0 + k.val = k.val
    omega
  | 2 =>
    unfold GatherDims.start
    rw [dif_pos (by decide)]
    unfold GatherDims.offCoord
    rw [dif_pos (by decide)]
    refine (congrArg (fun i => min (N i).toInt.toNat _ + 0 + f.val) (hsi 2)).trans ?_
    rw [h2]
    show min 0 _ + 0 + f.val = f.val
    omega

end Cert.Proof.Experts

end
-- ==== Proof.ExpertsBlocks.lean ====
/-
  The experts' blocks read at an index: which rows and which weights a point of the grid sees.
-/
module

public import proofs.«01_k».proof.Proof.ExpertsRun

@[expose] public section

set_option maxRecDepth 16384

noncomputable section

namespace Cert.ExpertsIdeal.Hand

open Cert.ExpertsIdeal Cert.ExpertsIdeal.Gen Idealize.ShloMosaic Idealize.ShloMosaic.TcCoe Idealize.SL.Sem
open Idealize.ShloMosaic.Pipeline (Dat Cfg Window)

variable {F : FTy → Type} [FloatOps F] (m : (ℓ : Loc nD τ sig) → Buf (Elt F) ℓ) (T : (pcfg0 (F := F)).Adm) (c : Dev nD)

theorem point_lt (t : Fin (cfg0 T).N) : t.val < 504 := lt_of_lt_of_eq t.isLt (show (cfg0 T).N = 504 from N_0)

/-- The block a point works at. -/
def blockAt (t : Fin (cfg0 T).N) : Fin 72 := ⟨t.val / 7, by have := point_lt T t; omega⟩

theorem blockOf_coords (t : Fin (cfg0 T).N) : blockOf (grid0.coords t) = blockAt T t := Fin.ext (coord0 t)

theorem index0 (hl : 0 ≤ (lastOf T.1).toInt) (t : Fin (cfg0 T).N) : (win0 T 0).index t = ![0, min (t.val / 7) (lastOf T.1).toNat, 0] := by
  show cc0_transform_0 inb_S1_S1_0 numel1_S1 T.1 (grid0.coords t) = _
  rw [transform_0 _ _ hl, coord0]

theorem chunkOf_live (t : Fin (cfg0 T).N) (hb : ((t.val / 7 : ℕ) : ℤ) ≤ (lastOf T.1).toInt) : chunkOf T.1 (grid0.coords t) = t.val % 7 := by
  unfold chunkOf
  rw [coord0, coord1, if_pos hb]

theorem index1 (t : Fin (cfg0 T).N) (hb : ((t.val / 7 : ℕ) : ℤ) ≤ (lastOf T.1).toInt) :
    (win0 T 1).index t = ![(expertOf T.1 (blockAt T t)).toNat, 0, t.val % 7] := by
  show cc0_transform_1 k0_off1_inb numel1_S1 inb_S1_S1_0 T.1 (grid0.coords t) = _
  rw [transform_1, chunkOf_live T t hb, blockOf_coords]

theorem index2 (t : Fin (cfg0 T).N) (hb : ((t.val / 7 : ℕ) : ℤ) ≤ (lastOf T.1).toInt) :
    (win0 T 2).index t = ![(expertOf T.1 (blockAt T t)).toNat, 0, t.val % 7 + 7] := by
  show cc0_transform_2 k0_off1_inb numel1_S1 inb_S1_S1_0 T.1 (grid0.coords t) = _
  rw [transform_2, chunkOf_live T t hb, blockOf_coords]

theorem index3 (t : Fin (cfg0 T).N) (hb : ((t.val / 7 : ℕ) : ℤ) ≤ (lastOf T.1).toInt) :
    (win0 T 3).index t = ![(expertOf T.1 (blockAt T t)).toNat, t.val % 7, 0] := by
  show cc0_transform_3 k0_off1_inb numel1_S1 inb_S1_S1_0 T.1 (grid0.coords t) = _
  rw [transform_3, chunkOf_live T t hb, blockOf_coords]

/-- A block of rows. -/
theorem block_words (hl : 0 ≤ (lastOf T.1).toInt) (t : Fin (cfg0 T).N) (hb : ((t.val / 7 : ℕ) : ℤ) ≤ (lastOf T.1).toInt)
    (g : Fin 4) (r : Fin 1024) (l : Fin 128) :
    iblk m T c 0 t (ix3 g r l) = V m c main_arg0 (ix3 g (⟨t.val / 7 * 1024 + r.val, by have := point_lt T t; omega⟩ : Fin 73728) l) := by
  have hw := toInt_toNat _ hl
  refine congrArg (V m c main_arg0) (funext fun (a : Fin 3) => Fin.ext ?_)
  match a with
  | 0 => show (win0 T 0).index t 0 * 4 + 1 * g.val = g.val; rw [index0 T hl t]; show 0 * 4 + 1 * g.val = g.val; omega
  | 1 =>
    show (win0 T 0).index t 1 * 1024 + 1 * r.val = t.val / 7 * 1024 + r.val
    rw [index0 T hl t]
    show min (t.val / 7) (lastOf T.1).toNat * 1024 + 1 * r.val = t.val / 7 * 1024 + r.val
    rw [Nat.min_eq_left (by omega)]; omega
  | 2 => show (win0 T 0).index t 2 * 128 + 1 * l.val = l.val; rw [index0 T hl t]; show 0 * 128 + 1 * l.val = l.val; omega

/-- A chunk of the gate's half of the expert's first weight. -/
theorem block_gate (t : Fin (cfg0 T).N) (hb : ((t.val / 7 : ℕ) : ℤ) ≤ (lastOf T.1).toInt)
    (e : Fin 8) (he : (expertOf T.1 (blockAt T t)).toNat = e.val) (k : Fin 1024) (f : Fin 512) :
    iblk m T c 1 t (ix3 (0 : Fin 1) k f) = V m c main_arg1 (ix3 e k (⟨t.val % 7 * 512 + f.val, by omega⟩ : Fin 7168)) := by
  refine congrArg (V m c main_arg1) (funext fun (a : Fin 3) => Fin.ext ?_)
  match a with
  | 0 => show (win0 T 1).index t 0 * 1 + 1 * 0 = e.val; rw [index1 T t hb]; show (expertOf T.1 (blockAt T t)).toNat * 1 + 1 * 0 = e.val; omega
  | 1 => show (win0 T 1).index t 1 * 1024 + 1 * k.val = k.val; rw [index1 T t hb]; show 0 * 1024 + 1 * k.val = k.val; omega
  | 2 => show (win0 T 1).index t 2 * 512 + 1 * f.val = t.val % 7 * 512 + f.val; rw [index1 T t hb]; show t.val % 7 * 512 + 1 * f.val = t.val % 7 * 512 + f.val; omega

/-- A chunk of the other half of it. -/
theorem block_up (t : Fin (cfg0 T).N) (hb : ((t.val / 7 : ℕ) : ℤ) ≤ (lastOf T.1).toInt)
    (e : Fin 8) (he : (expertOf T.1 (blockAt T t)).toNat = e.val) (k : Fin 1024) (f : Fin 512) :
    iblk m T c 2 t (ix3 (0 : Fin 1) k f) = V m c main_arg1 (ix3 e k (⟨3584 + (t.val % 7 * 512 + f.val), by omega⟩ : Fin 7168)) := by
  refine congrArg (V m c main_arg1) (funext fun (a : Fin 3) => Fin.ext ?_)
  match a with
  | 0 => show (win0 T 2).index t 0 * 1 + 1 * 0 = e.val; rw [index2 T t hb]; show (expertOf T.1 (blockAt T t)).toNat * 1 + 1 * 0 = e.val; omega
  | 1 => show (win0 T 2).index t 1 * 1024 + 1 * k.val = k.val; rw [index2 T t hb]; show 0 * 1024 + 1 * k.val = k.val; omega
  | 2 =>
    show (win0 T 2).index t 2 * 512 + 1 * f.val = 3584 + (t.val % 7 * 512 + f.val)
    rw [index2 T t hb]; show (t.val % 7 + 7) * 512 + 1 * f.val = 3584 + (t.val % 7 * 512 + f.val); omega

/-- A chunk of the expert's second weight. -/
theorem block_down (t : Fin (cfg0 T).N) (hb : ((t.val / 7 : ℕ) : ℤ) ≤ (lastOf T.1).toInt)
    (e : Fin 8) (he : (expertOf T.1 (blockAt T t)).toNat = e.val) (f : Fin 512) (l : Fin 1024) :
    iblk m T c 3 t (ix3 (0 : Fin 1) f l) = V m c main_arg2 (ix3 e (⟨t.val % 7 * 512 + f.val, by omega⟩ : Fin 3584) l) := by
  refine congrArg (V m c main_arg2) (funext fun (a : Fin 3) => Fin.ext ?_)
  match a with
  | 0 => show (win0 T 3).index t 0 * 1 + 1 * 0 = e.val; rw [index3 T t hb]; show (expertOf T.1 (blockAt T t)).toNat * 1 + 1 * 0 = e.val; omega
  | 1 => show (win0 T 3).index t 1 * 512 + 1 * f.val = t.val % 7 * 512 + f.val; rw [index3 T t hb]; show t.val % 7 * 512 + 1 * f.val = t.val % 7 * 512 + f.val; omega
  | 2 => show (win0 T 3).index t 2 * 1024 + 1 * l.val = l.val; rw [index3 T t hb]; show 0 * 1024 + 1 * l.val = l.val; omega

end Cert.ExpertsIdeal.Hand

end
-- ==== Proof.ExpertsSweep.lean ====
/-
  The experts' sums swept over a block's chunks, and the rows they leave in the result.
-/
module

public import proofs.«01_k».proof.Proof.ExpertsBlocks
public import proofs.«01_k».proof.Proof.ExpertsSums

@[expose] public section

set_option maxRecDepth 16384

noncomputable section

namespace Cert.Proof.Experts

open Cert.ExpertsIdeal Cert.ExpertsIdeal.Gen Cert.ExpertsIdeal.Hand Idealize.ShloMosaic Idealize.ShloMosaic.TcCoe Idealize.SL.Sem
open Idealize.ShloMosaic.Pipeline (Dat Cfg Window)

/-- What hidden unit `f` of expert `e` adds to column `l` of row `r` of block `b`. -/
def term (X : IVec S4x73728x128 32) (W1 : Vec Ideal S8x1024x7168 .f32) (W2 : Vec Ideal S8x3584x1024 .f32) (nv : BitVec 32) (e : Fin 8) (b : Fin 72)
    (r l : Fin 1024) (f : Fin 3584) : EReal :=
  hidden (∑ k : Fin 1024, entry nv r (fun g l => X (ix3 g (⟨b.val * 1024 + r.val, by omega⟩ : Fin 73728) l)) k * W1 (ix3 e k (⟨f.val, by omega⟩ : Fin 7168)))
      (∑ k : Fin 1024, entry nv r (fun g l => X (ix3 g (⟨b.val * 1024 + r.val, by omega⟩ : Fin 73728) l)) k * W1 (ix3 e k (⟨3584 + f.val, by omega⟩ : Fin 7168)))
    * W2 (ix3 e f l)

/-- The same by a plain number, nothing past the last hidden unit. -/
def termAt (X : IVec S4x73728x128 32) (W1 : Vec Ideal S8x1024x7168 .f32) (W2 : Vec Ideal S8x3584x1024 .f32) (nv : BitVec 32) (e : Fin 8) (b : Fin 72)
    (r l : Fin 1024) (n : ℕ) : EReal :=
  if h : n < 3584 then term X W1 W2 nv e b r l ⟨n, h⟩ else 0

theorem chunk_eq (X : IVec S4x73728x128 32) (W1 : Vec Ideal S8x1024x7168 .f32) (W2 : Vec Ideal S8x3584x1024 .f32) (nv : BitVec 32) (e : Fin 8) (b : Fin 72)
    (r l : Fin 1024) (j : ℕ) (hj : j < 7) (M : Vec Ideal S1024x1024 .bf16) (G U : Vec Ideal S1x1024x512 .f32) (O : Vec Ideal S1x512x1024 .f32)
    (hM : ∀ k : Fin 1024, M (ix2 r k) = entry nv r (fun g l => X (ix3 g (⟨b.val * 1024 + r.val, by omega⟩ : Fin 73728) l)) k)
    (hG : ∀ (k : Fin 1024) (f : Fin 512), G (ix3 (0 : Fin 1) k f) = W1 (ix3 e k (⟨j * 512 + f.val, by omega⟩ : Fin 7168)))
    (hU : ∀ (k : Fin 1024) (f : Fin 512), U (ix3 (0 : Fin 1) k f) = W1 (ix3 e k (⟨3584 + (j * 512 + f.val), by omega⟩ : Fin 7168)))
    (hO : ∀ f : Fin 512, O (ix3 (0 : Fin 1) f l) = W2 (ix3 e (⟨j * 512 + f.val, by omega⟩ : Fin 3584) l)) :
    chunkTerms M G U O r l = ∑ x ∈ Finset.range 512, termAt X W1 W2 nv e b r l (512 * j + x) := by
  rw [Finset.sum_range]
  unfold chunkTerms
  refine Finset.sum_congr rfl fun f _ => ?_
  have hf : 512 * j + f.val = j * 512 + f.val := by omega
  unfold termAt
  rw [hf, dif_pos (show j * 512 + f.val < 3584 by omega)]
  unfold term
  simp only [hM, hG, hU, hO]

/-- A row past the count of valid rows is zero. -/
theorem entry_past (nv : BitVec 32) (r : Fin 1024) (w : Fin 4 → Fin 128 → BitVec 32) (k : Fin 1024) (hm : ¬ manyRows nv = 1#1) (hr : 512 ≤ r.val) :
    entry nv r w k = 0 := by
  have hnv : nv.toInt ≤ 512 := by
    have h := (fewRows_iff nv).2 hm
    have h2 : ∀ b : Bool, (Scalar.cmpi .ne (Scalar.extui (BitVec.ofBool b) : BitVec 32) 0#32 = 1#1) → b = true := by
      intro b; cases b <;> decide
    have h3 := h2 (decide (nv.toInt ≤ (512#32).toInt)) h
    have e : (512#32).toInt = 512 := rfl
    rw [decide_eq_true_eq, e] at h3
    exact h3
  unfold entry
  refine if_neg ?_
  show ¬ BitVec.ofBool (decide ((BitVec.ofNat 32 r.val).toInt < nv.toInt)) = 1#1
  have hrt : (BitVec.ofNat 32 r.val).toInt = r.val := by
    have := r.isLt
    rw [BitVec.toInt_eq_toNat_cond, BitVec.toNat_ofNat, if_pos (by omega)]
    omega
  rw [hrt, decide_eq_false (by omega)]
  decide

variable (m : (ℓ : Loc nD τ sig) → Buf (Elt Ideal) ℓ) (T : (pcfg0 (F := Ideal)).Adm) (c : Dev nD)

/-- One live point, spelled out. -/
theorem live (t : Fin (cfg0 T).N) (hb : ((t.val / 7 : ℕ) : ℤ) ≤ (lastOf T.1).toInt) :
    (held m T c (t.val + 1)).2.1 = openedRows (grid0.coords t) (validOf T.1 (blockAt T t)) (iblk m T c 0 t) (held m T c t.val).2.1
      ∧ (held m T c (t.val + 1)).1 = addedChunk (validOf T.1 (blockAt T t)) (held m T c (t.val + 1)).2.1 (iblk m T c 1 t) (iblk m T c 2 t) (iblk m T c 3 t) (openedSums (grid0.coords t) (held m T c t.val).1)
      ∧ (held m T c (t.val + 1)).2.2 = packedOut (grid0.coords t) (held m T c (t.val + 1)).1 (held m T c t.val).2.2 := by
  have h : held m T c (t.val + 1) = _ := (held_succ m T c t).trans (if_pos ((cond1_at T t).2 hb))
  rw [← blockOf_coords, h]
  exact ⟨rfl, rfl, rfl⟩

/-- The rows and the sums after `j + 1` of a block's chunks. -/
theorem swept (hl : 0 ≤ (lastOf T.1).toInt) (b : Fin 72) (hb : ((b.val : ℕ) : ℤ) ≤ (lastOf T.1).toInt) (e : Fin 8) (he : (expertOf T.1 b).toNat = e.val) :
    ∀ j : ℕ, j < 7 →
      (∀ r k : Fin 1024, (held m T c (7 * b.val + j + 1)).2.1 (ix2 r k)
        = entry (validOf T.1 b) r (fun g l => V m c main_arg0 (ix3 g (⟨b.val * 1024 + r.val, by omega⟩ : Fin 73728) l)) k)
      ∧ (∀ r l : Fin 1024, (held m T c (7 * b.val + j + 1)).1 (ix2 r l)
        = ∑ x ∈ Finset.range (512 * (j + 1)), termAt (V m c main_arg0) (V m c main_arg1) (V m c main_arg2) (validOf T.1 b) e b r l x) := by
  intro j
  have hN : (cfg0 T).N = 504 := N_0
  have hb72 := b.isLt
  -- what a point adds, once its rows and the sums before it are known
  have step : ∀ (j : ℕ) (hj : j < 7) (A : Vec Ideal S1024x1024 .f32), openedSums (grid0.coords (⟨7 * b.val + j, by omega⟩ : Fin (cfg0 T).N)) (held m T c (7 * b.val + j)).1 = A →
      (∀ r l : Fin 1024, A (ix2 r l) = ∑ x ∈ Finset.range (512 * j), termAt (V m c main_arg0) (V m c main_arg1) (V m c main_arg2) (validOf T.1 b) e b r l x) →
      (∀ r k : Fin 1024, (held m T c (7 * b.val + j + 1)).2.1 (ix2 r k)
        = entry (validOf T.1 b) r (fun g l => V m c main_arg0 (ix3 g (⟨b.val * 1024 + r.val, by omega⟩ : Fin 73728) l)) k) →
      ∀ r l : Fin 1024, (held m T c (7 * b.val + j + 1)).1 (ix2 r l)
        = ∑ x ∈ Finset.range (512 * (j + 1)), termAt (V m c main_arg0) (V m c main_arg1) (V m c main_arg2) (validOf T.1 b) e b r l x := by
    intro j hj A hA hsum hrows r l
    have htd : (7 * b.val + j) / 7 = b.val := by omega
    have htm : (7 * b.val + j) % 7 = j := by omega
    have hba : blockAt T ⟨7 * b.val + j, by omega⟩ = b := Fin.ext htd
    have hlive : (((⟨7 * b.val + j, by omega⟩ : Fin (cfg0 T).N).val / 7 : ℕ) : ℤ) ≤ (lastOf T.1).toInt := by rw [htd]; exact hb
    have hp := (live m T c ⟨7 * b.val + j, by omega⟩ hlive).2.1
    rw [hba, hA] at hp
    refine (congrFun hp (ix2 r l)).trans ?_
    refine (added_apply (validOf T.1 b) _ _ _ _ A r l (fun hm hr k => (hrows r k).trans (entry_past _ _ _ _ hm hr))).trans ?_
    rw [show 512 * (j + 1) = 512 * j + 512 by omega, Finset.sum_range_add]
    refine congrArg₂ (· + ·) (hsum r l) ?_
    refine chunk_eq (V m c main_arg0) (V m c main_arg1) (V m c main_arg2) (validOf T.1 b) e b r l j hj _ _ _ _ (fun k => hrows r k) (fun k f => ?_) (fun k f => ?_) (fun f => ?_)
    · refine (block_gate m T c ⟨7 * b.val + j, by omega⟩ hlive e (by rw [hba]; exact he) k f).trans ?_
      exact congrArg (fun i : Fin 7168 => V m c main_arg1 (ix3 e k i)) (Fin.ext (by show (7 * b.val + j) % 7 * 512 + f.val = j * 512 + f.val; rw [htm]))
    · refine (block_up m T c ⟨7 * b.val + j, by omega⟩ hlive e (by rw [hba]; exact he) k f).trans ?_
      exact congrArg (fun i : Fin 7168 => V m c main_arg1 (ix3 e k i)) (Fin.ext (by show 3584 + ((7 * b.val + j) % 7 * 512 + f.val) = 3584 + (j * 512 + f.val); rw [htm]))
    · refine (block_down m T c ⟨7 * b.val + j, by omega⟩ hlive e (by rw [hba]; exact he) f l).trans ?_
      exact congrArg (fun i : Fin 3584 => V m c main_arg2 (ix3 e i l)) (Fin.ext (by show (7 * b.val + j) % 7 * 512 + f.val = j * 512 + f.val; rw [htm]))
  induction j with
  | zero =>
    intro _
    have htd : (7 * b.val + 0) / 7 = b.val := by omega
    have hba : blockAt T ⟨7 * b.val + 0, by omega⟩ = b := Fin.ext htd
    have hlive : (((⟨7 * b.val + 0, by omega⟩ : Fin (cfg0 T).N).val / 7 : ℕ) : ℤ) ≤ (lastOf T.1).toInt := by rw [htd]; exact hb
    have h2 : k0_cond2 (grid0.coords (⟨7 * b.val + 0, by omega⟩ : Fin (cfg0 T).N)) = 1#1 := (cond2_at T _).2 (by show (7 * b.val + 0) % 7 = 0; omega)
    have hp := (live m T c ⟨7 * b.val + 0, by omega⟩ hlive).1
    rw [hba] at hp
    have hrows : ∀ r k : Fin 1024, (held m T c (7 * b.val + 0 + 1)).2.1 (ix2 r k)
        = entry (validOf T.1 b) r (fun g l => V m c main_arg0 (ix3 g (⟨b.val * 1024 + r.val, by omega⟩ : Fin 73728) l)) k := by
      intro r k
      refine (congrFun hp (ix2 r k)).trans ?_
      refine (opened_rows_apply _ _ _ _ r k h2).trans ?_
      refine congrArg (fun w => entry (validOf T.1 b) r w k) (funext fun g => funext fun l => ?_)
      refine (block_words m T c hl ⟨7 * b.val + 0, by omega⟩ hlive g r l).trans ?_
      exact congrArg (fun i : Fin 73728 => V m c main_arg0 (ix3 g i l)) (Fin.ext (by show (7 * b.val + 0) / 7 * 1024 + r.val = b.val * 1024 + r.val; rw [htd]))
    refine ⟨hrows, step 0 (by omega) (k0_pay1 (F := Ideal)) (if_pos h2) (fun r l => ?_) hrows⟩
    rw [clear_apply, Finset.sum_range_zero]
  | succ j ih =>
    intro hj
    obtain ⟨ihr, ihs⟩ := ih (by omega)
    have htd : (7 * b.val + (j + 1)) / 7 = b.val := by omega
    have hba : blockAt T ⟨7 * b.val + (j + 1), by omega⟩ = b := Fin.ext htd
    have hlive : (((⟨7 * b.val + (j + 1), by omega⟩ : Fin (cfg0 T).N).val / 7 : ℕ) : ℤ) ≤ (lastOf T.1).toInt := by rw [htd]; exact hb
    have h2 : ¬ k0_cond2 (grid0.coords (⟨7 * b.val + (j + 1), by omega⟩ : Fin (cfg0 T).N)) = 1#1 := fun h => by
      have h' : (7 * b.val + (j + 1)) % 7 = 0 := (cond2_at T _).1 h
      omega
    have hp := (live m T c ⟨7 * b.val + (j + 1), by omega⟩ hlive).1
    have hrows : ∀ r k : Fin 1024, (held m T c (7 * b.val + (j + 1) + 1)).2.1 (ix2 r k)
        = entry (validOf T.1 b) r (fun g l => V m c main_arg0 (ix3 g (⟨b.val * 1024 + r.val, by omega⟩ : Fin 73728) l)) k :=
      fun r k => ((congrFun hp (ix2 r k)).trans (congrFun (if_neg h2) (ix2 r k))).trans (ihr r k)
    exact ⟨hrows, step (j + 1) hj _ (if_neg h2) ihs hrows⟩

/-- The output's buffer after a block's last chunk. -/
theorem finished (hl : 0 ≤ (lastOf T.1).toInt) (b : Fin 72) (hb : ((b.val : ℕ) : ℤ) ≤ (lastOf T.1).toInt) (e : Fin 8) (he : (expertOf T.1 b).toNat = e.val)
    (g : Fin 4) (p : Fin 2) (r : Fin 1024) (l : Fin 128) :
    (held m T c (7 * b.val + 7)).2.2 (ix4 g p r l)
      = ∑ f : Fin 3584, term (V m c main_arg0) (V m c main_arg1) (V m c main_arg2) (validOf T.1 b) e b r (column g p l) f := by
  have hN : (cfg0 T).N = 504 := N_0
  have hb72 := b.isLt
  have htd : (7 * b.val + 6) / 7 = b.val := by omega
  have hlive : (((⟨7 * b.val + 6, by omega⟩ : Fin (cfg0 T).N).val / 7 : ℕ) : ℤ) ≤ (lastOf T.1).toInt := by rw [htd]; exact hb
  have h5 : k0_cond5 (grid0.coords (⟨7 * b.val + 6, by omega⟩ : Fin (cfg0 T).N)) = 1#1 := (cond5_at T _).2 (by show (7 * b.val + 6) % 7 = 6; omega)
  have hp := (live m T c ⟨7 * b.val + 6, by omega⟩ hlive).2.2.trans (packedOut_last _ _ _ h5)
  refine (congrFun hp (ix4 g p r l)).trans ((pack_apply _ g p r l).trans ?_)
  refine ((swept m T c hl b hb e he 6 (by omega)).2 r (column g p l)).trans ?_
  rw [show 512 * (6 + 1) = 3584 from rfl, Finset.sum_range]
  exact Finset.sum_congr rfl fun f _ => dif_pos f.isLt

/-- Past the last block nothing changes. -/
theorem stays (hl : 0 ≤ (lastOf T.1).toInt) : ∀ n : ℕ, held m T c (7 * (lastOf T.1).toNat + 7 + n) = held m T c (7 * (lastOf T.1).toNat + 7)
  | 0 => rfl
  | n + 1 => by
    have hw := toInt_toNat _ hl
    refine Eq.trans ?_ (stays hl n)
    by_cases h : 7 * (lastOf T.1).toNat + 7 + n < (cfg0 T).N
    · refine (held_succ m T c ⟨7 * (lastOf T.1).toNat + 7 + n, h⟩).trans (stepAt_idle m T c _ _ fun h1 => ?_)
      have h2 : (((7 * (lastOf T.1).toNat + 7 + n) / 7 : ℕ) : ℤ) ≤ (lastOf T.1).toInt := (cond1_at T _).1 h1
      omega
    · show held m T c ((7 * (lastOf T.1).toNat + 7 + n) + 1) = _
      rw [held, dif_neg h]

/-- The result's rows, block by block. -/
def rowsOut : S4x2x73728x128.Idx → EReal := fun i =>
  (held m T c (7 * ((i 2 : Fin 73728).val / 1024) + 7)).2.2 (ix4 (i 0 : Fin 4) (i 1 : Fin 2) (⟨(i 2 : Fin 73728).val % 1024, by omega⟩ : Fin 1024) (i 3 : Fin 128))

theorem rowsOut_apply (i : S4x2x73728x128.Idx) (q : ℕ) (y : S4x2x1024x128.Idx) (h0 : (i 0).val = (y 0).val) (h1 : (i 1).val = (y 1).val)
    (h2 : (i 2).val = q * 1024 + (y 2).val) (h3 : (i 3).val = (y 3).val) : rowsOut m T c i = (held m T c (7 * q + 7)).2.2 y := by
  have hy2 : (y 2).val < 1024 := (y 2).isLt
  have hd : (i 2).val / 1024 = q := by omega
  unfold rowsOut
  rw [hd]
  refine congrArg (held m T c (7 * q + 7)).2.2 (funext fun (a : Fin 4) => Fin.ext ?_)
  match a with
  | 0 => exact h0
  | 1 => exact h1
  | 2 => show (i 2).val % 1024 = (y 2).val; omega
  | 3 => exact h3

theorem flushed_eq (hl : 0 ≤ (lastOf T.1).toInt) (t : Fin (cfg0 T).N) (hf : (win0 T 4).flush t = true) :
    (dats m T 0 c).flushed 4 t = ((win0 T 4).blk t).view.read (Elt Ideal) (rowsOut m T c) := by
  have hw := toInt_toNat _ hl
  have ht := point_lt T t
  have hq : held m T c (t.val + 1) = held m T c (7 * (min (t.val / 7) (lastOf T.1).toNat) + 7) := by
    rcases (flush4 T hl t).1 hf with h | ⟨h6, hlt⟩
    · by_cases h71 : (lastOf T.1).toNat ≤ 71
      · have e := stays m T c hl (504 - (7 * (lastOf T.1).toNat + 7))
        rw [show 7 * (lastOf T.1).toNat + 7 + (504 - (7 * (lastOf T.1).toNat + 7)) = t.val + 1 by omega] at e
        rw [e, show min (t.val / 7) (lastOf T.1).toNat = (lastOf T.1).toNat by omega]
      · rw [show 7 * min (t.val / 7) (lastOf T.1).toNat + 7 = t.val + 1 by omega]
    · rw [show 7 * min (t.val / 7) (lastOf T.1).toNat + 7 = t.val + 1 by omega]
  funext y
  have hy : ∀ y : S4x2x1024x128.Idx, (held m T c (t.val + 1)).2.2 y = ((win0 T 4).blk t).view.read (Elt Ideal) (rowsOut m T c) y := by
    intro y
    rw [hq]
    symm
    have hi := index4 T hl t
    refine rowsOut_apply m T c _ (min (t.val / 7) (lastOf T.1).toNat) _ ?_ ?_ ?_ ?_
    · show (win0 T 4).index t 0 * 4 + 1 * (y 0).val = _
      rw [hi]; show 0 * 4 + 1 * (y 0).val = _; omega
    · show (win0 T 4).index t 1 * 2 + 1 * (y 1).val = _
      rw [hi]; show 0 * 2 + 1 * (y 1).val = _; omega
    · show (win0 T 4).index t 2 * 1024 + 1 * (y 2).val = _
      rw [hi]; show min (t.val / 7) (lastOf T.1).toNat * 1024 + 1 * (y 2).val = _; omega
    · show (win0 T 4).index t 3 * 128 + 1 * (y 3).val = _
      rw [hi]; show 0 * 128 + 1 * (y 3).val = _; omega
  exact hy y

end Cert.Proof.Experts

end
-- ==== Proof.ExpertsValue.lean ====
/-
  The experts' result and the reference's: at every row of a block that the count of blocks reaches, one sum.
-/
module

public import proofs.«01_k».proof.Proof.ExpertsSweep
public import proofs.«01_k».proof.Proof.ExpertsTables
public import proofs.«01_k».proof.Proof.ExpertsReference

@[expose] public section

set_option maxRecDepth 16384

noncomputable section

namespace Cert.Proof.Experts

open Cert.ExpertsIdeal Cert.ExpertsIdeal.Gen Idealize.ShloMosaic Idealize.ShloMosaic.TcCoe Idealize.SL.Sem

/-- A block's expert as a number below eight. -/
def expert (w : BitVec 32) : Fin 8 := ⟨min w.toNat 7, by omega⟩

/-- The result at column `l` of half `p` of group `g` of row `n`. -/
def result (X : IVec S4x73728x128 32) (W1 : Vec Ideal S8x1024x7168 .f32) (W2 : Vec Ideal S8x3584x1024 .f32) (E N : IVec S72 32)
    (g : Fin 4) (p : Fin 2) (n : Fin 73728) (l : Fin 128) : EReal :=
  ∑ f : Fin 3584, term X W1 W2 (N (ix1 (⟨n.val / 1024, by omega⟩ : Fin 72))) (expert (E (ix1 (⟨n.val / 1024, by omega⟩ : Fin 72)))) (⟨n.val / 1024, by omega⟩ : Fin 72)
    (⟨n.val % 1024, by omega⟩ : Fin 1024) (column g p l) f

/-! ## The reference -/

theorem reference_apply (X : IVec S4x73728x128 32) (W1 : Vec Ideal S8x1024x7168 .f32) (W2 : Vec Ideal S8x3584x1024 .f32) (E N : IVec S72 32)
    (g : Fin 4) (p : Fin 2) (n : Fin 73728) (l : Fin 128) (h0 : 0 ≤ (E (ix1 (⟨n.val / 1024, by omega⟩ : Fin 72))).toInt)
    (h8 : (E (ix1 (⟨n.val / 1024, by omega⟩ : Fin 72))).toInt < 8) :
    resultTerm (rowsTerm (F := Ideal) X N) (Host.gather Cert.ExpertsReferenceIdeal.gather_S8x1024x7168_S72x3_S72x1x1024x7168_123_n_n_n_012_1_110247168 W1 (starts1 E))
      (Host.gather Cert.ExpertsReferenceIdeal.gather_S8x3584x1024_S72x3_S72x1x3584x1024_123_n_n_n_012_1_135841024 W2 (starts2 E)) (ix4 g p n l)
      = result X W1 W2 E N g p n l := by
  have hc : (⟨p.val * 512 + g.val * 128 + l.val, by omega⟩ : Fin 1024) = column g p l := Fin.ext (by show p.val * 512 + g.val * 128 + l.val = 512 * p.val + 128 * g.val + l.val; omega)
  have ht := Hand.toInt_toNat _ h0
  have he : (E (ix1 (⟨n.val / 1024, by omega⟩ : Fin 72))).toInt.toNat = (expert (E (ix1 (⟨n.val / 1024, by omega⟩ : Fin 72)))).val := by
    show _ = min _ 7
    omega
  have hg1 := fun k f => gather1_apply W1 (starts1 E) (⟨n.val / 1024, by omega⟩ : Fin 72) k f _ ((congrArg (fun w : BitVec 32 => w.toInt.toNat) (starts1_expert E _ h0)).trans he) (starts1_row E _) (starts1_column E _)
  have hg2 := fun k f => gather2_apply W2 (starts2 E) (⟨n.val / 1024, by omega⟩ : Fin 72) k f _ ((congrArg (fun w : BitVec 32 => w.toInt.toNat) (starts2_expert E _ h0)).trans he) (starts2_row E _) (starts2_column E _)
  rw [resultTerm_apply]
  unfold result term
  refine Finset.sum_congr rfl fun f _ => ?_
  rw [hc]
  simp only [hg1, hg2, rowsTerm_apply]

/-! ## The kernel -/

section

open Cert.ExpertsIdeal Cert.ExpertsIdeal.Gen Cert.ExpertsIdeal.Hand

variable (m : (ℓ : Loc nD τ sig) → Buf (Elt Ideal) ℓ) (T : (pcfg0 (F := Ideal)).Adm) (c : Dev nD)

/-- The array the launch leaves, at a row of a block that the count of blocks reaches. -/
theorem array_apply (hl : 0 ≤ (lastOf T.1).toInt) (g : Fin 4) (p : Fin 2) (n : Fin 73728) (l : Fin 128)
    (hb : ((n.val / 1024 : ℕ) : ℤ) ≤ (lastOf T.1).toInt) :
    (dats m T 0 c).arrAt 4 (cfg0 T).N (ix4 g p n l) = rowsOut m T c (ix4 g p n l) := by
  have hN : (cfg0 T).N = 504 := N_0
  have hw := toInt_toNat _ hl
  have hn := n.isLt
  obtain ⟨t, hf, hq⟩ : ∃ t : Fin (cfg0 T).N, (win0 T 4).flush t = true ∧ min (t.val / 7) (lastOf T.1).toNat = n.val / 1024 := by
    by_cases h : n.val / 1024 < (lastOf T.1).toNat
    · refine ⟨⟨7 * (n.val / 1024) + 6, by omega⟩, (flush4 T hl _).2 (.inr ⟨?_, ?_⟩), ?_⟩
      · show (7 * (n.val / 1024) + 6) % 7 = 6; omega
      · show (7 * (n.val / 1024) + 6) / 7 < _; omega
      · show min ((7 * (n.val / 1024) + 6) / 7) _ = _; omega
    · refine ⟨⟨503, by omega⟩, (flush4 T hl _).2 (.inl rfl), ?_⟩
      show min (503 / 7) _ = _; omega
  have hmem : (ix4 g p n l : S4x2x73728x128.Idx) = ((win0 T 4).blk t).view.emb (ix4 g p (⟨n.val % 1024, by omega⟩ : Fin 1024) l : S4x2x1024x128.Idx) := by
    have hi := index4 T hl t
    refine funext fun (a : Fin 4) => Fin.ext ?_
    match a with
    | 0 =>
      show g.val = (win0 T 4).index t 0 * 4 + 1 * g.val
      rw [hi]; show _ = 0 * 4 + 1 * g.val; omega
    | 1 =>
      show p.val = (win0 T 4).index t 1 * 2 + 1 * p.val
      rw [hi]; show _ = 0 * 2 + 1 * p.val; omega
    | 2 =>
      show n.val = (win0 T 4).index t 2 * 1024 + 1 * (n.val % 1024)
      rw [hi]; show _ = min (t.val / 7) (lastOf T.1).toNat * 1024 + 1 * (n.val % 1024); rw [hq]; omega
    | 3 =>
      show l.val = (win0 T 4).index t 3 * 128 + 1 * l.val
      rw [hi]; show _ = 0 * 128 + 1 * l.val; omega
  refine (dats m T 0 c).arrAt_apply_of_mem 4 (rowsOut m T c) (fun t hf => flushed_eq m T c hl t hf) (cfg0 T).N t (ix4 g p n l) t.isLt hf ?_
  exact hmem ▸ View.emb_mem_set _ _

/-- What the launch leaves at such a row. -/
theorem kernel_apply (h : InRange (m (((0 : Dev nD).tc : Thread nD τ).loc main_arg3) : IVec S72 32) (m (((0 : Dev nD).tc : Thread nD τ).loc main_arg5)))
    (hT : T.1 = tables m) (g : Fin 4) (p : Fin 2) (n : Fin 73728) (l : Fin 128)
    (hb : ((n.val / 1024 : ℕ) : ℤ) ≤ ((m (((0 : Dev nD).tc : Thread nD τ).loc main_arg5) : IVec S1 32) (ix1 (0 : Fin 1))).toInt) :
    (dats m T 0 c).arrAt 4 (cfg0 T).N (ix4 g p n l)
      = result (V m c main_arg0) (V m c main_arg1) (V m c main_arg2) (m (((0 : Dev nD).tc : Thread nD τ).loc main_arg3)) (m (((0 : Dev nD).tc : Thread nD τ).loc main_arg4)) g p n l := by
  have hl : 0 ≤ (lastOf T.1).toInt := by rw [hT]; exact (tables_ok m h).1
  have hw := toInt_toNat _ hl
  have hb' : ((n.val / 1024 : ℕ) : ℤ) ≤ (lastOf T.1).toInt := by rw [hT, last_tables]; exact hb
  have hr := h.2 (⟨n.val / 1024, by omega⟩ : Fin 72) hb
  have hrw := toInt_toNat _ hr.1
  have hv := valid_tables m (⟨n.val / 1024, by omega⟩ : Fin 72)
  have he := expert_tables m (⟨n.val / 1024, by omega⟩ : Fin 72) (⟨n.val / 1024, by omega⟩ : Fin 72) (hT ▸ hl) (by rw [hT] at hb' hw; show min (n.val / 1024) _ = n.val / 1024; omega)
  rw [← hT] at hv he
  refine (array_apply m T c hl g p n l hb').trans ?_
  refine (finished m T c hl (⟨n.val / 1024, by omega⟩ : Fin 72) hb' (expert ((m (((0 : Dev nD).tc : Thread nD τ).loc main_arg3) : IVec S72 32) (ix1 (⟨n.val / 1024, by omega⟩ : Fin 72)))) ?_ g p (⟨n.val % 1024, by omega⟩ : Fin 1024) l).trans ?_
  · rw [he]; show _ = min _ 7; omega
  · rw [hv]; rfl

/-- The run: the result's array as the launch leaves it, and the arguments as they were. -/
theorem run (ρ : Dev nD → PrngReg) (hT : T.1 = tables m) (hl : 0 ≤ (lastOf T.1).toInt) :
    θ_run defs (onTc (τ := τ) (main (F := Ideal))) ⟨m, fun _ => 0, ρ⟩ (fun r => ∀ c : Dev nD,
      r.2.mem ((c.tc : Thread nD τ).loc main_v11) = (dats m T 0 c).arrAt 4 (cfg0 T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 4,
      ((h.1 c).1 0).trans (((dats m T 0 c).arrAt_in 0 rfl _).trans ((A_eq m T c 0).trans (V_main_arg0 m c))),
      ((h.1 c).1 1).trans (((dats m T 0 c).arrAt_in 1 rfl _).trans ((A_eq m T c 1).trans (V_main_arg1 m c))),
      ((h.1 c).1 3).trans (((dats m T 0 c).arrAt_in 3 rfl _).trans ((A_eq m T c 3).trans (V_main_arg2 m c))),
      ((h.1 c).2 main_arg3 (Pipeline.mem_restRefs_of main_arg3 (by decide) notArray3)).trans (V_main_arg3 m c),
      ((h.1 c).2 main_arg4 (Pipeline.mem_restRefs_of main_arg4 (by decide) notArray4)).trans (V_main_arg4 m c),
      ((h.1 c).2 main_arg5 (Pipeline.mem_restRefs_of main_arg5 (by decide) notArray5)).trans (V_main_arg5 m c)⟩)
    (run_main m ρ T hT hl)

/-- The result's array of a memory whose blocks are in range. -/
def left (h : InRange (m (((0 : Dev nD).tc : Thread nD τ).loc main_arg3) : IVec S72 32) (m (((0 : Dev nD).tc : Thread nD τ).loc main_arg5))) (c : Dev nD) :
    Buf (Elt Ideal) ((c.tc : Thread nD τ).loc main_v11) := (dats m (admitted m h) 0 c).arrAt 4 (cfg0 (admitted m h)).N

theorem run_left (ρ : Dev nD → PrngReg)
    (h : InRange (m (((0 : Dev nD).tc : Thread nD τ).loc main_arg3) : IVec S72 32) (m (((0 : Dev nD).tc : Thread nD τ).loc main_arg5))) :
    θ_run defs (onTc (τ := τ) (main (F := Ideal))) ⟨m, fun _ => 0, ρ⟩ (fun r => ∀ c : Dev nD,
      r.2.mem ((c.tc : Thread nD τ).loc main_v11) = left m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run m (admitted m h) ρ rfl (tables_ok m h).1

/-- It is the reference's, at every row of a block that the count of blocks reaches. -/
theorem left_eq (h : InRange (m (((0 : Dev nD).tc : Thread nD τ).loc main_arg3) : IVec S72 32) (m (((0 : Dev nD).tc : Thread nD τ).loc main_arg5)))
    (X : IVec S4x73728x128 32) (W1 : Vec Ideal S8x1024x7168 .f32) (W2 : Vec Ideal S8x3584x1024 .f32) (E N : IVec S72 32) (L : IVec S1 32)
    (hX : m (((0 : Dev nD).tc : Thread nD τ).loc main_arg0) = X) (hW1 : m (((0 : Dev nD).tc : Thread nD τ).loc main_arg1) = W1)
    (hW2 : m (((0 : Dev nD).tc : Thread nD τ).loc main_arg2) = W2) (hE : m (((0 : Dev nD).tc : Thread nD τ).loc main_arg3) = E)
    (hN : m (((0 : Dev nD).tc : Thread nD τ).loc main_arg4) = N) (hL : m (((0 : Dev nD).tc : Thread nD τ).loc main_arg5) = L)
    (i : S4x2x73728x128.Idx) (hi : Cert.On_rows_of_blocks.fn (F := Ideal) X W1 W2 E N L i = 1#1) :
    resultTerm (rowsTerm (F := Ideal) X N) (Host.gather Cert.ExpertsReferenceIdeal.gather_S8x1024x7168_S72x3_S72x1x1024x7168_123_n_n_n_012_1_110247168 W1 (starts1 E))
      (Host.gather Cert.ExpertsReferenceIdeal.gather_S8x3584x1024_S72x3_S72x1x3584x1024_123_n_n_n_012_1_135841024 W2 (starts2 E)) i
      = left m h 0 i := by
  subst hX hW1 hW2 hE hN hL
  obtain ⟨g, p, n, l, rfl⟩ : ∃ (g : Fin 4) (p : Fin 2) (n : Fin 73728) (l : Fin 128), i = ix4 g p n l := ⟨i 0, i 1, i 2, i 3, (ix4_eta i).symm⟩
  have hb := block_of_on (F := Ideal) _ _ _ _ _ _ g p n l hi
  have he := h.2 ⟨n.val / 1024, by omega⟩ hb
  refine (reference_apply _ _ _ _ _ g p n l he.1 he.2).trans ?_
  symm
  refine (kernel_apply m (admitted m h) 0 h rfl g p n l hb).trans ?_
  rw [V_main_arg0, V_main_arg1, V_main_arg2]

end

end Cert.Proof.Experts

end
-- ==== Proof.CombinePoint.lean ====
/-
  One point of the last call, over the extended reals: a row's two experts' rows, unpacked, each times its gate, their sum
  gated again and added to the residual.
-/
module

public import proofs.«01_k».proof.Proof.Gen.CombineIdeal.Value
public import proofs.«01_k».proof.Proof.ExpertsSums
public import Idealize.ShloMosaic.Lib.Pointwise

@[expose] public section

set_option maxRecDepth 16384

noncomputable section

namespace Cert.Proof.Combine

open Cert.CombineIdeal Cert.CombineIdeal.Gen Idealize.ShloMosaic
open Cert.Proof.Experts (element shifted four canon_of_all)

/-- The entry as a point reads it, the low halves of four words' lanes and then the high ones. -/
theorem element_of (w : Fin 4 → Fin 128 → BitVec 32) (k : Fin 1024) (a : k.val < 512 → EReal) (b : ¬ k.val < 512 → EReal)
    (ha : ∀ h, a h = Ideal.ofBits .f32 (w ⟨k.val / 128, by omega⟩ ⟨k.val % 128, by omega⟩ <<< 16))
    (hb : ∀ h, b h = Ideal.ofBits .f32 (w ⟨(k.val - 512) / 128, by omega⟩ ⟨(k.val - 512) % 128, by omega⟩ &&& 4294901760#32)) :
    (if h : k.val < 512 then a h else b h) = element w k := by
  unfold element
  by_cases h : k.val < 512
  · rw [dif_pos h, dif_pos h]; exact ha h
  · rw [dif_neg h, dif_neg h, hb h]
    exact congrArg (fun l : Fin 128 => Ideal.ofBits .f32 (w ⟨(k.val - 512) / 128, by omega⟩ l &&& 4294901760#32)) (Fin.ext (by show (k.val - 512) % 128 = k.val % 128; omega))

theorem first_apply (a b c d : Vec Ideal S1x1x1024x128 .i32) (r k : Fin 1024) :
    k0_pay2 (F := Ideal) a b c d (ix2 r k)
      = element (fun g l => (![a, b, c, d] g) (ix4 (0 : Fin 1) (0 : Fin 1) r l)) k := by
  have e := fun (j : ℕ) (hj : j < 512) => four (fun g l => (![a, b, c, d] g) (ix4 (0 : Fin 1) (0 : Fin 1) r l)) j hj
  pointwise [k0_pay2]
  refine element_of _ k _ _ (fun h => ?_) (fun h => ?_)
  · rw [shifted]
    exact congrArg (fun w : BitVec 32 => Ideal.ofBits .f32 (w <<< 16)) (e k.val h)
  · exact congrArg (fun w : BitVec 32 => Ideal.ofBits .f32 (w &&& 4294901760#32)) (e (k.val - 512) (by omega))

theorem point_apply (R : Vec Ideal S1024x128 .f32) (y : FVec Ideal S1024x1024 .bf16) (a b c d : Vec Ideal S1x1x1024x128 .i32)
    (X : Vec Ideal S1024x1024 .f32) (M : Vec Ideal S1x6x1024 .f32) (r k : Fin 1024) :
    k0_pay1 (F := Ideal) R y (k0_pay3 a) (k0_pay4 b) (k0_pay5 c) d X M (ix2 r k)
      = X (ix2 r k) + M (ix3 (0 : Fin 1) (5 : Fin 6) k) * (R (ix2 r (2 : Fin 128)) * y (ix2 r k)
          + R (ix2 r (3 : Fin 128)) * element (fun g l => (![a, b, c, d] g) (ix4 (0 : Fin 1) (0 : Fin 1) r l)) k) := by
  have e := fun (j : ℕ) (hj : j < 512) => four (fun g l => (![a, b, c, d] g) (ix4 (0 : Fin 1) (0 : Fin 1) r l)) j hj
  pointwise [k0_pay1, k0_pay3, k0_pay4, k0_pay5]
  refine congrArg (fun z : EReal => X (ix2 r k) + M (ix3 (0 : Fin 1) (5 : Fin 6) k) * (R (ix2 r (2 : Fin 128)) * y (ix2 r k) + R (ix2 r (3 : Fin 128)) * z)) ?_
  refine element_of _ k _ _ (fun h => ?_) (fun h => ?_)
  · rw [shifted]
    exact congrArg (fun w : BitVec 32 => Ideal.ofBits .f32 (w <<< 16)) (e k.val h)
  · exact congrArg (fun w : BitVec 32 => Ideal.ofBits .f32 (w &&& 4294901760#32)) (e (k.val - 512) (by omega))

/-- What a point leaves in the output's buffer. -/
theorem out_apply (X : Vec Ideal S1024x1024 .f32) (Y Z : Vec Ideal S1x4x1024x128 .i32) (R : Vec Ideal S1024x128 .f32)
    (M : Vec Ideal S1x6x1024 .f32) (r k : Fin 1024) :
    out0_5 (F := Ideal) X Y Z R M (ix2 r k)
      = X (ix2 r k) + M (ix3 (0 : Fin 1) (5 : Fin 6) k) * (R (ix2 r (2 : Fin 128)) * element (fun g l => Y (ix4 (0 : Fin 1) g r l)) k
          + R (ix2 r (3 : Fin 128)) * element (fun g l => Z (ix4 (0 : Fin 1) g r l)) k) := by
  have hz2 : (![0, 0] : Fin 2 → ℕ) = fun _ => 0 := by decide
  have hz3 : (![0, 0, 0] : Fin 3 → ℕ) = fun _ => 0 := by decide
  have grp : ∀ W : Vec Ideal S1x4x1024x128 .i32, (fun (g : Fin 4) (l : Fin 128) => (![View.ld W r0_1, View.ld W r0_2, View.ld W r0_3, View.ld W r0_4] g) (ix4 (0 : Fin 1) (0 : Fin 1) r l))
      = fun g l => W (ix4 (0 : Fin 1) g r l) := by
    intro W
    funext g l
    match g with
    | 0 => exact congrArg W (funext fun a => Fin.ext (by match a with | 0 => rfl | 1 => rfl | 2 => show 0 + 1 * r.val = r.val; omega | 3 => show 0 + 1 * l.val = l.val; omega))
    | 1 => exact congrArg W (funext fun a => Fin.ext (by match a with | 0 => rfl | 1 => rfl | 2 => show 0 + 1 * r.val = r.val; omega | 3 => show 0 + 1 * l.val = l.val; omega))
    | 2 => exact congrArg W (funext fun a => Fin.ext (by match a with | 0 => rfl | 1 => rfl | 2 => show 0 + 1 * r.val = r.val; omega | 3 => show 0 + 1 * l.val = l.val; omega))
    | 3 => exact congrArg W (funext fun a => Fin.ext (by match a with | 0 => rfl | 1 => rfl | 2 => show 0 + 1 * r.val = r.val; omega | 3 => show 0 + 1 * l.val = l.val; omega))
  unfold out0_5
  rw [View.canon_unit_zero (S := S1024x1024) hz2, point_apply, first_apply, grp Y, grp Z,
    View.ld_unit_zero (S := S1024x1024) hz2, View.ld_unit_zero (S := S1024x128) hz2, View.ld_unit_zero (S := S1x6x1024) hz3]

end Cert.Proof.Combine

end
-- ==== Proof.CombineReference.lean ====
/-
  What the last call's reference returns, read at an index over the extended reals.
-/
module

public import proofs.«01_k».proof.Proof.Gen.CombineReferenceIdeal.Run
public import proofs.«01_k».proof.Proof.ExpertsSums

@[expose] public section

set_option maxRecDepth 16384

noncomputable section

namespace Cert.Proof.Combine

open Cert.CombineReferenceIdeal Cert.CombineReferenceIdeal.Gen Idealize.ShloMosaic
open Cert.Proof.Experts (element shifted)

/-- Column `l` of token `n`: the residual plus the gate times the two experts' rows, each weighted. -/
def weighted (X : Vec Ideal S8x4096x1024 .f32) (Y : IVec S2x4x32768x128 32) (R : Vec Ideal S32768x128 .f32) (M : Vec Ideal S8x6x1024 .f32)
    (n : Fin 32768) (l : Fin 1024) : EReal :=
  X (ix3 (⟨n.val / 4096, by omega⟩ : Fin 8) (⟨n.val % 4096, by omega⟩ : Fin 4096) l)
    + M (ix3 (⟨n.val / 4096, by omega⟩ : Fin 8) (5 : Fin 6) l) * (R (ix2 n (2 : Fin 128)) * element (fun g a => Y (ix4 (0 : Fin 2) g n a)) l
      + R (ix2 n (3 : Fin 128)) * element (fun g a => Y (ix4 (1 : Fin 2) g n a)) l)

section
variable {F : FTy → Type} [FloatOps F]

/-- The experts' rows, unpacked. -/
def rowsTerm (Y : IVec S2x4x32768x128 32) : FVec F S2x32768x1024 .f32 :=
  shapeCast S2x32768x1024 (transpose S2x32768x2x4x128 [1, 3, 0, 2, 4] (concatenate S2x2x4x32768x128 0 [⟨S1x2x4x32768x128, (broadcastInDim S1x2x4x32768x128 ![1, 2, 3, 4] bcast_S2x4x32768x128_S1x2x4x32768x128_1_2_3_4 (bitcastToFloat (F := F) .f32 (Host.shli Y (broadcastInDim S2x4x32768x128 ![] bcast_S_S2x4x32768x128 (constantI S_ 32 16#32)))))⟩, ⟨S1x2x4x32768x128, (broadcastInDim S1x2x4x32768x128 ![1, 2, 3, 4] bcast_S2x4x32768x128_S1x2x4x32768x128_1_2_3_4 (bitcastToFloat (F := F) .f32 (andi Y (broadcastInDim S2x4x32768x128 ![] bcast_S_S2x4x32768x128 (constantI S_ 32 4294901760#32)))))⟩] concatenates_S1x2x4x32768x128_S1x2x4x32768x128_S2x2x4x32768x128_d0) transposes_S2x2x4x32768x128_S2x32768x2x4x128_1_3_0_2_4) shapeCasts_S2x32768x2x4x128_S2x32768x1024

/-- The reference's result out of the unpacked rows. -/
def resultTerm (X : FVec F S8x4096x1024 .f32) (Y : FVec F S2x32768x1024 .f32) (R : FVec F S32768x128 .f32) (M : FVec F S8x6x1024 .f32) : FVec F S32768x1024 .f32 :=
  shapeCast S32768x1024 (addf X (mulf (broadcastInDim S8x4096x1024 ![0, 1, 2] bcast_S8x1x1024_S8x4096x1024_0_1_2 (shapeCast S8x1x1024 (extractStridedSlice S8x1x1x1024 ![0, 5, 0, 0] (shapeCast S8x6x1x1024 M shapeCasts_S8x6x1024_S8x6x1x1024) slices_S8x6x1x1024_S8x1x1x1024_0_5_0_0) shapeCasts_S8x1x1x1024_S8x1x1024)) (shapeCast S8x4096x1024 (Host.reduceAdd (mulf Y (broadcastInDim S2x32768x1024 ![0, 1, 2] bcast_S2x32768x1_S2x32768x1024_0_1_2 (broadcastInDim S2x32768x1 ![0, 1] bcast_S2x32768_S2x32768x1_0_1 (transpose S2x32768 [1, 0] (extractStridedSlice S32768x2 ![0, 2] R slices_S32768x128_S32768x2_0_2) transposes_S32768x2_S2x32768_1_0)))) (constant S_ .f32 0x00000000#32) reducesTo_S2x32768x1024_S32768x1024_d0 h_S_) shapeCasts_S32768x1024_S8x4096x1024))) shapeCasts_S8x4096x1024_S32768x1024

end

theorem chosen {p q : Prop} [Decidable p] [Decidable q] (a : p → EReal) (b : ¬ p → EReal) (a' : q → EReal) (b' : ¬ q → EReal)
    (hpq : p ↔ q) (ha : ∀ h h', a h = a' h') (hb : ∀ h h', b h = b' h') : (if h : p then a h else b h) = if h : q then a' h else b' h := by
  by_cases hq : q
  · rw [dif_pos hq, dif_pos (hpq.2 hq)]
    exact ha _ _
  · rw [dif_neg hq, dif_neg (fun h => hq (hpq.1 h))]
    exact hb _ _

theorem rowsTerm_apply (Y : IVec S2x4x32768x128 32) (p : Fin 2) (n : Fin 32768) (k : Fin 1024) :
    rowsTerm (F := Ideal) Y (ix3 p n k) = element (fun g a => Y (ix4 p g n a)) k := by
  have low : ∀ (g g' : Fin 4) (w : Fin 4 → BitVec 32), g = g' → Ideal.ofBits .f32 (IntOp.shli .host (w g) 16#32) = Ideal.ofBits .f32 (w g' <<< 16) := by
    intro g g' w h; rw [h, shifted]
  have high : ∀ (g g' : Fin 4) (w : Fin 4 → BitVec 32), g = g' → Ideal.ofBits .f32 (IntOp.andi (w g) 4294901760#32) = Ideal.ofBits .f32 (w g' &&& 4294901760#32) := by
    intro g g' w h; rw [h]; rfl
  unfold element
  pointwise [rowsTerm]
  refine chosen _ _ _ _ (show k.val / 512 < 1 ↔ k.val < 512 by omega) (fun h h' => ?_) (fun h h' => ?_)
  · exact low _ _ (fun g => Y (ix4 p g n (⟨k.val % 128, by omega⟩ : Fin 128))) (Fin.ext (by show k.val / 128 % 4 = k.val / 128; omega))
  · exact high _ _ (fun g => Y (ix4 p g n (⟨k.val % 128, by omega⟩ : Fin 128))) (Fin.ext (by show k.val / 128 % 4 = (k.val - 512) / 128; omega))

theorem resultTerm_apply (X : Vec Ideal S8x4096x1024 .f32) (Y : Vec Ideal S2x32768x1024 .f32) (R : Vec Ideal S32768x128 .f32)
    (M : Vec Ideal S8x6x1024 .f32) (n : Fin 32768) (l : Fin 1024) :
    resultTerm (F := Ideal) X Y R M (ix2 n l)
      = X (ix3 (⟨n.val / 4096, by omega⟩ : Fin 8) (⟨n.val % 4096, by omega⟩ : Fin 4096) l)
        + M (ix3 (⟨n.val / 4096, by omega⟩ : Fin 8) (5 : Fin 6) l) * (∑ p : Fin 2, Y (ix3 p n l) * R (ix2 n (⟨2 + p.val, by omega⟩ : Fin 128))) := by
  pointwise [resultTerm]

theorem reference_apply (X : Vec Ideal S8x4096x1024 .f32) (Y : IVec S2x4x32768x128 32) (R : Vec Ideal S32768x128 .f32)
    (M : Vec Ideal S8x6x1024 .f32) (n : Fin 32768) (l : Fin 1024) :
    resultTerm (F := Ideal) X (rowsTerm Y) R M (ix2 n l) = weighted X Y R M n l := by
  rw [resultTerm_apply, Fin.sum_univ_two, rowsTerm_apply, rowsTerm_apply, mul_comm (element _ _), mul_comm (element _ _)]
  rfl

end Cert.Proof.Combine

end
-- ==== Proof.CombineValue.lean ====
/-
  What the last call leaves in its result, at an index over the extended reals: block `t` of the result is point `t`'s, whose
  blocks are rows of block `t` of the residual, of both slots of the experts' rows and of the gates, and the modulation of
  the block's batch.
-/
module

public import proofs.«01_k».proof.Proof.CombinePoint
public import proofs.«01_k».proof.Proof.CombineReference

@[expose] public section

set_option maxRecDepth 16384

noncomputable section

namespace Cert.Proof.Combine

open Cert.CombineIdeal Cert.CombineIdeal.Gen Idealize.ShloMosaic Idealize.ShloMosaic.TcCoe Idealize.SL.Sem
open Idealize.ShloMosaic.Pipeline (Dat)
open Cert.Proof.Experts (element)

theorem index0 : ∀ t : Fin cfg0.N, win0_0.index t 0 = t.val ∧ win0_0.index t 1 = 0 := by decide +kernel
theorem index1 : ∀ t : Fin cfg0.N, win0_1.index t 0 = 0 ∧ win0_1.index t 1 = 0 ∧ win0_1.index t 2 = t.val ∧ win0_1.index t 3 = 0 := by
  decide +kernel
theorem index2 : ∀ t : Fin cfg0.N, win0_2.index t 0 = 1 ∧ win0_2.index t 1 = 0 ∧ win0_2.index t 2 = t.val ∧ win0_2.index t 3 = 0 := by
  decide +kernel
theorem index3 : ∀ t : Fin cfg0.N, win0_3.index t 0 = t.val ∧ win0_3.index t 1 = 0 := by decide +kernel
theorem index4 : ∀ t : Fin cfg0.N, win0_4.index t 0 = t.val / 4 ∧ win0_4.index t 1 = 0 ∧ win0_4.index t 2 = 0 := by
  decide +kernel
theorem index5 : ∀ t : Fin cfg0.N, win0_5.index t 0 = t.val ∧ win0_5.index t 1 = 0 := by decide +kernel

theorem point_lt (t : Fin cfg0.N) : t.val < 32 := lt_of_lt_of_eq t.isLt (show cfg0.N = 32 from N_0)

variable (m : (ℓ : Loc nD τ sig) → Buf (Elt Ideal) ℓ) (c : Dev nD)

/-- The residual as rows. -/
theorem array_x : V m c main_v0 = shapeCast S32768x1024 (m ((c : Thread nD τ).loc main_arg0)) shapeCasts_S8x4096x1024_S32768x1024 := by
  show StableHlo.after hostOps0 _ _ = _
  simp only [hostOps0]
  after_results <;> rfl

theorem rows_apply {e : EltTy} (x : Vec Ideal S8x4096x1024 e) (n : Fin 32768) (l : Fin 1024) :
    shapeCast S32768x1024 x shapeCasts_S8x4096x1024_S32768x1024 (ix2 n l)
      = x (ix3 (⟨n.val / 4096, by omega⟩ : Fin 8) (⟨n.val % 4096, by omega⟩ : Fin 4096) l) := by
  pointwise

theorem block_x (t : Fin cfg0.N) (r l : Fin 1024) :
    iblk m c 0 t (ix2 r l) = V m c main_v0 (ix2 ⟨t.val * 1024 + r.val, by have := point_lt t; omega⟩ l) := by
  refine congrArg (V m c main_v0) (funext fun a => Fin.ext ?_)
  match a with
  | 0 => show win0_0.index t 0 * 1024 + 1 * r.val = t.val * 1024 + r.val; rw [(index0 t).1]; omega
  | 1 => show win0_0.index t 1 * 1024 + 1 * l.val = l.val; rw [(index0 t).2]; omega

/-- A block of the first expert's rows. -/
theorem block_y (t : Fin cfg0.N) (g : Fin 4) (r : Fin 1024) (l : Fin 128) :
    iblk m c 1 t (ix4 (0 : Fin 1) g r l) = V m c main_arg1 (ix4 (0 : Fin 2) g (⟨t.val * 1024 + r.val, by have := point_lt t; omega⟩ : Fin 32768) l) := by
  obtain ⟨h0, h1, h2, h3⟩ := index1 t
  refine congrArg (V m c main_arg1) (funext fun a => Fin.ext ?_)
  match a with
  | 0 => show win0_1.index t 0 * 1 + 1 * 0 = 0; omega
  | 1 => show win0_1.index t 1 * 4 + 1 * g.val = g.val; omega
  | 2 => show win0_1.index t 2 * 1024 + 1 * r.val = t.val * 1024 + r.val; omega
  | 3 => show win0_1.index t 3 * 128 + 1 * l.val = l.val; omega

/-- A block of the second expert's rows. -/
theorem block_z (t : Fin cfg0.N) (g : Fin 4) (r : Fin 1024) (l : Fin 128) :
    iblk m c 2 t (ix4 (0 : Fin 1) g r l) = V m c main_arg1 (ix4 (1 : Fin 2) g (⟨t.val * 1024 + r.val, by have := point_lt t; omega⟩ : Fin 32768) l) := by
  obtain ⟨h0, h1, h2, h3⟩ := index2 t
  refine congrArg (V m c main_arg1) (funext fun a => Fin.ext ?_)
  match a with
  | 0 => show win0_2.index t 0 * 1 + 1 * 0 = 1; omega
  | 1 => show win0_2.index t 1 * 4 + 1 * g.val = g.val; omega
  | 2 => show win0_2.index t 2 * 1024 + 1 * r.val = t.val * 1024 + r.val; omega
  | 3 => show win0_2.index t 3 * 128 + 1 * l.val = l.val; omega

/-- A block of the gates. -/
theorem block_route (t : Fin cfg0.N) (r : Fin 1024) (l : Fin 128) :
    iblk m c 3 t (ix2 r l) = V m c main_arg2 (ix2 (⟨t.val * 1024 + r.val, by have := point_lt t; omega⟩ : Fin 32768) l) := by
  refine congrArg (V m c main_arg2) (funext fun a => Fin.ext ?_)
  match a with
  | 0 => show win0_3.index t 0 * 1024 + 1 * r.val = t.val * 1024 + r.val; rw [(index3 t).1]; omega
  | 1 => show win0_3.index t 1 * 128 + 1 * l.val = l.val; rw [(index3 t).2]; omega

/-- The modulation of the block's batch. -/
theorem block_mod (t : Fin cfg0.N) (q : Fin 6) (l : Fin 1024) :
    iblk m c 4 t (ix3 (0 : Fin 1) q l) = V m c main_arg3 (ix3 (⟨t.val / 4, by have := point_lt t; omega⟩ : Fin 8) q l) := by
  obtain ⟨h0, h1, h2⟩ := index4 t
  refine congrArg (V m c main_arg3) (funext fun a => Fin.ext ?_)
  match a with
  | 0 => show win0_4.index t 0 * 1 + 1 * 0 = t.val / 4; omega
  | 1 => show win0_4.index t 1 * 6 + 1 * q.val = q.val; omega
  | 2 => show win0_4.index t 2 * 1024 + 1 * l.val = l.val; omega

/-- The result both programs leave. -/
def left (c : Dev nD) : Vec Ideal S32768x1024 .f32 := fun i =>
  weighted (m ((c : Thread nD τ).loc main_arg0)) (m ((c : Thread nD τ).loc main_arg1)) (m ((c : Thread nD τ).loc main_arg2))
    (m ((c : Thread nD τ).loc main_arg3)) (i 0) (i 1)

/-- What point `t` leaves in the output's buffer is block `t` of it. -/
theorem block_left (t : Fin cfg0.N) (r l : Fin 1024) :
    out0_5 (iblk m c 0 t) (iblk m c 1 t) (iblk m c 2 t) (iblk m c 3 t) (iblk m c 4 t) (ix2 r l)
      = left m c (ix2 (⟨t.val * 1024 + r.val, by have := point_lt t; omega⟩ : Fin 32768) l) := by
  have hq : t.val / 4 = (t.val * 1024 + r.val) / 4096 := by omega
  rw [out_apply]
  simp only [block_x, block_y, block_z, block_route, block_mod, hq]
  rw [array_x, rows_apply, V_main_arg1, V_main_arg2, V_main_arg3]
  rfl

/-- The array the call leaves. -/
theorem final : (dats m 0 c).arrAt 5 cfg0.N = left m c := by
  funext i
  have hn : (i 0).val < 32768 := (i 0).isLt
  have hl : (i 1).val < 1024 := (i 1).isLt
  have hN : cfg0.N = 32 := N_0
  have flushed : ∀ t : Fin cfg0.N, (cfg0.win 5).flush t = true → (dats m 0 c).flushed 5 t = ((cfg0.win 5).blk t).view.read (Elt Ideal) (left m c) := by
    intro t _
    rw [Cert.CombineIdeal.Value.flushed5]
    funext y
    have hy : y = ix2 (y 0 : Fin 1024) (y 1 : Fin 1024) := eq_ix2 y
    rw [hy]
    refine (block_left m c t (y 0) (y 1)).trans (congrArg (left m c) (funext fun a => Fin.ext ?_))
    match a with
    | 0 => show t.val * 1024 + (y 0).val = win0_5.index t 0 * 1024 + 1 * (y 0).val; rw [(index5 t).1]; omega
    | 1 => show (y 1).val = win0_5.index t 1 * 1024 + 1 * (y 1).val; rw [(index5 t).2]; omega
  let t : Fin cfg0.N := ⟨(i 0).val / 1024, by omega⟩
  have hmem : i = ((cfg0.win 5).blk t).view.emb (ix2 (⟨(i 0).val % 1024, by omega⟩ : Fin 1024) (⟨(i 1).val, hl⟩ : Fin 1024)) := by
    funext a
    apply Fin.ext
    match a with
    | 0 => show (i 0).val = win0_5.index t 0 * 1024 + 1 * ((i 0).val % 1024); rw [(index5 t).1]; show _ = (i 0).val / 1024 * 1024 + _; omega
    | 1 => show (i 1).val = win0_5.index t 1 * 1024 + 1 * (i 1).val; rw [(index5 t).2]; omega
  refine (dats m 0 c).arrAt_apply_of_mem 5 (left m c) flushed cfg0.N t i t.isLt (flush0_5 t) ?_
  rw [hmem]
  exact View.emb_mem_set _ _

end Cert.Proof.Combine

end
-- ==== Proof.MixOutReference.lean ====
/-
  What the output projection's reference returns, read at an index over the extended reals.
-/
module

public import proofs.«01_k».proof.Proof.Gen.MixOutReferenceIdeal.Run
public import Idealize.ShloMosaic.Lib.Pointwise

@[expose] public section

set_option maxRecDepth 16384

noncomputable section

namespace Cert.Proof.MixOut

open Cert.MixOutReferenceIdeal Cert.MixOutReferenceIdeal.Gen Idealize.ShloMosaic

/-- Column `l` of a token: the residual plus the gate times the three mixers' rows times their rows of the weight. -/
def mixed (x : EReal) (g : EReal) (a : Fin 512 → EReal) (b c : Fin 256 → EReal) (w : Fin 1024 → EReal) : EReal :=
  x + g * ((∑ k : Fin 512, a k * w ⟨k.val, by omega⟩) + (∑ k : Fin 256, b k * w ⟨512 + k.val, by omega⟩) + ∑ k : Fin 256, c k * w ⟨768 + k.val, by omega⟩)

/-- Column `l` of a token's row `z`, normalised, scaled and shifted. -/
def normed (z : Fin 1024 → EReal) (gain scale shift : EReal) (l : Fin 1024) : EReal :=
  z l * Ideal.rsqrt (Ideal.div (∑ k : Fin 1024, z k * z k) (Ideal.ofBits .f32 0x44800000#32) + Ideal.ofBits .f32 0x358637BD#32) * gain * (1 + scale) + shift

section
variable {F : FTy → Type} [FloatOps F]

/-- The reference's first result. -/
def midTerm (X : FVec F S8x4096x1024 .f32) (A : FVec F S8x4096x512 .bf16) (B C : FVec F S8x4096x256 .bf16) (W : FVec F S1024x1024 .f32) (M : FVec F S8x6x1024 .f32) : FVec F S8x4096x1024 .f32 :=
  addf X (mulf (broadcastInDim S8x4096x1024 ![0, 1, 2] bcast_S8x1x1024_S8x4096x1024_0_1_2 (shapeCast S8x1x1024 (extractStridedSlice S8x1x1x1024 ![0, 2, 0, 0] (shapeCast S8x6x1x1024 M shapeCasts_S8x6x1024_S8x6x1x1024) slices_S8x6x1x1024_S8x1x1x1024_0_2_0_0) shapeCasts_S8x1x1x1024_S8x1x1024)) (Host.dotGeneral dot_S8x4096x1024_S1024x1024_S8x4096x1024_2_0_01_1_n_n none (extf .f32 (concatenate S8x4096x1024 2 [⟨S8x4096x512, A⟩, ⟨S8x4096x256, B⟩, ⟨S8x4096x256, C⟩] concatenates_S8x4096x512_S8x4096x256_S8x4096x256_S8x4096x1024_d2) bitsLt_bf16_f32) W))

/-- Its second result, out of the first. -/
def normTerm (Z : FVec F S8x4096x1024 .f32) (M : FVec F S8x6x1024 .f32) (G : FVec F S1024 .f32) : FVec F S8x4096x1024 .bf16 :=
  truncf .bf16 (addf (mulf (mulf (mulf Z (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf Z Z) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 G))) (broadcastInDim S8x4096x1024 ![0, 1, 2] bcast_S8x1x1024_S8x4096x1024_0_1_2 (addf (broadcastInDim S8x1x1024 ![] bcast_S_S8x1x1024 (constant S_ .f32 0x3F800000#32)) (shapeCast S8x1x1024 (extractStridedSlice S8x1x1x1024 ![0, 4, 0, 0] (shapeCast S8x6x1x1024 M shapeCasts_S8x6x1024_S8x6x1x1024) slices_S8x6x1x1024_S8x1x1x1024_0_4_0_0) shapeCasts_S8x1x1x1024_S8x1x1024)))) (broadcastInDim S8x4096x1024 ![0, 1, 2] bcast_S8x1x1024_S8x4096x1024_0_1_2 (shapeCast S8x1x1024 (extractStridedSlice S8x1x1x1024 ![0, 3, 0, 0] (shapeCast S8x6x1x1024 M shapeCasts_S8x6x1024_S8x6x1x1024) slices_S8x6x1x1024_S8x1x1x1024_0_3_0_0) shapeCasts_S8x1x1x1024_S8x1x1024))) bitsLt_bf16_f32

end

/-- A sum over the concatenated columns, mixer by mixer. -/
theorem sum_three (f : Fin 1024 → EReal) :
    ∑ k, f k = (∑ k : Fin 512, f ⟨k.val, by omega⟩) + (∑ k : Fin 256, f ⟨512 + k.val, by omega⟩) + ∑ k : Fin 256, f ⟨768 + k.val, by omega⟩ :=
  (Fin.sum_univ_add (a := 768) (b := 256) f).trans
    (congrArg (fun s => s + ∑ k : Fin 256, f ⟨768 + k.val, by omega⟩) (Fin.sum_univ_add (a := 512) (b := 256) fun i => f (Fin.castAdd 256 i)))

theorem midTerm_apply (X : Vec Ideal S8x4096x1024 .f32) (A : Vec Ideal S8x4096x512 .bf16) (B C : Vec Ideal S8x4096x256 .bf16)
    (W : Vec Ideal S1024x1024 .f32) (M : Vec Ideal S8x6x1024 .f32) (b : Fin 8) (t : Fin 4096) (l : Fin 1024) :
    midTerm (F := Ideal) X A B C W M (ix3 b t l)
      = mixed (X (ix3 b t l)) (M (ix3 b (2 : Fin 6) l)) (fun k => A (ix3 b t k)) (fun k => B (ix3 b t k)) (fun k => C (ix3 b t k)) (fun k => W (ix2 k l)) := by
  unfold mixed
  pointwise [midTerm]
  refine congrArg (fun s => X (ix3 b t l) + M (ix3 b (2 : Fin 6) l) * s) ((sum_three _).trans ?_)
  refine congrArg₂ (· + ·) (congrArg₂ (· + ·) (Finset.sum_congr rfl fun k _ => ?_) (Finset.sum_congr rfl fun k _ => ?_)) (Finset.sum_congr rfl fun k _ => ?_)
  · show (if h : k.val < 512 then _ else _) * _ = _
    rw [dif_pos k.isLt]
  · show (if h : 512 + k.val < 512 then _ else if h : 512 + k.val - 512 < 256 then _ else _) * _ = _
    rw [dif_neg (by omega), dif_pos (by omega)]
    exact congrArg (fun j => B (ix3 b t j) * W (ix2 (⟨512 + k.val, by omega⟩ : Fin 1024) l)) (Fin.ext (by show 512 + k.val - 512 = k.val; omega))
  · show (if h : 768 + k.val < 512 then _ else if h : 768 + k.val - 512 < 256 then _ else _) * _ = _
    rw [dif_neg (by omega), dif_neg (by omega)]
    exact congrArg (fun j => C (ix3 b t j) * W (ix2 (⟨768 + k.val, by omega⟩ : Fin 1024) l)) (Fin.ext (by show 768 + k.val - 512 - 256 = k.val; omega))

theorem normTerm_apply (Z : Vec Ideal S8x4096x1024 .f32) (M : Vec Ideal S8x6x1024 .f32) (G : Vec Ideal S1024 .f32) (b : Fin 8) (t : Fin 4096) (l : Fin 1024) :
    normTerm (F := Ideal) Z M G (ix3 b t l)
      = normed (fun k => Z (ix3 b t k)) (G (ix1 l)) (M (ix3 b (4 : Fin 6) l)) (M (ix3 b (3 : Fin 6) l)) l := by
  unfold normed
  pointwise [normTerm]

theorem result_eq (m : (ℓ : Loc nD τ sig) → Buf (Elt Ideal) ℓ) (c : Dev nD) :
    (Value.res_main_v32 m c : Vec Ideal S8x4096x1024 .bf16)
      = normTerm (F := Ideal) (midTerm (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)))
        (m ((c.tc : Thread nD τ).loc main_arg5)) (m ((c.tc : Thread nD τ).loc main_arg6)) := rfl

end Cert.Proof.MixOut

end
-- ==== Proof.MixOutPoint.lean ====
/-
  One point of the output projection, over the extended reals.
-/
module

public import proofs.«01_k».proof.Proof.Gen.MixOutIdeal.Frame
public import proofs.«01_k».proof.Proof.MixOutReference

@[expose] public section

set_option maxRecDepth 16384

noncomputable section

namespace Cert.Proof.MixOut

open Cert.MixOutIdeal Cert.MixOutIdeal.Gen Idealize.ShloMosaic

theorem mixed_apply (M : Vec Ideal S1x6x1024 .f32) (A : Vec Ideal S1x1024x512 .bf16) (W0 : Vec Ideal S512x1024 .bf16) (B : Vec Ideal S1x1024x256 .bf16)
    (W1 : Vec Ideal S256x1024 .bf16) (C : Vec Ideal S1x1024x256 .bf16) (W2 : Vec Ideal S256x1024 .bf16) (X : Vec Ideal S1x1024x1024 .f32) (r l : Fin 1024) :
    k0_pay3 (F := Ideal) M A W0 B W1 C W2 X (ix2 r l)
      = X (ix3 (0 : Fin 1) r l) + M (ix3 (0 : Fin 1) (2 : Fin 6) l) * ((∑ k : Fin 512, A (ix3 (0 : Fin 1) r k) * W0 (ix2 k l))
          + (∑ k : Fin 256, B (ix3 (0 : Fin 1) r k) * W1 (ix2 k l)) + ∑ k : Fin 256, C (ix3 (0 : Fin 1) r k) * W2 (ix2 k l)) := by
  pointwise [k0_pay3, k0_pay2]

theorem normed_apply (M : Vec Ideal S1x6x1024 .f32) (z : FVec Ideal S1024x1024 .f32) (G : Vec Ideal S1x1024 .f32) (r l : Fin 1024) :
    k0_pay1 (F := Ideal) (k0_pay2 M) z (mulf z z) G (ix3 (0 : Fin 1) r l)
      = normed (fun k => z (ix2 r k)) (G (ix2 (0 : Fin 1) l)) (M (ix3 (0 : Fin 1) (4 : Fin 6) l)) (M (ix3 (0 : Fin 1) (3 : Fin 6) l)) l := by
  unfold normed
  pointwise [k0_pay1, k0_pay2]

section
variable (X : Vec Ideal S1x1024x1024 .f32) (A : Vec Ideal S1x1024x512 .bf16) (B C : Vec Ideal S1x1024x256 .bf16) (W : Vec Ideal S1024x1024 .bf16)
  (M : Vec Ideal S1x6x1024 .f32) (G : Vec Ideal S1x1024 .f32) (r l : Fin 1024)

/-- Row `r`, column `l` of the sum at a point whose blocks are these. -/
def row : EReal :=
  mixed (X (ix3 (0 : Fin 1) r l)) (M (ix3 (0 : Fin 1) (2 : Fin 6) l)) (fun k => A (ix3 (0 : Fin 1) r k)) (fun k => B (ix3 (0 : Fin 1) r k)) (fun k => C (ix3 (0 : Fin 1) r k))
    (fun k => W (ix2 k l))

theorem sum_apply :
    k0_pay3 (F := Ideal) M A (View.ld W r0_2) B (View.ld W r0_4) C (View.ld W r0_5) X (ix2 r l) = row X A B C W M r l := by
  have e0 : ∀ k : Fin 512, View.ld W r0_2 (ix2 k l) = W (ix2 (⟨k.val, by omega⟩ : Fin 1024) l) := fun k =>
    congrArg W (funext fun a => Fin.ext (by match a with | 0 => show 0 + 1 * k.val = k.val; omega | 1 => show 0 + 1 * l.val = l.val; omega))
  have e1 : ∀ k : Fin 256, View.ld W r0_4 (ix2 k l) = W (ix2 (⟨512 + k.val, by omega⟩ : Fin 1024) l) := fun k =>
    congrArg W (funext fun a => Fin.ext (by match a with | 0 => show 512 + 1 * k.val = 512 + k.val; omega | 1 => show 0 + 1 * l.val = l.val; omega))
  have e2 : ∀ k : Fin 256, View.ld W r0_5 (ix2 k l) = W (ix2 (⟨768 + k.val, by omega⟩ : Fin 1024) l) := fun k =>
    congrArg W (funext fun a => Fin.ext (by match a with | 0 => show 768 + 1 * k.val = 768 + k.val; omega | 1 => show 0 + 1 * l.val = l.val; omega))
  rw [mixed_apply]
  unfold row mixed
  simp only [e0, e1, e2]

/-- What a point leaves in the first output's buffer … -/
theorem out7_apply : out0_7 (F := Ideal) X A B C W M G (ix3 (0 : Fin 1) r l) = row X A B C W M r l := by
  have hz3 : (![0, 0, 0] : Fin 3 → ℕ) = fun _ => 0 := by decide
  have ce : ∀ z : FVec Ideal S1024x1024 .f32, shapeCast S1x1024x1024 z shapeCasts_S1024x1024_S1x1024x1024 (ix3 (0 : Fin 1) r l) = z (ix2 r l) := fun z => by pointwise
  unfold out0_7
  rw [View.canon_unit_zero (S := S1x1024x1024) hz3, View.ld_unit_zero (S := S1x1024x1024) hz3, View.ld_unit_zero (S := S1x1024x512) hz3,
    View.ld_unit_zero (S := S1x1024x256) hz3, View.ld_unit_zero (S := S1x1024x256) hz3, View.ld_unit_zero (S := S1x6x1024) hz3]
  unfold k0_pay4
  exact (ce _).trans (sum_apply X A B C W M r l)

/-- … and in the second's. -/
theorem out8_apply : out0_8 (F := Ideal) X A B C W M G (ix3 (0 : Fin 1) r l)
    = normed (fun k => row X A B C W M r k) (G (ix2 (0 : Fin 1) l)) (M (ix3 (0 : Fin 1) (4 : Fin 6) l)) (M (ix3 (0 : Fin 1) (3 : Fin 6) l)) l := by
  have hz2 : (![0, 0] : Fin 2 → ℕ) = fun _ => 0 := by decide
  have hz3 : (![0, 0, 0] : Fin 3 → ℕ) = fun _ => 0 := by decide
  unfold out0_8
  rw [View.canon_unit_zero (S := S1x1024x1024) hz3, View.ld_unit_zero (S := S1x1024x1024) hz3, View.ld_unit_zero (S := S1x1024x512) hz3,
    View.ld_unit_zero (S := S1x1024x256) hz3, View.ld_unit_zero (S := S1x1024x256) hz3, View.ld_unit_zero (S := S1x6x1024) hz3,
    View.ld_unit_zero (S := S1x1024) hz2]
  unfold k0_pay5
  rw [normed_apply]
  exact congrArg (fun z => normed z (G (ix2 (0 : Fin 1) l)) (M (ix3 (0 : Fin 1) (4 : Fin 6) l)) (M (ix3 (0 : Fin 1) (3 : Fin 6) l)) l) (funext fun k => sum_apply X A B C W M r k)

end

end Cert.Proof.MixOut

end
-- ==== Proof.MixOutValue.lean ====
/-
  What the output projection leaves in its two results, at an index over the extended reals: point `t`'s blocks are the rows of
  block `t % 4` of batch `t / 4`, of the residual and of the three mixers' outputs, the whole weight, the batch's modulation
  and the gain.
-/
module

public import proofs.«01_k».proof.Proof.MixOutPoint
public import Idealize.ShloMosaic.Lib.Pipeline.Value

@[expose] public section

set_option maxRecDepth 16384

noncomputable section

namespace Cert.Proof.MixOut

open Cert.MixOutIdeal Cert.MixOutIdeal.Gen Idealize.ShloMosaic Idealize.ShloMosaic.TcCoe Idealize.SL.Sem
open Idealize.ShloMosaic.Pipeline (Dat)

theorem point_lt (t : Fin cfg0.N) : t.val < 32 := lt_of_lt_of_eq t.isLt (show cfg0.N = 32 from N_0)

/-- The batch of a point, and the token of its row `r`. -/
def batch (t : Fin cfg0.N) : Fin 8 := ⟨t.val / 4, by have := point_lt t; omega⟩
def token (t : Fin cfg0.N) (r : Fin 1024) : Fin 4096 := ⟨t.val % 4 * 1024 + r.val, by omega⟩

theorem index0 : ∀ t : Fin cfg0.N, win0_0.index t 0 = t.val / 4 ∧ win0_0.index t 1 = t.val % 4 ∧ win0_0.index t 2 = 0 := by decide +kernel
theorem index1 : ∀ t : Fin cfg0.N, win0_1.index t 0 = t.val / 4 ∧ win0_1.index t 1 = t.val % 4 ∧ win0_1.index t 2 = 0 := by decide +kernel
theorem index2 : ∀ t : Fin cfg0.N, win0_2.index t 0 = t.val / 4 ∧ win0_2.index t 1 = t.val % 4 ∧ win0_2.index t 2 = 0 := by decide +kernel
theorem index3 : ∀ t : Fin cfg0.N, win0_3.index t 0 = t.val / 4 ∧ win0_3.index t 1 = t.val % 4 ∧ win0_3.index t 2 = 0 := by decide +kernel
theorem index7 : ∀ t : Fin cfg0.N, win0_7.index t 0 = t.val / 4 ∧ win0_7.index t 1 = t.val % 4 ∧ win0_7.index t 2 = 0 := by decide +kernel
theorem index8 : ∀ t : Fin cfg0.N, win0_8.index t 0 = t.val / 4 ∧ win0_8.index t 1 = t.val % 4 ∧ win0_8.index t 2 = 0 := by decide +kernel
theorem index4 : ∀ t : Fin cfg0.N, win0_4.index t 0 = 0 ∧ win0_4.index t 1 = 0 := by decide +kernel
theorem index5 : ∀ t : Fin cfg0.N, win0_5.index t 0 = t.val / 4 ∧ win0_5.index t 1 = 0 ∧ win0_5.index t 2 = 0 := by decide +kernel
theorem index6 : ∀ t : Fin cfg0.N, win0_6.index t 0 = 0 ∧ win0_6.index t 1 = 0 := by decide +kernel

variable (m : (ℓ : Loc nD τ sig) → Buf (Elt Ideal) ℓ) (ρ : Dev nD → PrngReg) (c : Dev nD)

/-- The weight's rounding, which the extended reals don't see. -/
def rounded (x : FVec Ideal S1024x1024 .f32) : FVec Ideal S1024x1024 .bf16 := truncf .bf16 x bitsLt_bf16_f32

theorem rounded_apply (x : FVec Ideal S1024x1024 .f32) (k l : Fin 1024) : rounded x (ix2 k l) = x (ix2 k l) := by
  pointwise [rounded]

/-- The weight as the kernel takes it … -/
theorem array_w : V m c main_v0 = rounded (m ((c : Thread nD τ).loc main_arg4)) := by
  show StableHlo.after hostOps0 _ _ = _
  simp only [hostOps0]
  after_results <;> rfl

/-- … and the gain. -/
theorem array_gain : V m c main_v1 = shapeCast S1x1024 (m ((c : Thread nD τ).loc main_arg6)) shapeCasts_S1024_S1x1024 := by
  show StableHlo.after hostOps0 _ _ = _
  simp only [hostOps0]
  after_results <;> rfl

theorem gain_apply (x : Vec Ideal S1024 .f32) (l : Fin 1024) : shapeCast S1x1024 x shapeCasts_S1024_S1x1024 (ix2 (0 : Fin 1) l) = x (ix1 l) := by
  pointwise

/-- The residual's block. -/
theorem block_x (t : Fin cfg0.N) (r : Fin 1024) (l : Fin 1024) :
    iblk m c 0 t (ix3 (0 : Fin 1) r l) = m ((c : Thread nD τ).loc main_arg0) (ix3 (batch t) (token t r) l) := by
  obtain ⟨h0, h1, h2⟩ := index0 t
  rw [← V_main_arg0 m c]
  refine congrArg (V m c main_arg0) (funext fun a => Fin.ext ?_)
  match a with
  | 0 => show win0_0.index t 0 * 1 + 1 * 0 = t.val / 4; omega
  | 1 => show win0_0.index t 1 * 1024 + 1 * r.val = t.val % 4 * 1024 + r.val; omega
  | 2 => show win0_0.index t 2 * 1024 + 1 * l.val = l.val; omega

/-- The first mixer's block. -/
theorem block_a (t : Fin cfg0.N) (r : Fin 1024) (l : Fin 512) :
    iblk m c 1 t (ix3 (0 : Fin 1) r l) = m ((c : Thread nD τ).loc main_arg1) (ix3 (batch t) (token t r) l) := by
  obtain ⟨h0, h1, h2⟩ := index1 t
  rw [← V_main_arg1 m c]
  refine congrArg (V m c main_arg1) (funext fun a => Fin.ext ?_)
  match a with
  | 0 => show win0_1.index t 0 * 1 + 1 * 0 = t.val / 4; omega
  | 1 => show win0_1.index t 1 * 1024 + 1 * r.val = t.val % 4 * 1024 + r.val; omega
  | 2 => show win0_1.index t 2 * 512 + 1 * l.val = l.val; omega

/-- The second's. -/
theorem block_b (t : Fin cfg0.N) (r : Fin 1024) (l : Fin 256) :
    iblk m c 2 t (ix3 (0 : Fin 1) r l) = m ((c : Thread nD τ).loc main_arg2) (ix3 (batch t) (token t r) l) := by
  obtain ⟨h0, h1, h2⟩ := index2 t
  rw [← V_main_arg2 m c]
  refine congrArg (V m c main_arg2) (funext fun a => Fin.ext ?_)
  match a with
  | 0 => show win0_2.index t 0 * 1 + 1 * 0 = t.val / 4; omega
  | 1 => show win0_2.index t 1 * 1024 + 1 * r.val = t.val % 4 * 1024 + r.val; omega
  | 2 => show win0_2.index t 2 * 256 + 1 * l.val = l.val; omega

/-- The third's. -/
theorem block_c (t : Fin cfg0.N) (r : Fin 1024) (l : Fin 256) :
    iblk m c 3 t (ix3 (0 : Fin 1) r l) = m ((c : Thread nD τ).loc main_arg3) (ix3 (batch t) (token t r) l) := by
  obtain ⟨h0, h1, h2⟩ := index3 t
  rw [← V_main_arg3 m c]
  refine congrArg (V m c main_arg3) (funext fun a => Fin.ext ?_)
  match a with
  | 0 => show win0_3.index t 0 * 1 + 1 * 0 = t.val / 4; omega
  | 1 => show win0_3.index t 1 * 1024 + 1 * r.val = t.val % 4 * 1024 + r.val; omega
  | 2 => show win0_3.index t 2 * 256 + 1 * l.val = l.val; omega

/-- The weight. -/
theorem block_w (t : Fin cfg0.N) (k l : Fin 1024) : iblk m c 4 t (ix2 k l) = m ((c : Thread nD τ).loc main_arg4) (ix2 k l) := by
  obtain ⟨h0, h1⟩ := index4 t
  refine Eq.trans (congrArg (V m c main_v0) (funext fun a => Fin.ext ?_) : _ = V m c main_v0 (ix2 k l)) ?_
  · match a with
    | 0 => show win0_4.index t 0 * 1024 + 1 * k.val = k.val; omega
    | 1 => show win0_4.index t 1 * 1024 + 1 * l.val = l.val; omega
  · exact (congrFun (array_w m c) (ix2 k l)).trans (rounded_apply _ k l)

/-- The batch's modulation. -/
theorem block_mod (t : Fin cfg0.N) (q : Fin 6) (l : Fin 1024) :
    iblk m c 5 t (ix3 (0 : Fin 1) q l) = m ((c : Thread nD τ).loc main_arg5) (ix3 (batch t) q l) := by
  obtain ⟨h0, h1, h2⟩ := index5 t
  rw [← V_main_arg5 m c]
  refine congrArg (V m c main_arg5) (funext fun a => Fin.ext ?_)
  match a with
  | 0 => show win0_5.index t 0 * 1 + 1 * 0 = t.val / 4; omega
  | 1 => show win0_5.index t 1 * 6 + 1 * q.val = q.val; omega
  | 2 => show win0_5.index t 2 * 1024 + 1 * l.val = l.val; omega

/-- The gain. -/
theorem block_gain (t : Fin cfg0.N) (l : Fin 1024) : iblk m c 6 t (ix2 (0 : Fin 1) l) = m ((c : Thread nD τ).loc main_arg6) (ix1 l) := by
  obtain ⟨h0, h1⟩ := index6 t
  refine Eq.trans (congrArg (V m c main_v1) (funext fun a => Fin.ext ?_) : _ = V m c main_v1 (ix2 (0 : Fin 1) l)) ?_
  · match a with
    | 0 => show win0_6.index t 0 * 1 + 1 * 0 = 0; omega
    | 1 => show win0_6.index t 1 * 1024 + 1 * l.val = l.val; omega
  · rw [array_gain]
    exact gain_apply _ l

/-- The first result both programs leave, at an index … -/
def sumAt (b : Fin 8) (t : Fin 4096) (l : Fin 1024) : EReal :=
  mixed (m ((c : Thread nD τ).loc main_arg0) (ix3 b t l)) (m ((c : Thread nD τ).loc main_arg5) (ix3 b (2 : Fin 6) l))
    (fun k => m ((c : Thread nD τ).loc main_arg1) (ix3 b t k)) (fun k => m ((c : Thread nD τ).loc main_arg2) (ix3 b t k))
    (fun k => m ((c : Thread nD τ).loc main_arg3) (ix3 b t k)) (fun k => m ((c : Thread nD τ).loc main_arg4) (ix2 k l))

def leftSum : Vec Ideal S8x4096x1024 .f32 := fun i => sumAt m c (i 0) (i 1) (i 2)

/-- … and the second. -/
def normAt (b : Fin 8) (t : Fin 4096) (l : Fin 1024) : EReal :=
  normed (fun k => sumAt m c b t k) (m ((c : Thread nD τ).loc main_arg6) (ix1 l)) (m ((c : Thread nD τ).loc main_arg5) (ix3 b (4 : Fin 6) l))
    (m ((c : Thread nD τ).loc main_arg5) (ix3 b (3 : Fin 6) l)) l

def leftNorm : Vec Ideal S8x4096x1024 .bf16 := fun i => normAt m c (i 0) (i 1) (i 2)

theorem row_eq (t : Fin cfg0.N) (r l : Fin 1024) :
    row (iblk m c 0 t) (iblk m c 1 t) (iblk m c 2 t) (iblk m c 3 t) (iblk m c 4 t) (iblk m c 5 t) r l = sumAt m c (batch t) (token t r) l := by
  unfold row sumAt
  simp only [block_x, block_a, block_b, block_c, block_w, block_mod]

theorem point_sum (t : Fin cfg0.N) (r l : Fin 1024) :
    out0_7 (iblk m c 0 t) (iblk m c 1 t) (iblk m c 2 t) (iblk m c 3 t) (iblk m c 4 t) (iblk m c 5 t) (iblk m c 6 t) (ix3 (0 : Fin 1) r l)
      = leftSum m c (ix3 (batch t) (token t r) l) :=
  (out7_apply _ _ _ _ _ _ _ r l).trans (row_eq m c t r l)

theorem point_norm (t : Fin cfg0.N) (r l : Fin 1024) :
    out0_8 (iblk m c 0 t) (iblk m c 1 t) (iblk m c 2 t) (iblk m c 3 t) (iblk m c 4 t) (iblk m c 5 t) (iblk m c 6 t) (ix3 (0 : Fin 1) r l)
      = leftNorm m c (ix3 (batch t) (token t r) l) := by
  rw [out8_apply]
  simp only [row_eq, block_mod, block_gain]
  rfl

/-- The array the call leaves as its first result. -/
theorem final_sum : (dats m 0 c).arrAt 7 cfg0.N = leftSum m c := by
  funext i
  have hb : (i 0).val < 8 := (i 0).isLt
  have hn : (i 1).val < 4096 := (i 1).isLt
  have hl : (i 2).val < 1024 := (i 2).isLt
  have hN : cfg0.N = 32 := N_0
  have flushed : ∀ t : Fin cfg0.N, (cfg0.win 7).flush t = true → (dats m 0 c).flushed 7 t = ((cfg0.win 7).blk t).view.read (Elt Ideal) (leftSum m c) := by
    intro t _
    show (cfg0.win 7).cut (grid0.coords t) ((dats m 0 c).after 7 t) = _
    rw [after0_7]
    funext y
    have hy0 : (y 0).val = 0 := Nat.lt_one_iff.mp (show (y 0).val < 1 from (y 0).isLt)
    have hy : y = ix3 (0 : Fin 1) (y 1 : Fin 1024) (y 2 : Fin 1024) := by
      refine (eq_ix3 y).trans (congrArg (fun z : Fin 1 => ix3 z (y 1 : Fin 1024) (y 2 : Fin 1024)) (Fin.ext hy0))
    rw [hy]
    obtain ⟨h0, h1, h2⟩ := index7 t
    refine (point_sum m c t (y 1) (y 2)).trans (congrArg (leftSum m c) (funext fun a => Fin.ext ?_))
    match a with
    | 0 => show t.val / 4 = win0_7.index t 0 * 1 + 1 * 0; omega
    | 1 => show t.val % 4 * 1024 + (y 1).val = win0_7.index t 1 * 1024 + 1 * (y 1).val; omega
    | 2 => show (y 2).val = win0_7.index t 2 * 1024 + 1 * (y 2).val; omega
  let t : Fin cfg0.N := ⟨(i 0).val * 4 + (i 1).val / 1024, by omega⟩
  have ht : t.val = (i 0).val * 4 + (i 1).val / 1024 := rfl
  have hmem : i = ((cfg0.win 7).blk t).view.emb (ix3 (0 : Fin 1) (⟨(i 1).val % 1024, by omega⟩ : Fin 1024) (⟨(i 2).val, hl⟩ : Fin 1024)) := by
    obtain ⟨h0, h1, h2⟩ := index7 t
    funext a
    apply Fin.ext
    match a with
    | 0 => show (i 0).val = win0_7.index t 0 * 1 + 1 * 0; omega
    | 1 => show (i 1).val = win0_7.index t 1 * 1024 + 1 * ((i 1).val % 1024); omega
    | 2 => show (i 2).val = win0_7.index t 2 * 1024 + 1 * (i 2).val; omega
  refine (dats m 0 c).arrAt_apply_of_mem 7 (leftSum m c) flushed cfg0.N t i t.isLt (flush0_7 t) ?_
  rw [hmem]
  exact View.emb_mem_set _ _

/-- The array the call leaves as its second result. -/
theorem final_norm : (dats m 0 c).arrAt 8 cfg0.N = leftNorm m c := by
  funext i
  have hb : (i 0).val < 8 := (i 0).isLt
  have hn : (i 1).val < 4096 := (i 1).isLt
  have hl : (i 2).val < 1024 := (i 2).isLt
  have hN : cfg0.N = 32 := N_0
  have flushed : ∀ t : Fin cfg0.N, (cfg0.win 8).flush t = true → (dats m 0 c).flushed 8 t = ((cfg0.win 8).blk t).view.read (Elt Ideal) (leftNorm m c) := by
    intro t _
    show (cfg0.win 8).cut (grid0.coords t) ((dats m 0 c).after 8 t) = _
    rw [after0_8]
    funext y
    have hy0 : (y 0).val = 0 := Nat.lt_one_iff.mp (show (y 0).val < 1 from (y 0).isLt)
    have hy : y = ix3 (0 : Fin 1) (y 1 : Fin 1024) (y 2 : Fin 1024) := by
      refine (eq_ix3 y).trans (congrArg (fun z : Fin 1 => ix3 z (y 1 : Fin 1024) (y 2 : Fin 1024)) (Fin.ext hy0))
    rw [hy]
    obtain ⟨h0, h1, h2⟩ := index8 t
    refine (point_norm m c t (y 1) (y 2)).trans (congrArg (leftNorm m c) (funext fun a => Fin.ext ?_))
    match a with
    | 0 => show t.val / 4 = win0_8.index t 0 * 1 + 1 * 0; omega
    | 1 => show t.val % 4 * 1024 + (y 1).val = win0_8.index t 1 * 1024 + 1 * (y 1).val; omega
    | 2 => show (y 2).val = win0_8.index t 2 * 1024 + 1 * (y 2).val; omega
  let t : Fin cfg0.N := ⟨(i 0).val * 4 + (i 1).val / 1024, by omega⟩
  have ht : t.val = (i 0).val * 4 + (i 1).val / 1024 := rfl
  have hmem : i = ((cfg0.win 8).blk t).view.emb (ix3 (0 : Fin 1) (⟨(i 1).val % 1024, by omega⟩ : Fin 1024) (⟨(i 2).val, hl⟩ : Fin 1024)) := by
    obtain ⟨h0, h1, h2⟩ := index8 t
    funext a
    apply Fin.ext
    match a with
    | 0 => show (i 0).val = win0_8.index t 0 * 1 + 1 * 0; omega
    | 1 => show (i 1).val = win0_8.index t 1 * 1024 + 1 * ((i 1).val % 1024); omega
    | 2 => show (i 2).val = win0_8.index t 2 * 1024 + 1 * (i 2).val; omega
  refine (dats m 0 c).arrAt_apply_of_mem 8 (leftNorm m c) flushed cfg0.N t i t.isLt (flush0_8 t) ?_
  rw [hmem]
  exact View.emb_mem_set _ _

/-- A run leaves the two results, and its arguments as they were. -/
theorem kernel_run : θ_run defs (onTc (τ := τ) (main (F := Ideal))) ⟨m, fun _ => 0, ρ⟩ fun r => ∀ c : Dev nD,
      r.2.mem ((c : Thread nD τ).loc main_v2_0) = leftSum m c
      ∧ r.2.mem ((c : Thread nD τ).loc main_v2_1) = leftNorm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (run_main m ρ)
  exact ⟨((h c).1 7).trans (final_sum m c), ((h c).1 8).trans (final_norm m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).1 5).trans (((dats m 0 c).arrAt_in 5 rfl _).trans ((A_eq m c 5).trans (V_main_arg5 m c))),
    ((h c).2 main_arg6 (Pipeline.mem_restRefs_of main_arg6 (by decide) (by decide))).trans (V_main_arg6 m c)⟩

end Cert.Proof.MixOut

end
-- ==== Proof.RopeReference.lean ====
/-
  What the rotary tables' reference returns: the cosines and the sines of a token's position times a frequency, laid out.
-/
module

public import proofs.«01_k».proof.Proof.Gen.RopeReferenceIdeal.Run
public import Idealize.ShloMosaic.Lib.Pointwise

@[expose] public section

set_option maxRecDepth 16384

noncomputable section

namespace Cert.Proof.Rope

open Cert.RopeReferenceIdeal Cert.RopeReferenceIdeal.Gen Idealize.ShloMosaic

section
variable {F : FTy → Type} [FloatOps F]

/-- The sixteen frequencies. -/
def freqs : FVec F S16 .f32 :=
  Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

/-- A token's position times each. -/
def angles (P : IVec S8x4096 32) : FVec F S8x4096x16 .f32 :=
  mulf (broadcastInDim S8x4096x16 ![0, 1, 2] bcast_S8x4096x1_S8x4096x16_0_1_2 (broadcastInDim S8x4096x1 ![0, 1] bcast_S8x4096_S8x4096x1_0_1 (sitofp .f32 P))) (broadcastInDim S8x4096x16 ![0, 1, 2] bcast_S1x1x16_S8x4096x16_0_1_2 (broadcastInDim S1x1x16 ![2] bcast_S16_S1x1x16_2 freqs))

/-- A table twice over, `fill` in the lanes around it. -/
def laid (fill : BitVec 32) (x : FVec F S8x4096x16 .f32) : FVec F S8x4096x128 .f32 :=
  concatenate S8x4096x128 2 [⟨S8x4096x64, broadcastInDim S8x4096x64 ![] bcast_S_S8x4096x64 (constant S_ .f32 fill)⟩, ⟨S8x4096x16, x⟩, ⟨S8x4096x16, x⟩, ⟨S8x4096x32, broadcastInDim S8x4096x32 ![] bcast_S_S8x4096x32 (constant S_ .f32 fill)⟩] concatenates_S8x4096x64_S8x4096x16_S8x4096x16_S8x4096x32_S8x4096x128_d2

end

/-- The angle of token `t` of batch `b` at frequency `j`. -/
def angle (P : IVec S8x4096 32) (b : Fin 8) (t : Fin 4096) (j : Fin 16) : EReal :=
  (((P (ix2 b t)).toInt : ℝ) : EReal) * freqs (F := Ideal) (ix1 j)

theorem cos_apply (P : IVec S8x4096 32) (b : Fin 8) (t : Fin 4096) (j : Fin 16) :
    (Host.cos (angles (F := Ideal) P) : FVec Ideal S8x4096x16 .f32) (ix3 b t j) = Ideal.cos (angle P b t j) := by
  unfold angle
  pointwise [angles]
  rfl

theorem sin_apply (P : IVec S8x4096 32) (b : Fin 8) (t : Fin 4096) (j : Fin 16) :
    (Host.sin (angles (F := Ideal) P) : FVec Ideal S8x4096x16 .f32) (ix3 b t j) = Ideal.sin (angle P b t j) := by
  unfold angle
  pointwise [angles]
  rfl

end Cert.Proof.Rope

end
-- ==== Proof.RopeValue.lean ====
/-
  What the rotary tables' call leaves in its results, at an index over the extended reals. Its two arrays hold eight tokens'
  sixteen angles to a row of 128 lanes; point `t` is batch `t`. The lines after it take them apart and lay them out.
-/
module

public import proofs.«01_k».proof.Proof.Gen.RopeIdeal.Frame
public import proofs.«01_k».proof.Proof.RopeReference
public import Idealize.ShloMosaic.Lib.Pipeline.Value

@[expose] public section

set_option maxRecDepth 16384

noncomputable section

namespace Cert.Proof.Rope

open Cert.RopeIdeal Cert.RopeIdeal.Gen Idealize.ShloMosaic Idealize.ShloMosaic.TcCoe Idealize.SL.Sem
open Idealize.ShloMosaic.Pipeline (Dat)

theorem point_lt (t : Fin cfg0.N) : t.val < 8 := lt_of_lt_of_eq t.isLt (show cfg0.N = 8 from N_0)

theorem index0 : ∀ t : Fin cfg0.N, win0_0.index t 0 = t.val ∧ win0_0.index t 1 = 0 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 ∧ win0_2.index t 2 = 0 := by decide +kernel
theorem index3 : ∀ t : Fin cfg0.N, win0_3.index t 0 = t.val ∧ win0_3.index t 1 = 0 ∧ win0_3.index t 2 = 0 := by decide +kernel

/-- The angle a lane of a row holds: eight tokens to a row, sixteen frequencies to a token. -/
def packed (P : IVec S8x4096 32) (b : Fin 8) (r : Fin 512) (l : Fin 128) : EReal :=
  angle P b ⟨r.val * 8 + l.val / 16, by omega⟩ ⟨l.val % 16, by omega⟩

section
variable {F : FTy → Type} [FloatOps F]

/-- The positions as the kernel takes them … -/
def rows (P : IVec S8x4096 32) : IVec S8x512x128 32 :=
  shapeCast S8x512x128 (broadcastInDim S8x4096x16 ![0, 1, 2] bcast_S8x4096x1_S8x4096x16_0_1_2 (broadcastInDim S8x4096x1 ![0, 1] bcast_S8x4096_S8x4096x1_0_1 P)) shapeCasts_S8x4096x16_S8x512x128

/-- … and the frequencies, eight times over. -/
def lanes (f : FVec F S16 .f32) : FVec F S1x128 .f32 :=
  shapeCast S1x128 (shapeCast S128 (broadcastInDim S8x16 ![0, 1] bcast_S1x16_S8x16_0_1 (shapeCast S1x16 f shapeCasts_S16_S1x16)) shapeCasts_S8x16_S128) shapeCasts_S128_S1x128

end

theorem rows_apply (P : IVec S8x4096 32) (b : Fin 8) (r : Fin 512) (l : Fin 128) :
    rows P (ix3 b r l) = P (ix2 b (⟨r.val * 8 + l.val / 16, by omega⟩ : Fin 4096)) := by
  pointwise [rows]

theorem lanes_apply (f : FVec Ideal S16 .f32) (l : Fin 128) : lanes f (ix2 (0 : Fin 1) l) = f (ix1 (⟨l.val % 16, by omega⟩ : Fin 16)) := by
  pointwise [lanes]

theorem out2_apply (P : Vec Ideal S1x512x128 .i32) (f : Vec Ideal S1x128 .f32) (r : Fin 512) (l : Fin 128) :
    out0_2 (F := Ideal) P f (ix3 (0 : Fin 1) r l) = Ideal.cos ((((P (ix3 (0 : Fin 1) r l)).toInt : ℝ) : EReal) * f (ix2 (0 : Fin 1) l)) := by
  have hz2 : (![0, 0] : Fin 2 → ℕ) = fun _ => 0 := by decide
  have hz3 : (![0, 0, 0] : Fin 3 → ℕ) = fun _ => 0 := by decide
  unfold out0_2
  rw [View.canon_unit_zero (S := S1x512x128) hz3, View.ld_unit_zero (S := S1x512x128) hz3, View.ld_unit_zero (S := S1x128) hz2]
  pointwise [k0_pay2, k0_pay1]
  rfl

theorem out3_apply (P : Vec Ideal S1x512x128 .i32) (f : Vec Ideal S1x128 .f32) (r : Fin 512) (l : Fin 128) :
    out0_3 (F := Ideal) P f (ix3 (0 : Fin 1) r l) = Ideal.sin ((((P (ix3 (0 : Fin 1) r l)).toInt : ℝ) : EReal) * f (ix2 (0 : Fin 1) l)) := by
  have hz2 : (![0, 0] : Fin 2 → ℕ) = fun _ => 0 := by decide
  have hz3 : (![0, 0, 0] : Fin 3 → ℕ) = fun _ => 0 := by decide
  unfold out0_3
  rw [View.canon_unit_zero (S := S1x512x128) hz3, View.ld_unit_zero (S := S1x512x128) hz3, View.ld_unit_zero (S := S1x128) hz2]
  pointwise [k0_pay3, k0_pay1]
  rfl

/-- Taking the rows apart, token by token. -/
theorem apart_apply (x : Vec Ideal S8x512x128 .f32) (b : Fin 8) (t : Fin 4096) (j : Fin 16) :
    shapeCast S8x4096x16 x shapeCasts_S8x512x128_S8x4096x16 (ix3 b t j)
      = x (ix3 b (⟨t.val / 8, by omega⟩ : Fin 512) (⟨t.val % 8 * 16 + j.val, by omega⟩ : Fin 128)) := by
  pointwise

theorem packed_apart (P : IVec S8x4096 32) (b : Fin 8) (t : Fin 4096) (j : Fin 16) :
    packed P b ⟨t.val / 8, by omega⟩ ⟨t.val % 8 * 16 + j.val, by omega⟩ = angle P b t j := by
  unfold packed
  refine congrArg₂ (angle P b) (Fin.ext ?_) (Fin.ext ?_)
  · show t.val / 8 * 8 + (t.val % 8 * 16 + j.val) / 16 = t.val
    omega
  · show (t.val % 8 * 16 + j.val) % 16 = j.val
    omega

variable (m : (ℓ : Loc nD τ sig) → Buf (Elt Ideal) ℓ) (ρ : Dev nD → PrngReg) (c : Dev nD)

theorem array_p : V m c main_v12 = rows (m ((c : Thread nD τ).loc main_arg0)) := by
  show StableHlo.after _ _ _ = _
  simp only [hostOps0, List.flatten_cons, List.flatten_nil, List.append_nil]
  after_results <;> rfl

theorem array_f : V m c main_v16 = lanes (freqs (F := Ideal)) := by
  show StableHlo.after _ _ _ = _
  simp only [hostOps0, List.flatten_cons, List.flatten_nil, List.append_nil]
  after_results <;> rfl

/-- The positions' block. -/
theorem block_p (t : Fin cfg0.N) (r : Fin 512) (l : Fin 128) :
    iblk m c 0 t (ix3 (0 : Fin 1) r l) = m ((c : Thread nD τ).loc main_arg0) (ix2 (⟨t.val, point_lt t⟩ : Fin 8) (⟨r.val * 8 + l.val / 16, by omega⟩ : Fin 4096)) := by
  obtain ⟨h0, h1, h2⟩ := index0 t
  refine Eq.trans (congrArg (V m c main_v12) (funext fun a => Fin.ext ?_) : _ = V m c main_v12 (ix3 (⟨t.val, point_lt t⟩ : Fin 8) r l)) ?_
  · match a with
    | 0 => show win0_0.index t 0 * 1 + 1 * 0 = t.val; omega
    | 1 => show win0_0.index t 1 * 512 + 1 * r.val = r.val; omega
    | 2 => show win0_0.index t 2 * 128 + 1 * l.val = l.val; omega
  · exact (congrFun (array_p m c) _).trans (rows_apply _ _ r l)

/-- The frequencies. -/
theorem block_f (t : Fin cfg0.N) (l : Fin 128) : iblk m c 1 t (ix2 (0 : Fin 1) l) = freqs (F := Ideal) (ix1 (⟨l.val % 16, by omega⟩ : Fin 16)) := by
  obtain ⟨h0, h1⟩ := index1 t
  refine Eq.trans (congrArg (V m c main_v16) (funext fun a => Fin.ext ?_) : _ = V m c main_v16 (ix2 (0 : Fin 1) l)) ?_
  · match a with
    | 0 => show win0_1.index t 0 * 1 + 1 * 0 = 0; omega
    | 1 => show win0_1.index t 1 * 128 + 1 * l.val = l.val; omega
  · exact (congrFun (array_f m c) _).trans (lanes_apply _ l)

/-- The arrays the call leaves. -/
def leftCos : Vec Ideal S8x512x128 .f32 := fun i => Ideal.cos (packed (m ((c : Thread nD τ).loc main_arg0)) (i 0) (i 1) (i 2))
def leftSin : Vec Ideal S8x512x128 .f32 := fun i => Ideal.sin (packed (m ((c : Thread nD τ).loc main_arg0)) (i 0) (i 1) (i 2))

theorem point_cos (t : Fin cfg0.N) (r : Fin 512) (l : Fin 128) :
    out0_2 (iblk m c 0 t) (iblk m c 1 t) (ix3 (0 : Fin 1) r l) = leftCos m c (ix3 (⟨t.val, point_lt t⟩ : Fin 8) r l) := by
  rw [out2_apply, block_p, block_f]
  rfl

theorem point_sin (t : Fin cfg0.N) (r : Fin 512) (l : Fin 128) :
    out0_3 (iblk m c 0 t) (iblk m c 1 t) (ix3 (0 : Fin 1) r l) = leftSin m c (ix3 (⟨t.val, point_lt t⟩ : Fin 8) r l) := by
  rw [out3_apply, block_p, block_f]
  rfl

theorem final_cos : (dats m 0 c).arrAt 2 cfg0.N = leftCos m c := by
  funext i
  have hb : (i 0).val < 8 := (i 0).isLt
  have hr : (i 1).val < 512 := (i 1).isLt
  have hl : (i 2).val < 128 := (i 2).isLt
  have hN : cfg0.N = 8 := N_0
  have flushed : ∀ t : Fin cfg0.N, (cfg0.win 2).flush t = true → (dats m 0 c).flushed 2 t = ((cfg0.win 2).blk t).view.read (Elt Ideal) (leftCos m c) := by
    intro t _
    show (cfg0.win 2).cut (grid0.coords t) ((dats m 0 c).after 2 t) = _
    rw [after0_2]
    funext y
    have hy0 : (y 0).val = 0 := Nat.lt_one_iff.mp (show (y 0).val < 1 from (y 0).isLt)
    have hy : y = ix3 (0 : Fin 1) (y 1 : Fin 512) (y 2 : Fin 128) :=
      (eq_ix3 y).trans (congrArg (fun z : Fin 1 => ix3 z (y 1 : Fin 512) (y 2 : Fin 128)) (Fin.ext hy0))
    rw [hy]
    obtain ⟨h0, h1, h2⟩ := index2 t
    refine (point_cos m c t (y 1) (y 2)).trans (congrArg (leftCos m c) (funext fun a => Fin.ext ?_))
    match a with
    | 0 => show t.val = win0_2.index t 0 * 1 + 1 * 0; omega
    | 1 => show (y 1).val = win0_2.index t 1 * 512 + 1 * (y 1).val; omega
    | 2 => show (y 2).val = win0_2.index t 2 * 128 + 1 * (y 2).val; omega
  let t : Fin cfg0.N := ⟨(i 0).val, by omega⟩
  have ht : t.val = (i 0).val := rfl
  have hmem : i = ((cfg0.win 2).blk t).view.emb (ix3 (0 : Fin 1) (⟨(i 1).val, hr⟩ : Fin 512) (⟨(i 2).val, hl⟩ : Fin 128)) := by
    obtain ⟨h0, h1, h2⟩ := index2 t
    funext a
    apply Fin.ext
    match a with
    | 0 => show (i 0).val = win0_2.index t 0 * 1 + 1 * 0; omega
    | 1 => show (i 1).val = win0_2.index t 1 * 512 + 1 * (i 1).val; omega
    | 2 => show (i 2).val = win0_2.index t 2 * 128 + 1 * (i 2).val; omega
  refine (dats m 0 c).arrAt_apply_of_mem 2 (leftCos m c) flushed cfg0.N t i t.isLt (flush0_2 t) ?_
  rw [hmem]
  exact View.emb_mem_set _ _

theorem final_sin : (dats m 0 c).arrAt 3 cfg0.N = leftSin m c := by
  funext i
  have hb : (i 0).val < 8 := (i 0).isLt
  have hr : (i 1).val < 512 := (i 1).isLt
  have hl : (i 2).val < 128 := (i 2).isLt
  have hN : cfg0.N = 8 := N_0
  have flushed : ∀ t : Fin cfg0.N, (cfg0.win 3).flush t = true → (dats m 0 c).flushed 3 t = ((cfg0.win 3).blk t).view.read (Elt Ideal) (leftSin m c) := by
    intro t _
    show (cfg0.win 3).cut (grid0.coords t) ((dats m 0 c).after 3 t) = _
    rw [after0_3]
    funext y
    have hy0 : (y 0).val = 0 := Nat.lt_one_iff.mp (show (y 0).val < 1 from (y 0).isLt)
    have hy : y = ix3 (0 : Fin 1) (y 1 : Fin 512) (y 2 : Fin 128) :=
      (eq_ix3 y).trans (congrArg (fun z : Fin 1 => ix3 z (y 1 : Fin 512) (y 2 : Fin 128)) (Fin.ext hy0))
    rw [hy]
    obtain ⟨h0, h1, h2⟩ := index3 t
    refine (point_sin m c t (y 1) (y 2)).trans (congrArg (leftSin m c) (funext fun a => Fin.ext ?_))
    match a with
    | 0 => show t.val = win0_3.index t 0 * 1 + 1 * 0; omega
    | 1 => show (y 1).val = win0_3.index t 1 * 512 + 1 * (y 1).val; omega
    | 2 => show (y 2).val = win0_3.index t 2 * 128 + 1 * (y 2).val; omega
  let t : Fin cfg0.N := ⟨(i 0).val, by omega⟩
  have ht : t.val = (i 0).val := rfl
  have hmem : i = ((cfg0.win 3).blk t).view.emb (ix3 (0 : Fin 1) (⟨(i 1).val, hr⟩ : Fin 512) (⟨(i 2).val, hl⟩ : Fin 128)) := by
    obtain ⟨h0, h1, h2⟩ := index3 t
    funext a
    apply Fin.ext
    match a with
    | 0 => show (i 0).val = win0_3.index t 0 * 1 + 1 * 0; omega
    | 1 => show (i 1).val = win0_3.index t 1 * 512 + 1 * (i 1).val; omega
    | 2 => show (i 2).val = win0_3.index t 2 * 128 + 1 * (i 2).val; omega
  refine (dats m 0 c).arrAt_apply_of_mem 3 (leftSin m c) flushed cfg0.N t i t.isLt (flush0_3 t) ?_
  rw [hmem]
  exact View.emb_mem_set _ _

/-- Taken apart, they are the reference's tables. -/
theorem apart_cos : shapeCast S8x4096x16 (leftCos m c) shapeCasts_S8x512x128_S8x4096x16 = Host.cos (angles (F := Ideal) (m ((c : Thread nD τ).loc main_arg0))) := by
  funext i
  rw [eq_ix3 i]
  exact (apart_apply _ _ _ _).trans ((congrArg Ideal.cos (packed_apart _ _ _ _)).trans (cos_apply _ _ _ _).symm)

theorem apart_sin : shapeCast S8x4096x16 (leftSin m c) shapeCasts_S8x512x128_S8x4096x16 = Host.sin (angles (F := Ideal) (m ((c : Thread nD τ).loc main_arg0))) := by
  funext i
  rw [eq_ix3 i]
  exact (apart_apply _ _ _ _).trans ((congrArg Ideal.sin (packed_apart _ _ _ _)).trans (sin_apply _ _ _ _).symm)

/-- The lines after the call, over what it leaves. -/
theorem tail_cos (U : Valuation τ sig (Elt Ideal)) :
    StableHlo.after (List.flatten [hostOps1 (F := Ideal)]) U (Proc.devRef .tc main_v21)
      = laid (F := Ideal) 0x3F800000#32 (shapeCast S8x4096x16 (U (Proc.devRef .tc main_v17_0)) shapeCasts_S8x512x128_S8x4096x16) := by
  simp only [hostOps1, List.flatten_cons, List.flatten_nil, List.append_nil]
  after_results_simp <;> (try dsimp only [Matrix.cons_val]) <;> (try after_results_simp) <;> rfl

theorem tail_sin (U : Valuation τ sig (Elt Ideal)) :
    StableHlo.after (List.flatten [hostOps1 (F := Ideal)]) U (Proc.devRef .tc main_v25)
      = laid (F := Ideal) 0x00000000#32 (shapeCast S8x4096x16 (U (Proc.devRef .tc main_v17_1)) shapeCasts_S8x512x128_S8x4096x16) := by
  simp only [hostOps1, List.flatten_cons, List.flatten_nil, List.append_nil]
  after_results_simp <;> (try dsimp only [Matrix.cons_val]) <;> (try after_results_simp) <;> rfl

theorem arrays_apart : Function.Injective (Pipeline.arrRef spec0) := by decide

theorem result_cos : Pipeline.afterTail₀ cfgs (dats m) 0 (V0 m) [hostOps1] c main_v21
    = laid (F := Ideal) 0x3F800000#32 (Host.cos (angles (F := Ideal) (m ((c : Thread nD τ).loc main_arg0)))) := by
  unfold Pipeline.afterTail₀
  refine (tail_cos _).trans (congrArg (laid (F := Ideal) 0x3F800000#32) ?_)
  refine Eq.trans (congrArg (fun x : Vec Ideal S8x512x128 .f32 => shapeCast S8x4096x16 x shapeCasts_S8x512x128_S8x4096x16) ?_) (apart_cos m c)
  exact (Pipeline.withArrays_arr spec0 arrays_apart c (V0 m c) (fun w => (dats m 0 c).arrAt w cfg0.N) 2).trans (final_cos m c)

theorem result_sin : Pipeline.afterTail₀ cfgs (dats m) 0 (V0 m) [hostOps1] c main_v25
    = laid (F := Ideal) 0x00000000#32 (Host.sin (angles (F := Ideal) (m ((c : Thread nD τ).loc main_arg0)))) := by
  unfold Pipeline.afterTail₀
  refine (tail_sin _).trans (congrArg (laid (F := Ideal) 0x00000000#32) ?_)
  refine Eq.trans (congrArg (fun x : Vec Ideal S8x512x128 .f32 => shapeCast S8x4096x16 x shapeCasts_S8x512x128_S8x4096x16) ?_) (apart_sin m c)
  exact (Pipeline.withArrays_arr spec0 arrays_apart c (V0 m c) (fun w => (dats m 0 c).arrAt w cfg0.N) 3).trans (final_sin m c)

/-- A run leaves the two tables, and its argument as it was. -/
theorem kernel_run : θ_run defs (onTc (τ := τ) (main (F := Ideal))) ⟨m, fun _ => 0, ρ⟩ fun r => ∀ c : Dev nD,
      r.2.mem ((c : Thread nD τ).loc main_v21) = laid (F := Ideal) 0x3F800000#32 (Host.cos (angles (F := Ideal) (m ((c : Thread nD τ).loc main_arg0))))
      ∧ r.2.mem ((c : Thread nD τ).loc main_v25) = laid (F := Ideal) 0x00000000#32 (Host.sin (angles (F := Ideal) (m ((c : Thread nD τ).loc main_arg0))))
      ∧ r.2.mem ((c : Thread nD τ).loc main_arg0) = m ((c : Thread nD τ).loc main_arg0) := by
  refine (θ_run defs _ _).mono (fun r h c => ?_) (run_main m ρ)
  exact ⟨((h c).2 main_v21 (Pipeline.mem_restRefs_of main_v21 (by decide) (by decide))).trans (result_cos m c),
    ((h c).2 main_v25 (Pipeline.mem_restRefs_of main_v25 (by decide) (by decide))).trans (result_sin m c),
    ((h c).2 main_arg0 (Pipeline.mem_restRefs_of main_arg0 (by decide) (by decide))).trans (W_main_arg0 m (dats m) c)⟩

end Cert.Proof.Rope

end
-- ==== Proof.ModulationReference.lean ====
/-
  What the modulation's reference returns, read at an index over the extended reals, and what its precondition says of an
  entry: it is a real number.
-/
module

public import proofs.«01_k».proof.Proof.Gen.ModulationReferenceIdeal.Run
public import proofs.«01_k».proof.Proof.Gen.Pre_finite
public import Idealize.ShloMosaic.Lib.Pointwise
public import Idealize.ShloMosaic.Lib.ReduceAll

@[expose] public section

set_option maxRecDepth 16384

noncomputable section

namespace Cert.Proof.Modulation

open Cert.ModulationReferenceIdeal Cert.ModulationReferenceIdeal.Gen Idealize.ShloMosaic

/-- `x` times its logistic. -/
def silu (x : EReal) : EReal := x * Ideal.div 1 (1 + Ideal.exp (-x))

/-- Column `n` of a layer's modulation of a batch: the conditioning's `silu` against that column of the weight, plus the bias. -/
def modulated (x : Fin 1024 → EReal) (w : Fin 1024 → EReal) (b : EReal) : EReal := (∑ k : Fin 1024, silu (x k) * w k) + b

section
variable {F : FTy → Type} [FloatOps F]

/-- The reference's `silu` of the conditioning … -/
def actTerm (C : FVec F S8x1024 .f32) : FVec F S8x1024 .f32 :=
  mulf C (Host.divf (broadcastInDim S8x1024 ![] bcast_S_S8x1024 (constant S_ .f32 0x3F800000#32)) (addf (broadcastInDim S8x1024 ![] bcast_S_S8x1024 (constant S_ .f32 0x3F800000#32)) (Host.exp (Host.negf C))))

/-- … and its result. -/
def term (C : FVec F S8x1024 .f32) (W : FVec F S2x1024x6144 .f32) (B : FVec F S2x6144 .f32) : FVec F S2x8x6144 .f32 :=
  concatenate S2x8x6144 0 [⟨S1x8x6144, (broadcastInDim S1x8x6144 ![1, 2] bcast_S8x6144_S1x8x6144_1_2 (addf (Host.dotGeneral dot_S8x1024_S1024x6144_S8x6144_1_0_0_1_n_n none (actTerm C) (shapeCast S1024x6144 (extractStridedSlice S1x1024x6144 ![0, 0, 0] W slices_S2x1024x6144_S1x1024x6144_0_0_0) shapeCasts_S1x1024x6144_S1024x6144)) (broadcastInDim S8x6144 ![0, 1] bcast_S1x6144_S8x6144_0_1 (broadcastInDim S1x6144 ![1] bcast_S6144_S1x6144_1 (shapeCast S6144 (extractStridedSlice S1x6144 ![0, 0] B slices_S2x6144_S1x6144_0_0) shapeCasts_S1x6144_S6144)))))⟩,
    ⟨S1x8x6144, (broadcastInDim S1x8x6144 ![1, 2] bcast_S8x6144_S1x8x6144_1_2 (addf (Host.dotGeneral dot_S8x1024_S1024x6144_S8x6144_1_0_0_1_n_n none (actTerm C) (shapeCast S1024x6144 (extractStridedSlice S1x1024x6144 ![1, 0, 0] W slices_S2x1024x6144_S1x1024x6144_1_0_0) shapeCasts_S1x1024x6144_S1024x6144)) (broadcastInDim S8x6144 ![0, 1] bcast_S1x6144_S8x6144_0_1 (broadcastInDim S1x6144 ![1] bcast_S6144_S1x6144_1 (shapeCast S6144 (extractStridedSlice S1x6144 ![1, 0] B slices_S2x6144_S1x6144_1_0) shapeCasts_S1x6144_S6144)))))⟩] concatenates_S1x8x6144_S1x8x6144_S2x8x6144_d0

end

theorem actTerm_apply (C : FVec Ideal S8x1024 .f32) (b : Fin 8) (k : Fin 1024) : actTerm (F := Ideal) C (ix2 b k) = silu (C (ix2 b k)) := by
  unfold silu
  pointwise [actTerm]

theorem term_apply (C : Vec Ideal S8x1024 .f32) (W : Vec Ideal S2x1024x6144 .f32) (B : Vec Ideal S2x6144 .f32) (l : Fin 2) (b : Fin 8) (n : Fin 6144) :
    term (F := Ideal) C W B (ix3 l b n) = modulated (fun k => C (ix2 b k)) (fun k => W (ix3 l k n)) (B (ix2 l n)) := by
  unfold modulated
  simp only [← actTerm_apply]
  fin_cases l
  · pointwise [term]
  · pointwise [term]

/-- An entry whose absolute value compares below infinity is a real number. -/
theorem real_of (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  have hlt : max x (-x) < ⊤ := htop ▸ (Ideal.cmp_olt_eq_one _ _).1 h
  refine ⟨x.toReal, (EReal.coe_toReal (ne_of_lt (lt_of_le_of_lt (le_max_left _ _) hlt)) fun hb => ?_).symm⟩
  rw [hb, EReal.neg_bot] at hlt
  exact absurd hlt (by simp)

theorem reals (C : Vec Ideal S8x1024 .f32) (W : Vec Ideal S2x1024x6144 .f32) (B : Vec Ideal S2x6144 .f32)
    (h : Cert.Pre_finite.fn (F := Ideal) C W B = fun _ => 1#1) :
    (∀ b k, ∃ r : ℝ, C (ix2 b k) = (r : EReal)) ∧ ∀ l k n, ∃ r : ℝ, W (ix3 l k n) = (r : EReal) := by
  obtain ⟨hc, hw⟩ := IntOp.andi_eq_one.1 (congrFun h (Shape.Idx.first Cert.Pre_finite.Facts.h_S_))
  exact ⟨fun b k => real_of _ (Host.reduce_andi_all _ _ _ _ _ hc (ix2 b k)), fun l k n => real_of _ (Host.reduce_andi_all _ _ _ _ _ hw (ix3 l k n))⟩

/-- The `silu` of a real number is one. -/
theorem silu_real (r : ℝ) : ∃ s : ℝ, silu (r : EReal) = (s : EReal) := by
  refine ⟨r * (1 * (1 + Real.exp (-r))⁻¹), ?_⟩
  unfold silu
  have hne : (1 + Real.exp (-r)) ≠ 0 := by positivity
  have he : (1 : EReal) + Ideal.exp (-(r : EReal)) = ((1 + Real.exp (-r) : ℝ) : EReal) := by
    rw [← EReal.coe_neg]
    rfl
  rw [he]
  unfold Ideal.div
  rw [if_neg (by exact_mod_cast hne), ← EReal.coe_inv]
  norm_cast

/-- A real number less itself is zero. -/
theorem sub_self_real {x : EReal} (h : ∃ r : ℝ, x = (r : EReal)) : x - x = 0 := by
  obtain ⟨r, rfl⟩ := h
  rw [← EReal.coe_sub, sub_self]
  rfl

end Cert.Proof.Modulation

end
-- ==== Proof.ModulationPoint.lean ====
/-
  One point of the modulation, over the extended reals: both factors are split into a rounded part, which is all of a
  factor here, and the rest of it, which is nothing when the factor is a real number; so the three products are one.
-/
module

public import proofs.«01_k».proof.Proof.Gen.ModulationIdeal.Value
public import proofs.«01_k».proof.Proof.ModulationReference

@[expose] public section

set_option maxRecDepth 16384

noncomputable section

namespace Cert.Proof.Modulation

open Cert.ModulationIdeal Cert.ModulationIdeal.Gen Idealize.ShloMosaic

/-- The three products' sum is the first when nothing rests of either factor. -/
theorem three_products (s w : Fin 1024 → EReal) (hs : ∀ k, s k - s k = 0) (hw : ∀ k, w k - w k = 0) :
    (∑ k, s k * w k) + ((∑ k, s k * (w k - w k)) + ∑ k, (s k - s k) * w k) = ∑ k, s k * w k := by
  simp only [hs, hw, mul_zero, zero_mul, Finset.sum_const_zero, add_zero]

theorem point_apply (C : Vec Ideal S8x1024 .f32) (W : Vec Ideal S1x1024x1024 .f32) (B : Vec Ideal S1x1x1024 .f32) (b : Fin 8) (n : Fin 1024)
    (hC : ∀ k, ∃ r : ℝ, C (ix2 b k) = (r : EReal)) (hW : ∀ k, ∃ r : ℝ, W (ix3 (0 : Fin 1) k n) = (r : EReal)) :
    k0_pay1 (F := Ideal) C W B (ix3 (0 : Fin 1) b n)
      = modulated (fun k => C (ix2 b k)) (fun k => W (ix3 (0 : Fin 1) k n)) (B (ix3 (0 : Fin 1) (0 : Fin 1) n)) := by
  unfold modulated
  have e := three_products (fun k => silu (C (ix2 b k))) (fun k => W (ix3 (0 : Fin 1) k n))
    (fun k => sub_self_real (by obtain ⟨r, hr⟩ := hC k; rw [hr]; exact silu_real r)) (fun k => sub_self_real (hW k))
  rw [← e]
  unfold silu
  pointwise [k0_pay1]
  simp only [zero_sub]

theorem out_apply (C : Vec Ideal S8x1024 .f32) (W : Vec Ideal S1x1024x1024 .f32) (B : Vec Ideal S1x1x1024 .f32) (b : Fin 8) (n : Fin 1024)
    (hC : ∀ k, ∃ r : ℝ, C (ix2 b k) = (r : EReal)) (hW : ∀ k, ∃ r : ℝ, W (ix3 (0 : Fin 1) k n) = (r : EReal)) :
    out0_3 (F := Ideal) C W B (ix3 (0 : Fin 1) b n)
      = modulated (fun k => C (ix2 b k)) (fun k => W (ix3 (0 : Fin 1) k n)) (B (ix3 (0 : Fin 1) (0 : Fin 1) n)) := by
  have hz2 : (![0, 0] : Fin 2 → ℕ) = fun _ => 0 := by decide
  have hz3 : (![0, 0, 0] : Fin 3 → ℕ) = fun _ => 0 := by decide
  unfold out0_3
  rw [View.canon_unit_zero (S := S1x8x1024) hz3, View.ld_unit_zero (S := S8x1024) hz2, View.ld_unit_zero (S := S1x1024x1024) hz3,
    View.ld_unit_zero (S := S1x1x1024) hz3]
  exact point_apply C W B b n hC hW

end Cert.Proof.Modulation

end
-- ==== Proof.ModulationValue.lean ====
/-
  What the modulation's call leaves in its result, at an index over the extended reals: point `t` is column block `t % 6` of
  layer `t / 6`, and takes the whole conditioning, that block of the layer's weight and that block of its bias.
-/
module

public import proofs.«01_k».proof.Proof.ModulationPoint

@[expose] public section

set_option maxRecDepth 16384

noncomputable section

namespace Cert.Proof.Modulation

open Cert.ModulationIdeal Cert.ModulationIdeal.Gen Idealize.ShloMosaic Idealize.ShloMosaic.TcCoe Idealize.SL.Sem
open Idealize.ShloMosaic.Pipeline (Dat)

theorem point_lt (t : Fin cfg0.N) : t.val < 12 := lt_of_lt_of_eq t.isLt (show cfg0.N = 12 from N_0)

/-- The layer of a point, and the column of its column `n`. -/
def layer (t : Fin cfg0.N) : Fin 2 := ⟨t.val / 6, by have := point_lt t; omega⟩
def column (t : Fin cfg0.N) (n : Fin 1024) : Fin 6144 := ⟨t.val % 6 * 1024 + n.val, by omega⟩

theorem index0 : ∀ t : Fin cfg0.N, win0_0.index t 0 = 0 ∧ win0_0.index t 1 = 0 := by decide +kernel
theorem index1 : ∀ t : Fin cfg0.N, win0_1.index t 0 = t.val / 6 ∧ win0_1.index t 1 = 0 ∧ win0_1.index t 2 = t.val % 6 := by decide +kernel
theorem index2 : ∀ t : Fin cfg0.N, win0_2.index t 0 = t.val / 6 ∧ win0_2.index t 1 = 0 ∧ win0_2.index t 2 = t.val % 6 := by decide +kernel
theorem index3 : ∀ t : Fin cfg0.N, win0_3.index t 0 = t.val / 6 ∧ win0_3.index t 1 = 0 ∧ win0_3.index t 2 = t.val % 6 := by decide +kernel

variable (m : (ℓ : Loc nD τ sig) → Buf (Elt Ideal) ℓ) (c : Dev nD)

/-- The bias as the kernel takes it. -/
theorem array_bias : V m c main_v0 = shapeCast S2x1x6144 (m ((c : Thread nD τ).loc main_arg2)) shapeCasts_S2x6144_S2x1x6144 := by
  show StableHlo.after hostOps0 _ _ = _
  simp only [hostOps0]
  after_results <;> rfl

theorem bias_apply (x : Vec Ideal S2x6144 .f32) (l : Fin 2) (n : Fin 6144) :
    shapeCast S2x1x6144 x shapeCasts_S2x6144_S2x1x6144 (ix3 l (0 : Fin 1) n) = x (ix2 l n) := by
  pointwise

/-- The conditioning. -/
theorem block_c (t : Fin cfg0.N) (b : Fin 8) (k : Fin 1024) : iblk m c 0 t (ix2 b k) = m ((c : Thread nD τ).loc main_arg0) (ix2 b k) := by
  obtain ⟨h0, h1⟩ := index0 t
  rw [← V_main_arg0 m c]
  refine congrArg (V m c main_arg0) (funext fun a => Fin.ext ?_)
  match a with
  | 0 => show win0_0.index t 0 * 8 + 1 * b.val = b.val; omega
  | 1 => show win0_0.index t 1 * 1024 + 1 * k.val = k.val; omega

/-- The weight's block. -/
theorem block_w (t : Fin cfg0.N) (k n : Fin 1024) :
    iblk m c 1 t (ix3 (0 : Fin 1) k n) = m ((c : Thread nD τ).loc main_arg1) (ix3 (layer t) k (column t n)) := by
  obtain ⟨h0, h1, h2⟩ := index1 t
  rw [← V_main_arg1 m c]
  refine congrArg (V m c main_arg1) (funext fun a => Fin.ext ?_)
  match a with
  | 0 => show win0_1.index t 0 * 1 + 1 * 0 = t.val / 6; omega
  | 1 => show win0_1.index t 1 * 1024 + 1 * k.val = k.val; omega
  | 2 => show win0_1.index t 2 * 1024 + 1 * n.val = t.val % 6 * 1024 + n.val; omega

/-- The bias's block. -/
theorem block_bias (t : Fin cfg0.N) (n : Fin 1024) :
    iblk m c 2 t (ix3 (0 : Fin 1) (0 : Fin 1) n) = m ((c : Thread nD τ).loc main_arg2) (ix2 (layer t) (column t n)) := by
  obtain ⟨h0, h1, h2⟩ := index2 t
  refine Eq.trans (congrArg (V m c main_v0) (funext fun a => Fin.ext ?_) : _ = V m c main_v0 (ix3 (layer t) (0 : Fin 1) (column t n))) ?_
  · match a with
    | 0 => show win0_2.index t 0 * 1 + 1 * 0 = t.val / 6; omega
    | 1 => show win0_2.index t 1 * 1 + 1 * 0 = 0; omega
    | 2 => show win0_2.index t 2 * 1024 + 1 * n.val = t.val % 6 * 1024 + n.val; omega
  · rw [array_bias]
    exact bias_apply _ _ _

/-- The result both programs leave. -/
def left (c : Dev nD) : Vec Ideal S2x8x6144 .f32 := fun i =>
  modulated (fun k => m ((c : Thread nD τ).loc main_arg0) (ix2 (i 1 : Fin 8) k)) (fun k => m ((c : Thread nD τ).loc main_arg1) (ix3 (i 0 : Fin 2) k (i 2 : Fin 6144)))
    (m ((c : Thread nD τ).loc main_arg2) (ix2 (i 0 : Fin 2) (i 2 : Fin 6144)))

variable (hC : ∀ b k, ∃ r : ℝ, m ((c : Thread nD τ).loc main_arg0) (ix2 (b : Fin 8) (k : Fin 1024)) = (r : EReal))
  (hW : ∀ l k n, ∃ r : ℝ, m ((c : Thread nD τ).loc main_arg1) (ix3 (l : Fin 2) (k : Fin 1024) (n : Fin 6144)) = (r : EReal))

include hC hW

/-- What point `t` leaves in the output's buffer is its block of it. -/
theorem block_left (t : Fin cfg0.N) (b : Fin 8) (n : Fin 1024) :
    out0_3 (iblk m c 0 t) (iblk m c 1 t) (iblk m c 2 t) (ix3 (0 : Fin 1) b n) = left m c (ix3 (layer t) b (column t n)) := by
  refine (out_apply _ _ _ b n (fun k => ?_) fun k => ?_).trans ?_
  · obtain ⟨r, hr⟩ := hC b k
    exact ⟨r, (block_c m c t b k).trans hr⟩
  · obtain ⟨r, hr⟩ := hW (layer t) k (column t n)
    exact ⟨r, (block_w m c t k n).trans hr⟩
  · simp only [block_c, block_w, block_bias]
    rfl

/-- The array the call leaves. -/
theorem final : (dats m 0 c).arrAt 3 cfg0.N = left m c := by
  funext i
  have hl : (i 0).val < 2 := (i 0).isLt
  have hb : (i 1).val < 8 := (i 1).isLt
  have hn : (i 2).val < 6144 := (i 2).isLt
  have hN : cfg0.N = 12 := N_0
  have flushed : ∀ t : Fin cfg0.N, (cfg0.win 3).flush t = true → (dats m 0 c).flushed 3 t = ((cfg0.win 3).blk t).view.read (Elt Ideal) (left m c) := by
    intro t _
    rw [Cert.ModulationIdeal.Value.flushed3]
    funext y
    have hy0 : (y 0).val = 0 := Nat.lt_one_iff.mp (show (y 0).val < 1 from (y 0).isLt)
    have hy : y = ix3 (0 : Fin 1) (y 1 : Fin 8) (y 2 : Fin 1024) :=
      (eq_ix3 y).trans (congrArg (fun z : Fin 1 => ix3 z (y 1 : Fin 8) (y 2 : Fin 1024)) (Fin.ext hy0))
    rw [hy]
    obtain ⟨h0, h1, h2⟩ := index3 t
    refine (block_left m c hC hW t (y 1) (y 2)).trans (congrArg (left m c) (funext fun a => Fin.ext ?_))
    match a with
    | 0 => show t.val / 6 = win0_3.index t 0 * 1 + 1 * 0; omega
    | 1 => show (y 1).val = win0_3.index t 1 * 8 + 1 * (y 1).val; omega
    | 2 => show t.val % 6 * 1024 + (y 2).val = win0_3.index t 2 * 1024 + 1 * (y 2).val; omega
  let t : Fin cfg0.N := ⟨(i 0).val * 6 + (i 2).val / 1024, by omega⟩
  have ht : t.val = (i 0).val * 6 + (i 2).val / 1024 := rfl
  have hmem : i = ((cfg0.win 3).blk t).view.emb (ix3 (0 : Fin 1) (⟨(i 1).val, hb⟩ : Fin 8) (⟨(i 2).val % 1024, by omega⟩ : Fin 1024)) := by
    obtain ⟨h0, h1, h2⟩ := index3 t
    funext a
    apply Fin.ext
    match a with
    | 0 => show (i 0).val = win0_3.index t 0 * 1 + 1 * 0; omega
    | 1 => show (i 1).val = win0_3.index t 1 * 8 + 1 * (i 1).val; omega
    | 2 => show (i 2).val = win0_3.index t 2 * 1024 + 1 * ((i 2).val % 1024); omega
  refine (dats m 0 c).arrAt_apply_of_mem 3 (left m c) flushed cfg0.N t i t.isLt (flush0_3 t) ?_
  rw [hmem]
  exact View.emb_mem_set _ _

end Cert.Proof.Modulation

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Value
public import proofs.«01_k».proof.Proof.Gen.Ffn
public import proofs.«01_k».proof.Proof.Gen.FfnIdeal.Value
public import proofs.«01_k».proof.Proof.Gen.FfnReferenceIdeal.Run
public import proofs.«01_k».proof.Proof.FfnValue
public import proofs.«01_k».proof.Proof.FfnReference
public import proofs.«01_k».proof.Proof.Gen.ExpertsIdeal.Launch
public import proofs.«01_k».proof.Proof.Gen.ExpertsIdeal.Skeleton
public import proofs.«01_k».proof.Proof.Gen.Experts
public import proofs.«01_k».proof.Proof.ExpertsRun
public import proofs.«01_k».proof.Proof.ExpertsTables
public import proofs.«01_k».proof.Proof.ExpertsReference
public import proofs.«01_k».proof.Proof.ExpertsValue
public import proofs.«01_k».proof.Proof.Gen.ExpertsReferenceIdeal.Run
public import proofs.«01_k».proof.Proof.Gen.Combine
public import proofs.«01_k».proof.Proof.Gen.CombineIdeal.Value
public import proofs.«01_k».proof.Proof.Gen.CombineReferenceIdeal.Run
public import proofs.«01_k».proof.Proof.CombineValue
public import proofs.«01_k».proof.Proof.Gen.MixOut
public import proofs.«01_k».proof.Proof.Gen.MixOutIdeal.Frame
public import proofs.«01_k».proof.Proof.Gen.MixOutReferenceIdeal.Run
public import proofs.«01_k».proof.Proof.MixOutValue
public import proofs.«01_k».proof.Proof.Gen.Rope
public import proofs.«01_k».proof.Proof.Gen.RopeIdeal.Frame
public import proofs.«01_k».proof.Proof.Gen.RopeReferenceIdeal.Run
public import proofs.«01_k».proof.Proof.RopeValue
public import proofs.«01_k».proof.Proof.Gen.Modulation
public import proofs.«01_k».proof.Proof.Gen.ModulationIdeal.Value
public import proofs.«01_k».proof.Proof.Gen.ModulationReferenceIdeal.Run
public import proofs.«01_k».proof.Proof.ModulationValue
public import proofs.«01_k».proof.Proof.Gen.Pre_finite
public import proofs.«01_k».proof.Proof.Gen.Pre_dest_in_rows
public import proofs.«01_k».proof.Proof.Gen.Pre_blocks_in_range
public import proofs.«01_k».proof.Proof.Gen.On_rows_of_blocks
public import Idealize.ShloMosaic.Adequacy
public import Idealize.ShloMosaic.Init

@[expose] public section

noncomputable section

namespace Cert.Proof

open Idealize.ShloMosaic Idealize.SL.Sem
open Cert.Proof.Rows (RowsOk taken run_taken ok_of_pre reference_taken)

theorem frame_kernel : Cert.quiescent_Kernel := fun m ρ h =>
  (θ_run Cert.KernelIdeal.defs _ _).mono (fun _ h' => ⟨fun c => (h'.1 c).2, h'.2⟩)
    (run_taken (F := Bits) m ρ fun d => ok_of_pre (F := Bits) _ _ (h d))

theorem frame_ideal : Cert.quiescent_KernelIdeal := fun m ρ h =>
  (θ_run Cert.KernelIdeal.defs _ _).mono (fun _ h' => ⟨fun c => (h'.1 c).2, h'.2⟩)
    (run_taken (F := Ideal) m ρ fun d => ok_of_pre (F := Ideal) _ _ (h d))

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The result both programs leave, at the ideal instance. -/
theorem algebraic : Cert.algebraic_KernelIdeal_ReferenceIdeal := by
  intro m ρ m' ρ' hpre hargs
  have hA := fun d => ok_of_pre (F := Ideal) _ _ (hpre d)
  refine ⟨fun c => taken (m ((c.tc : Thread Cert.KernelIdeal.nD Cert.KernelIdeal.τ).loc Cert.KernelIdeal.main_arg0)) _ (hA c), ?_, ?_⟩
  · exact (θ_run Cert.KernelIdeal.defs _ _).mono (fun _ h c => h.1 c) (run_taken (F := Ideal) m ρ hA)
  · refine (θ_run Cert.ReferenceIdeal.defs _ _).mono (fun r h c => ⟨(h c).1.trans ?_, (h c).2⟩)
      (Cert.ReferenceIdeal.Value.run (F := Ideal) m' ρ')
    rw [(hargs c).1, (hargs c).2]
    exact reference_taken (m ((c.tc : Thread Cert.KernelIdeal.nD Cert.KernelIdeal.τ).loc Cert.KernelIdeal.main_arg0)) _ (hA c)

/-- And bit for bit. -/
theorem bitexact : Cert.bitexact_Kernel_Reference := by
  intro m ρ m' ρ' hpre hargs
  have hA := fun d => ok_of_pre (F := Bits) _ _ (hpre d)
  refine ⟨fun c => taken (m ((c.tc : Thread Cert.Kernel.nD Cert.Kernel.τ).loc Cert.Kernel.main_arg0)) _ (hA c), ?_, ?_⟩
  · exact (θ_run Cert.KernelIdeal.defs _ _).mono (fun _ h c => h.1 c) (run_taken (F := Bits) m ρ hA)
  · refine (θ_run Cert.Reference.defs _ _).mono (fun r h c => ⟨(h c).1.trans ?_, (h c).2⟩)
      (Cert.Reference.Value.run (F := Bits) m' ρ')
    rw [(hargs c).1, (hargs c).2]
    exact reference_taken (m ((c.tc : Thread Cert.Kernel.nD Cert.Kernel.τ).loc Cert.Kernel.main_arg0)) _ (hA c)

/-! ## The feed-forward call -/

section
variable {F : FTy → Type} [FloatOps F]

/-- The two printings of the call have one body … -/
theorem ffn_bodies₀ : Cert.Ffn.defs₀ (F := F) = Cert.FfnIdeal.defs₀ (F := F) :=
  congrArg Defs.onTc (funext fun l => funext fun x => by
    match l, x with
    | 0, (t, s) => rfl)

/-- … and so one table of bodies. -/
theorem ffn_bodies : Cert.Ffn.defs (F := F) = Cert.FfnIdeal.defs (F := F) :=
  congrArg (Pipeline.defs (Cert.Ffn.pcfgs (F := F))) ffn_bodies₀

end

theorem frame_ffn : Cert.quiescent_Ffn := by
  intro m ρ _
  rw [ffn_bodies]
  exact Cert.FfnIdeal.Gen.frame (F := Bits) m ρ

theorem frame_ffnIdeal : Cert.quiescent_FfnIdeal := fun m ρ _ => Cert.FfnIdeal.Gen.frame (F := Ideal) m ρ

theorem frame_ffnReferenceIdeal : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The result both leave: `Cert.FfnIdeal.Value.G6`, which is `Cert.Proof.Ffn.feed` at every index, as the reference's is. -/
theorem algebraic_ffn : Cert.algebraic_FfnIdeal_FfnReferenceIdeal := by
  intro m ρ m' ρ' _ hargs
  refine ⟨fun c => Cert.FfnIdeal.Value.G6 (F := Ideal) m c, Cert.FfnIdeal.Value.run (F := Ideal) m ρ, ?_⟩
  refine (θ_run Cert.FfnReferenceIdeal.defs _ _).mono (fun r h c => ⟨(h c).1.trans ?_, (h c).2⟩)
    (Cert.FfnReferenceIdeal.Value.run (F := Ideal) m' ρ')
  obtain ⟨h0, h1, h2, h3, h4⟩ := hargs c
  rw [h0, h1, h2, h3, h4]
  funext i
  rw [eq_ix2 i]
  exact (Cert.Proof.Ffn.reference_apply _ _ _ _ _ _ _).trans (Cert.Proof.Ffn.G6_apply m c _ _).symm

/-! ## The experts' call -/

section
variable {F : FTy → Type} [FloatOps F]

/-- The two printings of the call have one body … -/
theorem experts_bodies₀ : Cert.Experts.defs₀ (F := F) = Cert.ExpertsIdeal.defs₀ (F := F) :=
  congrArg Defs.onTc (funext fun l => funext fun x => by
    match l, x with
    | 0, (t, s) => rfl)

/-- … and so one table of bodies. -/
theorem experts_bodies : Cert.Experts.defs (F := F) = Cert.ExpertsIdeal.defs (F := F) :=
  congrArg (Pipeline.defs (Cert.Experts.pcfgs (F := F))) experts_bodies₀

/-- … and they launch it after one host program. -/
theorem experts_main : Cert.Experts.main (F := F) = Cert.ExpertsIdeal.main (F := F) := by
  chain_rfl

end

theorem frame_experts : Cert.quiescent_Experts := by
  intro m ρ h
  have hr := Cert.Proof.Experts.in_range_of_pre (F := Bits) _ _ _ _ _ _ (h 0)
  have hf := Cert.Proof.Experts.frame (F := Bits) m ρ hr
  rw [experts_bodies, experts_main]
  exact hf

theorem frame_expertsIdeal : Cert.quiescent_ExpertsIdeal := fun m ρ h =>
  Cert.Proof.Experts.frame (F := Ideal) m ρ (Cert.Proof.Experts.in_range_of_pre (F := Ideal) _ _ _ _ _ _ (h 0))

theorem frame_expertsReferenceIdeal : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

/-- At every row of a block that the count of blocks reaches, both leave `Cert.Proof.Experts.result`. -/
theorem algebraic_experts : Cert.algebraic_ExpertsIdeal_ExpertsReferenceIdeal_on_rows_of_blocks := by
  intro m ρ m' ρ' hpre hargs
  have hr := Cert.Proof.Experts.in_range_of_pre (F := Ideal) _ _ _ _ _ _ (hpre 0)
  refine ⟨Cert.Proof.Experts.left m hr, ?_, ?_⟩
  · exact (θ_run Cert.ExpertsIdeal.defs _ _).mono (fun r h c => ⟨fun i _ => congrFun (h c).1 i, (h c).2⟩)
      (Cert.Proof.Experts.run_left m ρ hr)
  · refine (θ_run Cert.ExpertsReferenceIdeal.defs _ _).mono (fun r h c => ⟨fun i hi => (congrFun (h c).1 i).trans ?_, (h c).2⟩)
      (Cert.ExpertsReferenceIdeal.Value.run (F := Ideal) m' ρ')
    obtain rfl : c = 0 := Subsingleton.elim _ _
    obtain ⟨h0, h1, h2, h3, h4, h5⟩ := hargs 0
    rw [Cert.Proof.Experts.result_eq, h0, h1, h2, h3, h4]
    exact Cert.Proof.Experts.left_eq m hr _ _ _ _ _ _ rfl rfl rfl rfl rfl rfl i hi

/-! ## The weighted sum of the experts -/

section
variable {F : FTy → Type} [FloatOps F]

/-- The two printings of the call have one body … -/
theorem combine_bodies₀ : Cert.Combine.defs₀ (F := F) = Cert.CombineIdeal.defs₀ (F := F) :=
  congrArg Defs.onTc (funext fun l => funext fun x => by
    match l, x with
    | 0, (t, s) => rfl)

/-- … and so one table of bodies. -/
theorem combine_bodies : Cert.Combine.defs (F := F) = Cert.CombineIdeal.defs (F := F) :=
  congrArg (Pipeline.defs (Cert.Combine.pcfgs (F := F))) combine_bodies₀

end

theorem frame_combine : Cert.quiescent_Combine := by
  intro m ρ _
  rw [combine_bodies]
  exact Cert.CombineIdeal.Gen.frame (F := Bits) m ρ

theorem frame_combineIdeal : Cert.quiescent_CombineIdeal := fun m ρ _ => Cert.CombineIdeal.Gen.frame (F := Ideal) m ρ

theorem frame_combineReferenceIdeal : Cert.quiescent_CombineReferenceIdeal := fun m ρ _ =>
  (θ_run Cert.CombineReferenceIdeal.defs _ _).mono (fun r h => ⟨fun c => (h c).2, sem_eq_zero_of_no_sems (by decide) r.2⟩)
    (Cert.CombineReferenceIdeal.Value.run (F := Ideal) m ρ)

/-- The result both leave: `Cert.Proof.Combine.weighted` at every index. -/
theorem algebraic_combine : Cert.algebraic_CombineIdeal_CombineReferenceIdeal := by
  intro m ρ m' ρ' _ hargs
  refine ⟨fun c => Cert.Proof.Combine.left m c, ?_, ?_⟩
  · exact (θ_run Cert.CombineIdeal.defs _ _).mono (fun r h c => ⟨(h c).1.trans (Cert.Proof.Combine.final m c), (h c).2⟩)
      (Cert.CombineIdeal.Value.run_blocks (F := Ideal) m ρ)
  · refine (θ_run Cert.CombineReferenceIdeal.defs _ _).mono (fun r h c => ⟨(h c).1.trans ?_, (h c).2⟩)
      (Cert.CombineReferenceIdeal.Value.run (F := Ideal) m' ρ')
    obtain ⟨h0, h1, h2, h3⟩ := hargs c
    rw [h0, h1, h2, h3]
    funext i
    rw [eq_ix2 i]
    exact Cert.Proof.Combine.reference_apply _ _ _ _ _ _

/-! ## The output projection of the first layer -/

section
variable {F : FTy → Type} [FloatOps F]

/-- The two printings of the call have one body … -/
theorem mixOut_bodies₀ : Cert.MixOut.defs₀ (F := F) = Cert.MixOutIdeal.defs₀ (F := F) :=
  congrArg Defs.onTc (funext fun l => funext fun x => by
    match l, x with
    | 0, (t, s) => rfl)

/-- … and so one table of bodies. -/
theorem mixOut_bodies : Cert.MixOut.defs (F := F) = Cert.MixOutIdeal.defs (F := F) :=
  congrArg (Pipeline.defs (Cert.MixOut.pcfgs (F := F))) mixOut_bodies₀

end

theorem frame_mixOut : Cert.quiescent_MixOut := by
  intro m ρ _
  rw [mixOut_bodies]
  exact Cert.MixOutIdeal.Gen.frame (F := Bits) m ρ

theorem frame_mixOutIdeal : Cert.quiescent_MixOutIdeal := fun m ρ _ => Cert.MixOutIdeal.Gen.frame (F := Ideal) m ρ

theorem frame_mixOutReferenceIdeal : Cert.quiescent_MixOutReferenceIdeal := fun m ρ _ =>
  (θ_run Cert.MixOutReferenceIdeal.defs _ _).mono (fun r h => ⟨fun c => (h c).2.2, sem_eq_zero_of_no_sems (by decide) r.2⟩)
    (Cert.MixOutReferenceIdeal.Value.run (F := Ideal) m ρ)

/-- The results both leave: `Cert.Proof.MixOut.sumAt` and `Cert.Proof.MixOut.normAt` at every index. -/
theorem algebraic_mixOut : Cert.algebraic_MixOutIdeal_MixOutReferenceIdeal := by
  intro m ρ m' ρ' _ hargs
  refine ⟨fun c => Cert.Proof.MixOut.leftSum m c, fun c => Cert.Proof.MixOut.leftNorm m c, Cert.Proof.MixOut.kernel_run m ρ, ?_⟩
  refine (θ_run Cert.MixOutReferenceIdeal.defs _ _).mono (fun r h c => ⟨(h c).1.trans ?_, (h c).2.1.trans ?_, (h c).2.2⟩)
    (Cert.MixOutReferenceIdeal.Value.run (F := Ideal) m' ρ')
  · obtain ⟨h0, h1, h2, h3, h4, h5, h6⟩ := hargs c
    rw [h0, h1, h2, h3, h4, h5]
    funext i
    rw [eq_ix3 i]
    exact Cert.Proof.MixOut.midTerm_apply _ _ _ _ _ _ _ _ _
  · obtain ⟨h0, h1, h2, h3, h4, h5, h6⟩ := hargs c
    refine (Cert.Proof.MixOut.result_eq m' c).trans ?_
    rw [h0, h1, h2, h3, h4, h5, h6]
    funext i
    rw [eq_ix3 i]
    refine (Cert.Proof.MixOut.normTerm_apply _ _ _ _ _ _).trans ?_
    exact congrArg (fun z => Cert.Proof.MixOut.normed z _ _ _ (i 2)) (funext fun k => Cert.Proof.MixOut.midTerm_apply _ _ _ _ _ _ _ _ k)

/-! ## The rotary tables -/

section
variable {F : FTy → Type} [FloatOps F]

/-- The two printings of the call have one body … -/
theorem rope_bodies₀ : Cert.Rope.defs₀ (F := F) = Cert.RopeIdeal.defs₀ (F := F) :=
  congrArg Defs.onTc (funext fun l => funext fun x => by
    match l, x with
    | 0, (t, s) => rfl)

/-- … and so one table of bodies. -/
theorem rope_bodies : Cert.Rope.defs (F := F) = Cert.RopeIdeal.defs (F := F) :=
  congrArg (Pipeline.defs (Cert.Rope.pcfgs (F := F))) rope_bodies₀

end

theorem frame_rope : Cert.quiescent_Rope := by
  intro m ρ _
  rw [rope_bodies]
  exact Cert.RopeIdeal.Gen.frame (F := Bits) m ρ

theorem frame_ropeIdeal : Cert.quiescent_RopeIdeal := fun m ρ _ => Cert.RopeIdeal.Gen.frame (F := Ideal) m ρ

theorem frame_ropeReferenceIdeal : Cert.quiescent_RopeReferenceIdeal := fun m ρ _ =>
  (θ_run Cert.RopeReferenceIdeal.defs _ _).mono (fun r h => ⟨fun c => (h c).2.2, sem_eq_zero_of_no_sems (by decide) r.2⟩)
    (Cert.RopeReferenceIdeal.Value.run (F := Ideal) m ρ)

/-- The results both leave: the cosines and the sines of `Cert.Proof.Rope.angles`, laid out. -/
theorem algebraic_rope : Cert.algebraic_RopeIdeal_RopeReferenceIdeal := by
  intro m ρ m' ρ' _ hargs
  refine ⟨fun c => _, fun c => _, Cert.Proof.Rope.kernel_run m ρ, ?_⟩
  refine (θ_run Cert.RopeReferenceIdeal.defs _ _).mono (fun r h c => ⟨(h c).1.trans ?_, (h c).2.1.trans ?_, (h c).2.2⟩)
    (Cert.RopeReferenceIdeal.Value.run (F := Ideal) m' ρ')
  · rw [hargs c]
    rfl
  · rw [hargs c]
    rfl

/-! ## The modulation of both layers -/

section
variable {F : FTy → Type} [FloatOps F]

/-- The two printings of the call have one body … -/
theorem modulation_bodies₀ : Cert.Modulation.defs₀ (F := F) = Cert.ModulationIdeal.defs₀ (F := F) :=
  congrArg Defs.onTc (funext fun l => funext fun x => by
    match l, x with
    | 0, (t, s) => rfl)

/-- … and so one table of bodies. -/
theorem modulation_bodies : Cert.Modulation.defs (F := F) = Cert.ModulationIdeal.defs (F := F) :=
  congrArg (Pipeline.defs (Cert.Modulation.pcfgs (F := F))) modulation_bodies₀

end

theorem frame_modulation : Cert.quiescent_Modulation := by
  intro m ρ _
  rw [modulation_bodies]
  exact Cert.ModulationIdeal.Gen.frame (F := Bits) m ρ

theorem frame_modulationIdeal : Cert.quiescent_ModulationIdeal := fun m ρ _ => Cert.ModulationIdeal.Gen.frame (F := Ideal) m ρ

theorem frame_modulationIdeal_finite : Cert.quiescent_ModulationIdeal_pre_finite := fun m ρ _ => Cert.ModulationIdeal.Gen.frame (F := Ideal) m ρ

theorem frame_modulationReferenceIdeal : Cert.quiescent_ModulationReferenceIdeal := fun m ρ _ =>
  (θ_run Cert.ModulationReferenceIdeal.defs _ _).mono (fun r h => ⟨fun c => (h c).2, sem_eq_zero_of_no_sems (by decide) r.2⟩)
    (Cert.ModulationReferenceIdeal.Value.run (F := Ideal) m ρ)

theorem frame_modulationReferenceIdeal_finite : Cert.quiescent_ModulationReferenceIdeal_pre_finite := fun m ρ _ =>
  frame_modulationReferenceIdeal m ρ trivial

/-- The result both leave: `Cert.Proof.Modulation.modulated` at every index. -/
theorem algebraic_modulation : Cert.algebraic_ModulationIdeal_ModulationReferenceIdeal_pre_finite := by
  intro m ρ m' ρ' hpre hargs
  refine ⟨fun c => Cert.Proof.Modulation.left m c, ?_, ?_⟩
  · refine (θ_run Cert.ModulationIdeal.defs _ _).mono (fun r h c => ⟨(h c).1.trans ?_, (h c).2⟩) (Cert.ModulationIdeal.Value.run_blocks (F := Ideal) m ρ)
    obtain ⟨hC, hW⟩ := Cert.Proof.Modulation.reals _ _ _ (hpre c)
    exact Cert.Proof.Modulation.final m c hC hW
  · refine (θ_run Cert.ModulationReferenceIdeal.defs _ _).mono (fun r h c => ⟨(h c).1.trans ?_, (h c).2⟩)
      (Cert.ModulationReferenceIdeal.Value.run (F := Ideal) m' ρ')
    obtain ⟨h0, h1, h2⟩ := hargs c
    rw [h0, h1, h2]
    funext i
    rw [eq_ix3 i]
    exact Cert.Proof.Modulation.term_apply _ _ _ _ _ _

theorem claim : Cert.Claim := ⟨Cert.Kernel.Gen.facts, Cert.KernelIdeal.Gen.facts, Cert.ReferenceIdeal.Gen.facts, Cert.Reference.Gen.facts,
  Cert.Ffn.Gen.facts, Cert.FfnIdeal.Gen.facts, Cert.FfnReferenceIdeal.Gen.facts, Cert.Experts.Gen.facts, Cert.ExpertsIdeal.Gen.facts,
  Cert.ExpertsReferenceIdeal.Gen.facts, Cert.Combine.Gen.facts, Cert.CombineIdeal.Gen.facts, Cert.CombineReferenceIdeal.Gen.facts,
  Cert.MixOut.Gen.facts, Cert.MixOutIdeal.Gen.facts, Cert.MixOutReferenceIdeal.Gen.facts,
  Cert.Rope.Gen.facts, Cert.RopeIdeal.Gen.facts, Cert.RopeReferenceIdeal.Gen.facts,
  Cert.Modulation.Gen.facts, Cert.ModulationIdeal.Gen.facts, Cert.ModulationReferenceIdeal.Gen.facts,
  Cert.Pre_dest_in_rows.Gen.facts, Cert.Pre_blocks_in_range.Gen.facts, Cert.Pre_finite.Gen.facts, Cert.On_rows_of_blocks.Gen.facts,
  frame_kernel, frame_ideal, frame_referenceIdeal, frame_reference, frame_ffn, frame_ffnIdeal, frame_ffnReferenceIdeal,
  frame_experts, frame_expertsIdeal, frame_expertsReferenceIdeal,
  frame_combine, frame_combineIdeal, frame_combineReferenceIdeal, frame_mixOut, frame_mixOutIdeal, frame_mixOutReferenceIdeal,
  frame_rope, frame_ropeIdeal, frame_ropeReferenceIdeal, frame_modulation, frame_modulationIdeal, frame_modulationIdeal_finite,
  frame_modulationReferenceIdeal, frame_modulationReferenceIdeal_finite,
  trivial, algebraic, bitexact, trivial, algebraic_ffn, trivial, algebraic_experts, trivial, algebraic_combine,
  trivial, algebraic_mixOut, trivial, algebraic_rope, trivial, algebraic_modulation⟩

end Cert.Proof

end
